-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)) (v7 : (c : Dev Cert.Kernel2Ideal.nD) → Buf (Elt Ideal) ((c.tc : Thread Cert.Kernel2Ideal.nD Cert.Kernel2Ideal.τ).loc Cert.Kernel2Ideal.main_v16_7)) (v8 : (c : Dev Cert.Kernel2Ideal.nD) → Buf (Elt Ideal) ((c.tc : Thread Cert.Kernel2Ideal.nD Cert.Kernel2Ideal.τ).loc Cert.Kernel2Ideal.main_v16_8)) (v9 : (c : Dev Cert.Kernel2Ideal.nD) → Buf (Elt Ideal) ((c.tc : Thread Cert.Kernel2Ideal.nD Cert.Kernel2Ideal.τ).loc Cert.Kernel2Ideal.main_v16_9)) (v10 : (c : Dev Cert.Kernel2Ideal.nD) → Buf (Elt Ideal) ((c.tc : Thread Cert.Kernel2Ideal.nD Cert.Kernel2Ideal.τ).loc Cert.Kernel2Ideal.main_v16_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_v16_7) = v7 c
          ∧ r.2.mem ((c.tc : Thread Cert.Kernel2Ideal.nD Cert.Kernel2Ideal.τ).loc Cert.Kernel2Ideal.main_v16_8) = v8 c
          ∧ r.2.mem ((c.tc : Thread Cert.Kernel2Ideal.nD Cert.Kernel2Ideal.τ).loc Cert.Kernel2Ideal.main_v16_9) = v9 c
          ∧ r.2.mem ((c.tc : Thread Cert.Kernel2Ideal.nD Cert.Kernel2Ideal.τ).loc Cert.Kernel2Ideal.main_v16_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v122) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_v124) = v2 c
          ∧ r.2.mem ((c.tc : Thread Cert.Reference2Ideal.nD Cert.Reference2Ideal.τ).loc Cert.Reference2Ideal.main_v125) = v3 c
          ∧ r.2.mem ((c.tc : Thread Cert.Reference2Ideal.nD Cert.Reference2Ideal.τ).loc Cert.Reference2Ideal.main_v126) = v4 c
          ∧ r.2.mem ((c.tc : Thread Cert.Reference2Ideal.nD Cert.Reference2Ideal.τ).loc Cert.Reference2Ideal.main_v100) = v5 c
          ∧ r.2.mem ((c.tc : Thread Cert.Reference2Ideal.nD Cert.Reference2Ideal.τ).loc Cert.Reference2Ideal.main_v97) = v6 c
          ∧ r.2.mem ((c.tc : Thread Cert.Reference2Ideal.nD Cert.Reference2Ideal.τ).loc Cert.Reference2Ideal.main_v90) = v7 c
          ∧ r.2.mem ((c.tc : Thread Cert.Reference2Ideal.nD Cert.Reference2Ideal.τ).loc Cert.Reference2Ideal.main_v105) = v8 c
          ∧ r.2.mem ((c.tc : Thread Cert.Reference2Ideal.nD Cert.Reference2Ideal.τ).loc Cert.Reference2Ideal.main_v69) = v9 c
          ∧ r.2.mem ((c.tc : Thread Cert.Reference2Ideal.nD Cert.Reference2Ideal.τ).loc Cert.Reference2Ideal.main_v127) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S256x3072 : Shape := ⟨2, ![256, 3072]⟩
abbrev S1x2x4 : Shape := ⟨3, ![1, 2, 4]⟩
abbrev S4x128x128 : Shape := ⟨3, ![4, 128, 128]⟩
abbrev S2x4 : Shape := ⟨2, ![2, 4]⟩
abbrev S4x2 : Shape := ⟨2, ![4, 2]⟩
abbrev S4x2x1 : Shape := ⟨3, ![4, 2, 1]⟩
abbrev S4x2x128 : Shape := ⟨3, ![4, 2, 128]⟩
abbrev S_ : Shape := ⟨0, ![]⟩
abbrev S256x512 : Shape := ⟨2, ![256, 512]⟩
abbrev S4x8x128 : Shape := ⟨3, ![4, 8, 128]⟩
abbrev S256x128 : Shape := ⟨2, ![256, 128]⟩
abbrev S1x2x128 : Shape := ⟨3, ![1, 2, 128]⟩
abbrev S1x128x128 : Shape := ⟨3, ![1, 128, 128]⟩
abbrev S1x8x128 : Shape := ⟨3, ![1, 8, 128]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S1 : Shape := ⟨1, ![1]⟩
abbrev S1x1 : Shape := ⟨2, ![1, 1]⟩
abbrev S8x128 : Shape := ⟨2, ![8, 128]⟩

abbrev nBuf : Space → Nat
  | .hbm => 36
  | .vmem => 18
  | .smem => 0
  | _ => 0

abbrev bufTy : (tb : Table) → Fin (tcTables nBuf tb) → BufTy
  | .hbm, ⟨0, _⟩ => ⟨S256x3072, .bf16⟩
  | .hbm, ⟨1, _⟩ => ⟨S1x2x4, .f32⟩
  | .hbm, ⟨2, _⟩ => ⟨S4x128x128, .f32⟩
  | .hbm, ⟨3, _⟩ => ⟨S4x128x128, .f32⟩
  | .hbm, ⟨4, _⟩ => ⟨S2x4, .f32⟩
  | .hbm, ⟨5, _⟩ => ⟨S4x2, .f32⟩
  | .hbm, ⟨6, _⟩ => ⟨S4x2x1, .f32⟩
  | .hbm, ⟨7, _⟩ => ⟨S4x2x128, .f32⟩
  | .hbm, ⟨8, _⟩ => ⟨S4x2x128, .f32⟩
  | .hbm, ⟨9, _⟩ => ⟨S_, .f32⟩
  | .hbm, ⟨10, _⟩ => ⟨S4x2x128, .f32⟩
  | .hbm, ⟨11, _⟩ => ⟨S4x2x128, .f32⟩
  | .hbm, ⟨12, _⟩ => ⟨S4x2x128, .f32⟩
  | .hbm, ⟨13, _⟩ => ⟨S4x2x128, .f32⟩
  | .hbm, ⟨14, _⟩ => ⟨S4x2x128, .i1⟩
  | .hbm, ⟨15, _⟩ => ⟨S4x2x128, .f32⟩
  | .hbm, ⟨16, _⟩ => ⟨S4x2x128, .f32⟩
  | .hbm, ⟨17, _⟩ => ⟨S4x2x128, .f32⟩
  | .hbm, ⟨18, _⟩ => ⟨S4x2x128, .f32⟩
  | .hbm, ⟨19, _⟩ => ⟨S4x2x128, .f32⟩
  | .hbm, ⟨20, _⟩ => ⟨S4x2x128, .f32⟩
  | .hbm, ⟨21, _⟩ => ⟨S4x2x128, .f32⟩
  | .hbm, ⟨22, _⟩ => ⟨S4x2x128, .f32⟩
  | .hbm, ⟨23, _⟩ => ⟨S4x2x128, .f32⟩
  | .hbm, ⟨24, _⟩ => ⟨S4x2x128, .f32⟩
  | .hbm, ⟨25, _⟩ => ⟨S4x2x128, .f32⟩
  | .hbm, ⟨26, _⟩ => ⟨S4x2x128, .f32⟩
  | .hbm, ⟨27, _⟩ => ⟨S_, .f32⟩
  | .hbm, ⟨28, _⟩ => ⟨S4x2x128, .f32⟩
  | .hbm, ⟨29, _⟩ => ⟨S4x2x128, .f32⟩
  | .hbm, ⟨30, _⟩ => ⟨S_, .f32⟩
  | .hbm, ⟨31, _⟩ => ⟨S4x2x128, .f32⟩
  | .hbm, ⟨32, _⟩ => ⟨S4x2x128, .f32⟩
  | .hbm, ⟨33, _⟩ => ⟨S256x512, .bf16⟩
  | .hbm, ⟨34, _⟩ => ⟨S256x512, .bf16⟩
  | .hbm, ⟨35, _⟩ => ⟨S4x8x128, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S1x8x128, .f32⟩
  | .local _ .vmem, ⟨17, _⟩ => ⟨S1x8x128, .f32⟩
  | _, _ => ⟨S256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x3072 : Shape := ⟨2, ![256, 3072]⟩
abbrev S1x2x4 : Shape := ⟨3, ![1, 2, 4]⟩
abbrev S4x128x128 : Shape := ⟨3, ![4, 128, 128]⟩
abbrev S256x512 : Shape := ⟨2, ![256, 512]⟩
abbrev S1x256x512 : Shape := ⟨3, ![1, 256, 512]⟩
abbrev S1x256x4x128 : Shape := ⟨4, ![1, 256, 4, 128]⟩
abbrev S1x1x4 : Shape := ⟨3, ![1, 1, 4]⟩
abbrev S4 : Shape := ⟨1, ![4]⟩
abbrev S_ : Shape := ⟨0, ![]⟩
abbrev S256 : Shape := ⟨1, ![256]⟩
abbrev S4x1 : Shape := ⟨2, ![4, 1]⟩
abbrev S1x256 : Shape := ⟨2, ![1, 256]⟩
abbrev S4x256 : Shape := ⟨2, ![4, 256]⟩
abbrev S256x4 : Shape := ⟨2, ![256, 4]⟩
abbrev S1x256x4x1 : Shape := ⟨4, ![1, 256, 4, 1]⟩
abbrev S1x4x128x128 : Shape := ⟨4, ![1, 4, 128, 128]⟩
abbrev S1x4x128x256 : Shape := ⟨4, ![1, 4, 128, 256]⟩
abbrev S1x256x4 : Shape := ⟨3, ![1, 256, 4]⟩

abbrev nBuf : Space → Nat
  | .hbm => 204
  | .vmem => 0
  | .smem => 0
  | _ => 0

abbrev hbmTy0_0 (i : Nat) : BufTy := match i % 128 with
  | 0 => ⟨S256x3072, .bf16⟩
  | 1 => ⟨S1x2x4, .f32⟩
  | 2 => ⟨S4x128x128, .f32⟩
  | 3 => ⟨S4x128x128, .f32⟩
  | 4 => ⟨S256x3072, .f32⟩
  | 5 => ⟨S256x512, .f32⟩
  | 6 => ⟨S1x256x512, .f32⟩
  | 7 => ⟨S256x3072, .f32⟩
  | 8 => ⟨S256x512, .f32⟩
  | 9 => ⟨S1x256x512, .f32⟩
  | 10 => ⟨S1x256x4x128, .f32⟩
  | 11 => ⟨S1x256x4x128, .f32⟩
  | 12 => ⟨S1x1x4, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S4, .i1⟩
  | 21 => ⟨S4, .f32⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S4, .f32⟩
  | 29 => ⟨S_, .f32⟩
  | 30 => ⟨S4, .f32⟩
  | 31 => ⟨S4, .i1⟩
  | 32 => ⟨S_, .f32⟩
  | 33 => ⟨S4, .f32⟩
  | 34 => ⟨S4, .f32⟩
  | 35 => ⟨S_, .f32⟩
  | 36 => ⟨S4, .f32⟩
  | 37 => ⟨S4, .i1⟩
  | 38 => ⟨S_, .f32⟩
  | 39 => ⟨S4, .f32⟩
  | 40 => ⟨S4, .f32⟩
  | 41 => ⟨S4, .f32⟩
  | 42 => ⟨S4, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S4, .f32⟩
  | 51 => ⟨S4, .i1⟩
  | 52 => ⟨S_, .f32⟩
  | 53 => ⟨S4, .f32⟩
  | 54 => ⟨S4, .f32⟩
  | 55 => ⟨S4, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S1x1x4, .f32⟩
  | 63 => ⟨S4, .f32⟩
  | 64 => ⟨S4, .f32⟩
  | 65 => ⟨S_, .f32⟩
  | 66 => ⟨S4, .f32⟩
  | 67 => ⟨S4, .f32⟩
  | 68 => ⟨S4, .f32⟩
  | 69 => ⟨S4, .f32⟩
  | 70 => ⟨S4, .i1⟩
  | 71 => ⟨S4, .f32⟩
  | 72 => ⟨S4, .f32⟩
  | 73 => ⟨S4, .f32⟩
  | 74 => ⟨S4, .f32⟩
  | 75 => ⟨S4, .f32⟩
  | 76 => ⟨S4, .f32⟩
  | 77 => ⟨S4, .f32⟩
  | 78 => ⟨S4, .f32⟩
  | 79 => ⟨S_, .f32⟩
  | 80 => ⟨S4, .f32⟩
  | 81 => ⟨S4, .i1⟩
  | 82 => ⟨S_, .f32⟩
  | 83 => ⟨S4, .f32⟩
  | 84 => ⟨S4, .f32⟩
  | 85 => ⟨S_, .f32⟩
  | 86 => ⟨S4, .f32⟩
  | 87 => ⟨S4, .i1⟩
  | 88 => ⟨S_, .f32⟩
  | 89 => ⟨S4, .f32⟩
  | 90 => ⟨S4, .f32⟩
  | 91 => ⟨S4, .f32⟩
  | 92 => ⟨S4, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S4, .f32⟩
  | 101 => ⟨S4, .i1⟩
  | 102 => ⟨S_, .f32⟩
  | 103 => ⟨S4, .f32⟩
  | 104 => ⟨S4, .f32⟩
  | 105 => ⟨S4, .f32⟩
  | 106 => ⟨S4, .f32⟩
  | 107 => ⟨S4, .f32⟩
  | 108 => ⟨S_, .f32⟩
  | 109 => ⟨S4, .f32⟩
  | 110 => ⟨S4, .f32⟩
  | 111 => ⟨S4, .f32⟩
  | 112 => ⟨S256, .f32⟩
  | 113 => ⟨S_, .f32⟩
  | 114 => ⟨S256, .f32⟩
  | 115 => ⟨S256, .f32⟩
  | 116 => ⟨S4x1, .f32⟩
  | 117 => ⟨S1x256, .f32⟩
  | 118 => ⟨S4x256, .f32⟩
  | 119 => ⟨S4x256, .f32⟩
  | 120 => ⟨S4x256, .f32⟩
  | 121 => ⟨S4x256, .f32⟩
  | 122 => ⟨S256x4, .f32⟩
  | 123 => ⟨S1x256x4x1, .f32⟩
  | 124 => ⟨S1x256x4x128, .f32⟩
  | 125 => ⟨S1x256x4x128, .f32⟩
  | 126 => ⟨S1x4x128x128, .f32⟩
  | 127 => ⟨S256, .f32⟩
  | _ => ⟨S256x3072, .bf16⟩

abbrev hbmTy0_1 (i : Nat) : BufTy := match i % 128 with
  | 0 => ⟨S4x1, .f32⟩
  | 1 => ⟨S1x256, .f32⟩
  | 2 => ⟨S4x256, .f32⟩
  | 3 => ⟨S4x256, .f32⟩
  | 4 => ⟨S4x256, .f32⟩
  | 5 => ⟨S4x256, .f32⟩
  | 6 => ⟨S256x4, .f32⟩
  | 7 => ⟨S1x256x4x1, .f32⟩
  | 8 => ⟨S1x256x4x128, .f32⟩
  | 9 => ⟨S1x256x4x128, .f32⟩
  | 10 => ⟨S1x4x128x128, .f32⟩
  | 11 => ⟨S1x4x128x128, .f32⟩
  | 12 => ⟨S1x4x128x128, .f32⟩
  | 13 => ⟨S1x4x128x256, .f32⟩
  | 14 => ⟨S1x256x4x128, .f32⟩
  | 15 => ⟨S1x4x128x256, .f32⟩
  | 16 => ⟨S1x256x4x128, .f32⟩
  | 17 => ⟨S1x256x4x128, .f32⟩
  | 18 => ⟨S_, .f32⟩
  | 19 => ⟨S1x256x4, .f32⟩
  | 20 => ⟨S1x256x4x1, .f32⟩
  | 21 => ⟨S1x256x4x128, .f32⟩
  | 22 => ⟨S1x256x4x128, .f32⟩
  | 23 => ⟨S_, .f32⟩
  | 24 => ⟨S256x4, .f32⟩
  | 25 => ⟨S4x256, .f32⟩
  | 26 => ⟨S4x256, .f32⟩
  | 27 => ⟨S4x256, .f32⟩
  | 28 => ⟨S4x256, .f32⟩
  | 29 => ⟨S_, .f32⟩
  | 30 => ⟨S4, .f32⟩
  | 31 => ⟨S4x1, .f32⟩
  | 32 => ⟨S_, .f32⟩
  | 33 => ⟨S4, .f32⟩
  | 34 => ⟨S1x4x128x256, .f32⟩
  | 35 => ⟨S1x256x4x128, .f32⟩
  | 36 => ⟨S1x256x4x128, .f32⟩
  | 37 => ⟨S1x4x128x256, .f32⟩
  | 38 => ⟨S1x256x4x128, .f32⟩
  | 39 => ⟨S1x256x4x128, .f32⟩
  | 40 => ⟨S_, .f32⟩
  | 41 => ⟨S1x256x4, .f32⟩
  | 42 => ⟨S1x256x4x1, .f32⟩
  | 43 => ⟨S1x256x4x128, .f32⟩
  | 44 => ⟨S1x256x4x128, .f32⟩
  | 45 => ⟨S1x256x4x128, .f32⟩
  | 46 => ⟨S_, .f32⟩
  | 47 => ⟨S256x4, .f32⟩
  | 48 => ⟨S4x256, .f32⟩
  | 49 => ⟨S4x256, .f32⟩
  | 50 => ⟨S4x256, .f32⟩
  | 51 => ⟨S4x256, .f32⟩
  | 52 => ⟨S_, .f32⟩
  | 53 => ⟨S4, .f32⟩
  | 54 => ⟨S4x1, .f32⟩
  | 55 => ⟨S_, .f32⟩
  | 56 => ⟨S4, .f32⟩
  | 57 => ⟨S4, .f32⟩
  | 58 => ⟨S4, .f32⟩
  | 59 => ⟨S4, .f32⟩
  | 60 => ⟨S1x1x4, .f32⟩
  | 61 => ⟨S_, .f32⟩
  | 62 => ⟨S1x2x4, .f32⟩
  | 63 => ⟨S4, .f32⟩
  | 64 => ⟨S4, .f32⟩
  | 65 => ⟨S4, .f32⟩
  | 66 => ⟨S1x1x4, .f32⟩
  | 67 => ⟨S_, .f32⟩
  | 68 => ⟨S1x2x4, .f32⟩
  | 69 => ⟨S1x2x4, .f32⟩
  | 70 => ⟨S1x256x512, .f32⟩
  | 71 => ⟨S1x256x512, .f32⟩
  | 72 => ⟨S256x512, .f32⟩
  | 73 => ⟨S256x512, .bf16⟩
  | 74 => ⟨S256x512, .f32⟩
  | 75 => ⟨S256x512, .bf16⟩
  | _ => ⟨S256x3072, .bf16⟩

abbrev hbmTy (i : Nat) : BufTy := match i / 128 with
  | 0 => hbmTy0_0 i
  | 1 => hbmTy0_1 i
  | _ => ⟨S256x3072, .bf16⟩

abbrev bufTy : (tb : Table) → Fin (tcTables nBuf tb) → BufTy
  | .hbm, ⟨i, _⟩ => hbmTy i
  | _, _ => ⟨S256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v10_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v10_2 : Ref sig .tc := ⟨.hbm, 60, rfl⟩
abbrev main_v10_0 : Ref sig .tc := ⟨.hbm, 61, rfl⟩
abbrev main_v11 : Ref sig .tc := ⟨.hbm, 62, rfl⟩
abbrev main_v12 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1_0 : Ref sig .tc := ⟨.hbm, 78, rfl⟩
abbrev main_call1_call0_cst_0 : Ref sig .tc := ⟨.hbm, 79, rfl⟩
abbrev main_call1_call0_v13 : Ref sig .tc := ⟨.hbm, 80, rfl⟩
abbrev main_call1_call0_v14 : Ref sig .tc := ⟨.hbm, 81, rfl⟩
abbrev main_call1_call0_cst_1 : Ref sig .tc := ⟨.hbm, 82, rfl⟩
abbrev main_call1_call0_v15 : Ref sig .tc := ⟨.hbm, 83, rfl⟩
abbrev main_call1_call0_v16 : Ref sig .tc := ⟨.hbm, 84, rfl⟩
abbrev main_call1_call0_cst_2 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_cst_3 : Ref sig .tc := ⟨.hbm, 88, rfl⟩
abbrev main_call1_call0_v19 : Ref sig .tc := ⟨.hbm, 89, rfl⟩
abbrev main_call1_call0_v20 : Ref sig .tc := ⟨.hbm, 90, rfl⟩
abbrev main_call1_call0_v21 : Ref sig .tc := ⟨.hbm, 91, rfl⟩
abbrev main_v13_1 : Ref sig .tc := ⟨.hbm, 92, rfl⟩
abbrev main_call1_call0_cst_4 : Ref sig .tc := ⟨.hbm, 93, rfl⟩
abbrev main_call1_call0_cst_5 : Ref sig .tc := ⟨.hbm, 94, rfl⟩
abbrev main_call1_call0_v23 : Ref sig .tc := ⟨.hbm, 95, rfl⟩
abbrev main_call1_call0_cst_6 : Ref sig .tc := ⟨.hbm, 96, rfl⟩
abbrev main_call1_call0_cst_7 : Ref sig .tc := ⟨.hbm, 97, rfl⟩
abbrev main_call1_call0_v24 : Ref sig .tc := ⟨.hbm, 98, rfl⟩
abbrev main_call1_call0_cst_8 : Ref sig .tc := ⟨.hbm, 99, rfl⟩
abbrev main_call1_call0_v25 : Ref sig .tc := ⟨.hbm, 100, rfl⟩
abbrev main_call1_call0_v26 : Ref sig .tc := ⟨.hbm, 101, rfl⟩
abbrev main_call1_call0_cst_9 : Ref sig .tc := ⟨.hbm, 102, rfl⟩
abbrev main_call1_call0_v27 : Ref sig .tc := ⟨.hbm, 103, rfl⟩
abbrev main_call1_call0_v28 : Ref sig .tc := ⟨.hbm, 104, rfl⟩
abbrev main_call1_call0_v29 : Ref sig .tc := ⟨.hbm, 105, rfl⟩
abbrev main_call1_call0_v30 : Ref sig .tc := ⟨.hbm, 106, rfl⟩
abbrev main_call1_call0_v31 : Ref sig .tc := ⟨.hbm, 107, rfl⟩
abbrev main_call1_call0_cst_10 : Ref sig .tc := ⟨.hbm, 108, rfl⟩
abbrev main_call1_call0_v32 : Ref sig .tc := ⟨.hbm, 109, rfl⟩
abbrev main_v13_2 : Ref sig .tc := ⟨.hbm, 110, rfl⟩
abbrev main_v13_0 : Ref sig .tc := ⟨.hbm, 111, rfl⟩
abbrev main_v14 : Ref sig .tc := ⟨.hbm, 112, rfl⟩
abbrev main_cst : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_cst_0 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_cst_1 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_cst_2 : Ref sig .tc := ⟨.hbm, 157, rfl⟩
abbrev main_v56 : Ref sig .tc := ⟨.hbm, 158, rfl⟩
abbrev main_v57 : Ref sig .tc := ⟨.hbm, 159, rfl⟩
abbrev main_cst_3 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_cst_4 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_cst_5 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_cst_6 : Ref sig .tc := ⟨.hbm, 180, rfl⟩
abbrev main_v75 : Ref sig .tc := ⟨.hbm, 181, rfl⟩
abbrev main_v76 : Ref sig .tc := ⟨.hbm, 182, rfl⟩
abbrev main_cst_7 : Ref sig .tc := ⟨.hbm, 183, rfl⟩
abbrev main_v77 : Ref sig .tc := ⟨.hbm, 184, rfl⟩
abbrev main_call2_v0 : Ref sig .tc := ⟨.hbm, 185, rfl⟩
abbrev main_call2_v1 : Ref sig .tc := ⟨.hbm, 186, rfl⟩
abbrev main_v78 : Ref sig .tc := ⟨.hbm, 187, rfl⟩
abbrev main_v79 : Ref sig .tc := ⟨.hbm, 188, rfl⟩
abbrev main_cst_8 : Ref sig .tc := ⟨.hbm, 189, rfl⟩
abbrev main_v80 : Ref sig .tc := ⟨.hbm, 190, rfl⟩
abbrev main_call3_v0 : Ref sig .tc := ⟨.hbm, 191, rfl⟩
abbrev main_call3_v1 : Ref sig .tc := ⟨.hbm, 192, rfl⟩
abbrev main_v81 : Ref sig .tc := ⟨.hbm, 193, rfl⟩
abbrev main_v82 : Ref sig .tc := ⟨.hbm, 194, rfl⟩
abbrev main_cst_9 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S2x2x256x4x1024 : Shape := ⟨5, ![2, 2, 256, 4, 1024]⟩
abbrev S2x4x2x256x1024 : Shape := ⟨5, ![2, 4, 2, 256, 1024]⟩
abbrev S2x8x256x1024 : Shape := ⟨4, ![2, 8, 256, 1024]⟩
abbrev S4x2x2x256x1024 : Shape := ⟨5, ![4, 2, 2, 256, 1024]⟩
abbrev S1x8x256x1024 : Shape := ⟨4, ![1, 8, 256, 1024]⟩
abbrev S8x256x1024 : Shape := ⟨3, ![8, 256, 1024]⟩
abbrev S4096x4096 : Shape := ⟨2, ![4096, 4096]⟩
abbrev S256x1024 : Shape := ⟨2, ![256, 1024]⟩
abbrev S256x4096 : Shape := ⟨2, ![256, 4096]⟩
abbrev S4x1024x1024 : Shape := ⟨3, ![4, 1024, 1024]⟩
abbrev S32 : Shape := ⟨1, ![32]⟩
abbrev S1 : Shape := ⟨1, ![1]⟩
abbrev S_ : Shape := ⟨0, ![]⟩
abbrev S1x256x1024 : Shape := ⟨3, ![1, 256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1024 : Shape := ⟨1, ![1024]⟩
abbrev S1x1 : Shape := ⟨2, ![1, 1]⟩

abbrev nBuf : Space → Nat
  | .hbm => 36
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S1024x4096, .bf16⟩
  | .hbm, ⟨10, _⟩ => ⟨S2x2x256x4x1024, .bf16⟩
  | .hbm, ⟨11, _⟩ => ⟨S2x4x2x256x1024, .bf16⟩
  | .hbm, ⟨12, _⟩ => ⟨S2x8x256x1024, .bf16⟩
  | .hbm, ⟨13, _⟩ => ⟨S4096x1024, .bf16⟩
  | .hbm, ⟨14, _⟩ => ⟨S4x2x2x256x1024, .bf16⟩
  | .hbm, ⟨15, _⟩ => ⟨S2x4x2x256x1024, .bf16⟩
  | .hbm, ⟨16, _⟩ => ⟨S2x8x256x1024, .bf16⟩
  | .hbm, ⟨17, _⟩ => ⟨S1x8x256x1024, .bf16⟩
  | .hbm, ⟨18, _⟩ => ⟨S8x256x1024, .bf16⟩
  | .hbm, ⟨19, _⟩ => ⟨S1x8x256x1024, .bf16⟩
  | .hbm, ⟨20, _⟩ => ⟨S8x256x1024, .bf16⟩
  | .hbm, ⟨21, _⟩ => ⟨S1x8x256x1024, .bf16⟩
  | .hbm, ⟨22, _⟩ => ⟨S8x256x1024, .bf16⟩
  | .hbm, ⟨23, _⟩ => ⟨S1x8x256x1024, .bf16⟩
  | .hbm, ⟨24, _⟩ => ⟨S8x256x1024, .bf16⟩
  | .hbm, ⟨25, _⟩ => ⟨S4096x1024, .f32⟩
  | .hbm, ⟨26, _⟩ => ⟨S4096x1024, .bf16⟩
  | .hbm, ⟨27, _⟩ => ⟨S4096x4096, .bf16⟩
  | .hbm, ⟨28, _⟩ => ⟨S4096x4096, .bf16⟩
  | .hbm, ⟨29, _⟩ => ⟨S4096x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S4x1024x1024, .bf16⟩
  | .local _ .vmem, ⟨26, _⟩ => ⟨S4x1024x1024, .bf16⟩
  | .local _ .vmem, ⟨27, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev main_v16_8 : Ref sig .tc := ⟨.hbm, 33, rfl⟩
abbrev main_v16_9 : Ref sig .tc := ⟨.hbm, 34, rfl⟩
abbrev main_v16_10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1024 : Shape := ⟨1, ![1024]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1024x4096, .f32⟩
  | 7 => ⟨S4096x1024, .f32⟩
  | 8 => ⟨S4096x1024, .f32⟩
  | 9 => ⟨S_, .f32⟩
  | 10 => ⟨S4096x4096, .f32⟩
  | 11 => ⟨S_, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S1x1024, .f32⟩
  | 34 => ⟨S1x1024, .f32⟩
  | 35 => ⟨S4096x1024, .f32⟩
  | 36 => ⟨S4096x1024, .f32⟩
  | 37 => ⟨S4096x1024, .f32⟩
  | 38 => ⟨S4096x1024, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S_, .f32⟩
  | 45 => ⟨S4096x4096, .f32⟩
  | 46 => ⟨S4096x4096, .i1⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096, .f32⟩
  | 84 => ⟨S_, .f32⟩
  | 85 => ⟨S4096, .f32⟩
  | 86 => ⟨S4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1024, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S4096x1024, .f32⟩
  | 27 => ⟨S4096x1024, .f32⟩
  | 28 => ⟨S4096x1024, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .bf16⟩
  | 41 => ⟨S4096x4096, .bf16⟩
  | 42 => ⟨S4096x4096, .bf16⟩
  | 43 => ⟨S4096x1024, .bf16⟩
  | 44 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_cst_18 : Ref sig .tc := ⟨.hbm, 91, rfl⟩
abbrev main_cst_19 : Ref sig .tc := ⟨.hbm, 92, rfl⟩
abbrev main_v61 : Ref sig .tc := ⟨.hbm, 93, rfl⟩
abbrev main_v62 : Ref sig .tc := ⟨.hbm, 94, rfl⟩
abbrev main_cst_20 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_21 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_22 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_23 : Ref sig .tc := ⟨.hbm, 113, rfl⟩
abbrev main_v78 : Ref sig .tc := ⟨.hbm, 114, rfl⟩
abbrev main_v79 : Ref sig .tc := ⟨.hbm, 115, rfl⟩
abbrev main_cst_24 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_25 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_26 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_27 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_28 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_29 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_30 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_31 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S4096x3072 : Shape := ⟨2, ![4096, 3072]⟩
abbrev S256x1024 : Shape := ⟨2, ![256, 1024]⟩
abbrev S256x3072 : Shape := ⟨2, ![256, 3072]⟩
abbrev S4x1024x768 : Shape := ⟨3, ![4, 1024, 768]⟩
abbrev S2048x1024 : Shape := ⟨2, ![2048, 1024]⟩
abbrev S2048x768 : Shape := ⟨2, ![2048, 768]⟩
abbrev S256x768 : Shape := ⟨2, ![256, 768]⟩
abbrev S1x1024x768 : Shape := ⟨3, ![1, 1024, 768]⟩
abbrev S1024x768 : Shape := ⟨2, ![1024, 768]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S256x1024, .bf16⟩
  | .hbm, ⟨3, _⟩ => ⟨S256x3072, .bf16⟩
  | .hbm, ⟨4, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S256x1024, .bf16⟩
  | .local _ .vmem, ⟨5, _⟩ => ⟨S256x768, .bf16⟩
  | .local _ .vmem, ⟨6, _⟩ => ⟨S256x768, .bf16⟩
  | .local _ .vmem, ⟨7, _⟩ => ⟨S1x1024x768, .f32⟩
  | .local _ .vmem, ⟨8, _⟩ => ⟨S1x1024x768, .f32⟩
  | .local _ .vmem, ⟨9, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x1024 : Shape := ⟨2, ![4096, 1024]⟩
abbrev S4096x3072 : Shape := ⟨2, ![4096, 3072]⟩
abbrev S256x1024 : Shape := ⟨2, ![256, 1024]⟩
abbrev S256x3072 : Shape := ⟨2, ![256, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S256x1024, .bf16⟩
  | .hbm, ⟨3, _⟩ => ⟨S256x3072, .bf16⟩
  | .hbm, ⟨4, _⟩ => ⟨S_, .f32⟩
  | .hbm, ⟨5, _⟩ => ⟨S1024x3072, .f32⟩
  | .hbm, ⟨6, _⟩ => ⟨S4096x1024, .f32⟩
  | .hbm, ⟨7, _⟩ => ⟨S4096x3072, .f32⟩
  | .hbm, ⟨8, _⟩ => ⟨S256x1024, .f32⟩
  | .hbm, ⟨9, _⟩ => ⟨S256x3072, .f32⟩
  | .hbm, ⟨10, _⟩ => ⟨S4096x3072, .f32⟩
  | .hbm, ⟨11, _⟩ => ⟨S256x3072, .f32⟩
  | .hbm, ⟨12, _⟩ => ⟨S3072x1024, .f32⟩
  | .hbm, ⟨13, _⟩ => ⟨S1024x3072, .f32⟩
  | .hbm, ⟨14, _⟩ => ⟨S3072x1024, .f32⟩
  | .hbm, ⟨15, _⟩ => ⟨S1024x3072, .f32⟩
  | .hbm, ⟨16, _⟩ => ⟨S1024x3072, .f32⟩
  | .hbm, ⟨17, _⟩ => ⟨S1024x4x768, .f32⟩
  | .hbm, ⟨18, _⟩ => ⟨S4x1024x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.CtxArray.lean ====
/-
  Where each head's blocks lie in the whole arrays: the two gradient arrays at an index are the head's written block, and
  the blocks the body is given are the head's columns, decay row and state gradients of the operands.
-/
module

public import proofs.«01_k».proof.Proof.Gen.KernelIdeal.Value
public import Idealize.ShloMosaic.Lib.Pointwise

@[expose] public section

noncomputable section

namespace Cert.Ctx

open Cert.KernelIdeal Cert.KernelIdeal.Gen Idealize.ShloMosaic Idealize.ShloMosaic.TcCoe

variable {F : FTy → Type} [FloatOps F] (m : (ℓ : Loc nD τ sig) → Buf (Elt F) ℓ)

/-- The grid point of head `h`. -/
def pt (h : Fin 4) : Fin cfg0.N := Fin.cast N_0.symm h

theorem dk_at (c : Dev nD) (l : Fin 256) (h : Fin 4) (d : Fin 128) (j : Fin 512) (hj : j.val = 128 * h.val + d.val) :
    ((dats m 0 c).arrAt 6 cfg0.N : Vec F S256x512 .bf16) (ix2 l j)
      = (out0_6 (iblk m c 0 (pt h)) (iblk m c 1 (pt h)) (iblk m c 2 (pt h)) (iblk m c 3 (pt h)) (iblk m c 4 (pt h)) (iblk m c 5 (pt h)) : Vec F S256x128 .bf16) (ix2 l d) := by
  have e := congrFun ((Value.blocks6 m c (pt h) (flush0_6 _)).trans (Value.flushed6 m c (pt h))) (ix2 l d)
  refine Eq.trans ?_ e
  refine congrArg ((dats m 0 c).arrAt 6 cfg0.N) (funext fun a => Fin.ext ?_)
  have hi : ∀ t : Fin cfg0.N, win0_6.index t 0 = 0 ∧ win0_6.index t 1 = t.val :=
    (by decide +kernel : ∀ t : Fin grid0.N, win0_6.index t 0 = 0 ∧ win0_6.index t 1 = t.val)
  obtain ⟨h0, h1⟩ := hi (pt h)
  match a with
  | ⟨0, _⟩ => show l.val = win0_6.index (pt h) 0 * 256 + 1 * l.val; omega
  | ⟨1, _⟩ => show j.val = win0_6.index (pt h) 1 * 128 + 1 * d.val; rw [h1, hj]; show _ = h.val * 128 + _; omega

theorem dv_at (c : Dev nD) (l : Fin 256) (h : Fin 4) (d : Fin 128) (j : Fin 512) (hj : j.val = 128 * h.val + d.val) :
    ((dats m 0 c).arrAt 7 cfg0.N : Vec F S256x512 .bf16) (ix2 l j)
      = (out0_7 (iblk m c 0 (pt h)) (iblk m c 1 (pt h)) (iblk m c 2 (pt h)) (iblk m c 3 (pt h)) (iblk m c 4 (pt h)) (iblk m c 5 (pt h)) : Vec F S256x128 .bf16) (ix2 l d) := by
  have e := congrFun ((Value.blocks7 m c (pt h) (flush0_7 _)).trans (Value.flushed7 m c (pt h))) (ix2 l d)
  refine Eq.trans ?_ e
  refine congrArg ((dats m 0 c).arrAt 7 cfg0.N) (funext fun a => Fin.ext ?_)
  have hi : ∀ t : Fin cfg0.N, win0_7.index t 0 = 0 ∧ win0_7.index t 1 = t.val :=
    (by decide +kernel : ∀ t : Fin grid0.N, win0_7.index t 0 = 0 ∧ win0_7.index t 1 = t.val)
  obtain ⟨h0, h1⟩ := hi (pt h)
  match a with
  | ⟨0, _⟩ => show l.val = win0_7.index (pt h) 0 * 256 + 1 * l.val; omega
  | ⟨1, _⟩ => show j.val = win0_7.index (pt h) 1 * 128 + 1 * d.val; rw [h1, hj]; show _ = h.val * 128 + _; omega

/-- Head `h`'s block of keys: its 128 columns of the second third's first part of the projection. -/
theorem k_at (c : Dev nD) (h : Fin 4) (l : Fin 256) (e : Fin 128) (j : Fin 3072) (hj : j.val = 512 + (h.val * 128 + e.val)) :
    (iblk m c 0 (pt h) : Vec F S256x128 .bf16) (ix2 l e) = (m ((c : Thread nD τ).loc main_arg0) : Vec F S256x3072 .bf16) (ix2 l j) := by
  refine Eq.trans ?_ (congrFun (V_main_arg0 m c) _)
  refine congrArg (V m c main_arg0) (funext fun a => Fin.ext ?_)
  have hi : ∀ t : Fin cfg0.N, win0_0.index t 0 = 0 ∧ win0_0.index t 1 = 4 + t.val :=
    (by decide +kernel : ∀ t : Fin grid0.N, win0_0.index t 0 = 0 ∧ win0_0.index t 1 = 4 + t.val)
  obtain ⟨h0, h1⟩ := hi (pt h)
  match a with
  | ⟨0, _⟩ => show win0_0.index (pt h) 0 * 256 + 1 * l.val = l.val; omega
  | ⟨1, _⟩ => show win0_0.index (pt h) 1 * 128 + 1 * e.val = j.val; rw [h1, hj]; show (4 + h.val) * 128 + _ = _; omega

/-- Head `h`'s block of values. -/
theorem v_at (c : Dev nD) (h : Fin 4) (l : Fin 256) (e : Fin 128) (j : Fin 3072) (hj : j.val = 1024 + (h.val * 128 + e.val)) :
    (iblk m c 1 (pt h) : Vec F S256x128 .bf16) (ix2 l e) = (m ((c : Thread nD τ).loc main_arg0) : Vec F S256x3072 .bf16) (ix2 l j) := by
  refine Eq.trans ?_ (congrFun (V_main_arg0 m c) _)
  refine congrArg (V m c main_arg0) (funext fun a => Fin.ext ?_)
  have hi : ∀ t : Fin cfg0.N, win0_1.index t 0 = 0 ∧ win0_1.index t 1 = 8 + t.val :=
    (by decide +kernel : ∀ t : Fin grid0.N, win0_1.index t 0 = 0 ∧ win0_1.index t 1 = 8 + t.val)
  obtain ⟨h0, h1⟩ := hi (pt h)
  match a with
  | ⟨0, _⟩ => show win0_1.index (pt h) 0 * 256 + 1 * l.val = l.val; omega
  | ⟨1, _⟩ => show win0_1.index (pt h) 1 * 128 + 1 * e.val = j.val; rw [h1, hj]; show (8 + h.val) * 128 + _ = _; omega

/-- Head `h`'s row of decay logarithms. -/
theorem lg_at (c : Dev nD) (h : Fin 4) (d : Fin 2) (e : Fin 128) :
    (iblk m c 2 (pt h) : Vec F S1x2x128 .f32) (ix3 0 d e) = (V m c main_v4 : Vec F S4x2x128 .f32) (ix3 h d e) := by
  refine congrArg (V m c main_v4) (funext fun a => Fin.ext ?_)
  have hi : ∀ t : Fin cfg0.N, win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0)
  obtain ⟨h0, h1, h2⟩ := hi (pt h)
  match a with
  | ⟨0, _⟩ => show win0_2.index (pt h) 0 * 1 + 1 * 0 = h.val; rw [h0]; show h.val * 1 + _ = _; omega
  | ⟨1, _⟩ => show win0_2.index (pt h) 1 * 2 + 1 * d.val = d.val; omega
  | ⟨2, _⟩ => show win0_2.index (pt h) 2 * 128 + 1 * e.val = e.val; omega

/-- Head `h`'s gradient of the forward direction's state. -/
theorem sf_at (c : Dev nD) (h : Fin 4) (d e : Fin 128) :
    (iblk m c 4 (pt h) : Vec F S1x128x128 .f32) (ix3 0 d e) = (m ((c : Thread nD τ).loc main_arg2) : Vec F S4x128x128 .f32) (ix3 h d e) := by
  refine Eq.trans ?_ (congrFun (V_main_arg2 m c) _)
  refine congrArg (V m c main_arg2) (funext fun a => Fin.ext ?_)
  have hi : ∀ t : Fin cfg0.N, win0_4.index t 0 = t.val ∧ win0_4.index t 1 = 0 ∧ win0_4.index t 2 = 0 :=
    (by decide +kernel : ∀ t : Fin grid0.N, win0_4.index t 0 = t.val ∧ win0_4.index t 1 = 0 ∧ win0_4.index t 2 = 0)
  obtain ⟨h0, h1, h2⟩ := hi (pt h)
  match a with
  | ⟨0, _⟩ => show win0_4.index (pt h) 0 * 1 + 1 * 0 = h.val; rw [h0]; show h.val * 1 + _ = _; omega
  | ⟨1, _⟩ => show win0_4.index (pt h) 1 * 128 + 1 * d.val = d.val; omega
  | ⟨2, _⟩ => show win0_4.index (pt h) 2 * 128 + 1 * e.val = e.val; omega

/-- Head `h`'s gradient of the backward direction's state. -/
theorem sb_at (c : Dev nD) (h : Fin 4) (d e : Fin 128) :
    (iblk m c 5 (pt h) : Vec F S1x128x128 .f32) (ix3 0 d e) = (m ((c : Thread nD τ).loc main_arg3) : Vec F S4x128x128 .f32) (ix3 h d e) := by
  refine Eq.trans ?_ (congrFun (V_main_arg3 m c) _)
  refine congrArg (V m c main_arg3) (funext fun a => Fin.ext ?_)
  have hi : ∀ t : Fin cfg0.N, win0_5.index t 0 = t.val ∧ win0_5.index t 1 = 0 ∧ win0_5.index t 2 = 0 :=
    (by decide +kernel : ∀ t : Fin grid0.N, win0_5.index t 0 = t.val ∧ win0_5.index t 1 = 0 ∧ win0_5.index t 2 = 0)
  obtain ⟨h0, h1, h2⟩ := hi (pt h)
  match a with
  | ⟨0, _⟩ => show win0_5.index (pt h) 0 * 1 + 1 * 0 = h.val; rw [h0]; show h.val * 1 + _ = _; omega
  | ⟨1, _⟩ => show win0_5.index (pt h) 1 * 128 + 1 * d.val = d.val; omega
  | ⟨2, _⟩ => show win0_5.index (pt h) 2 * 128 + 1 * e.val = e.val; omega

end Cert.Ctx

end
-- ==== Proof.CtxDecay.lean ====
/-
  The scalar the two programs make of one decay parameter, and the two weights they make of that scalar: the part of the
  gradient's mathematics that mentions no array.
-/
module

public import Idealize.ShloMosaic.Lib.Pointwise

@[expose] public section

noncomputable section

namespace Cert.Ctx

open Idealize.ShloMosaic

/-- The logarithm of the logistic function as both programs spell it: minus the softplus of the negated parameter. -/
def logSig (x : EReal) : EReal :=
  -(max (-x) 0 + Ideal.log1p (Ideal.exp (-(FloatOps.absf (F := Ideal) (φ := .f32) (-x) : EReal))))

/-- The softplus is spelt with a test for a value that differs from itself, which no extended real does. -/
theorem logSig_spelt (x : EReal) :
    (-if -x ≠ -x then -x
      else max (-x) 0 + Ideal.log1p (Ideal.exp (-(FloatOps.absf (F := Ideal) (φ := .f32) (-x) : EReal)))) = logSig x := by
  simp [logSig]

/-- A context position as a real number. -/
def pos (l : Fin 256) : EReal := FloatOps.sitofp (F := Ideal) FTy.f32 (BitVec.ofNat 32 l.val)

/-- The weight of position `l` in the state the forward direction ends in: the decay raised to the steps still to come. -/
def wFwd (g : EReal) (l : Fin 256) : EReal := Ideal.exp (logSig g * (Ideal.ofBits FTy.f32 1132396544#32 - pos l))

/-- The weight of position `l` in the state the backward direction ends in: the decay raised to the position. -/
def wBwd (g : EReal) (l : Fin 256) : EReal := Ideal.exp (logSig g * pos l)

end Cert.Ctx

end
-- ==== Proof.CtxBlock.lean ====
/-
  What the kernel's body writes for one head, read at a position and a channel: sums over one head's channels of the
  blocks it is given, the decay weights applied.
-/
module

public import proofs.«01_k».proof.Proof.Gen.KernelIdeal.Value
public import proofs.«01_k».proof.Proof.CtxDecay

@[expose] public section

noncomputable section

namespace Cert.Ctx

open Cert.KernelIdeal Cert.KernelIdeal.Gen Idealize.ShloMosaic

/-- The gradient block of `k`: the values against each direction's state gradient, weighted by that direction's decay. -/
theorem dk_block (x0 x1 : Vec Ideal S256x128 .bf16) (x2 x3 : Vec Ideal S1x2x128 .f32) (x4 x5 : Vec Ideal S1x128x128 .f32)
    (l : Fin 256) (d : Fin 128) :
    (out0_6 x0 x1 x2 x3 x4 x5 : Vec Ideal S256x128 .bf16) (ix2 l d)
      = (∑ e : Fin 128, x1 (ix2 l e) * x4 (ix3 0 d e)) * Ideal.exp (x2 (ix3 0 0 d) * (Ideal.ofBits FTy.f32 1132396544#32 - pos l))
        + (∑ e : Fin 128, x1 (ix2 l e) * x5 (ix3 0 d e)) * Ideal.exp (x2 (ix3 0 1 d) * pos l) := by
  have hz : (![0, 0] : Fin 2 → Nat) = fun _ => 0 := funext fun a => by fin_cases a <;> rfl
  have hz3 : (![0, 0, 0] : Fin 3 → Nat) = fun _ => 0 := funext fun a => by fin_cases a <;> rfl
  unfold out0_6
  rw [View.canon_unit_zero hz, View.ld_unit_zero hz, View.ld_unit_zero hz3, View.ld_unit_zero hz3]
  pointwise [k0_pay14, k0_pay6, k0_pay5, k0_pay12, k0_pay3, k0_pay10, k0_pay2, k0_pay9, k0_pay4, k0_pay11, pos]

/-- The gradient block of `v`: the weighted keys against each direction's state gradient. -/
theorem dv_block (x0 x1 : Vec Ideal S256x128 .bf16) (x2 x3 : Vec Ideal S1x2x128 .f32) (x4 x5 : Vec Ideal S1x128x128 .f32)
    (l : Fin 256) (d : Fin 128) :
    (out0_7 x0 x1 x2 x3 x4 x5 : Vec Ideal S256x128 .bf16) (ix2 l d)
      = (∑ e : Fin 128, x0 (ix2 l e) * Ideal.exp (x2 (ix3 0 0 e) * (Ideal.ofBits FTy.f32 1132396544#32 - pos l)) * x4 (ix3 0 e d))
        + (∑ e : Fin 128, x0 (ix2 l e) * Ideal.exp (x2 (ix3 0 1 e) * pos l) * x5 (ix3 0 e d)) := by
  have hz : (![0, 0] : Fin 2 → Nat) = fun _ => 0 := funext fun a => by fin_cases a <;> rfl
  have hz3 : (![0, 0, 0] : Fin 3 → Nat) = fun _ => 0 := funext fun a => by fin_cases a <;> rfl
  unfold out0_7
  rw [View.canon_unit_zero hz, View.ld_unit_zero hz, View.ld_unit_zero hz3, View.ld_unit_zero hz3]
  pointwise [k0_pay15, k0_pay7, k0_pay5, k0_pay12, k0_pay3, k0_pay10, k0_pay2, k0_pay9, k0_pay4, k0_pay11, pos]

end Cert.Ctx

end
-- ==== Proof.CtxHost.lean ====
module

public import proofs.«01_k».proof.Proof.Gen.KernelIdeal.Value
public import proofs.«01_k».proof.Proof.CtxDecay
public import Idealize.ShloMosaic.Lib.StableHlo.ReadAt

@[expose] public section

noncomputable section

namespace Cert.Ctx

open Cert.KernelIdeal Cert.KernelIdeal.Gen Idealize.ShloMosaic Idealize.ShloMosaic.TcCoe

variable (m : (ℓ : Loc nD τ sig) → Buf (Elt Ideal) ℓ)

/-- At region entry the decay operand holds, in every lane, the log-sigmoid of its direction's and head's parameter. -/
theorem lg_entry (c : Dev nD) (h : Fin 4) (d : Fin 2) (j : Fin 128) :
    (V m c main_v4 : FVec Ideal S4x2x128 .f32) (ix3 h d j)
      = logSig ((m ((c : Thread nD τ).loc main_arg1) : FVec Ideal S1x2x4 .f32) (ix3 0 d h)) := by
  show (StableHlo.after (List.flatten [hostOps0, hostOps0_1, hostOps0_2]) (fun b => m (c, b)) (Proc.devRef .tc main_v4) : FVec Ideal S4x2x128 .f32) (ix3 h d j) = _
  simp only [List.flatten_cons, List.flatten_nil, List.append_nil, List.cons_append, List.nil_append]
  after_reads_at
  exact logSig_spelt _

end Cert.Ctx

end
-- ==== Proof.CtxRefV.lean ====
/-
  What the reference's two gradient arrays hold, read at a position and at a head's channel.
-/
module

public import proofs.«01_k».proof.Proof.Gen.ReferenceIdeal.Read
public import proofs.«01_k».proof.Proof.CtxDecay

@[expose] public section

noncomputable section

namespace Cert.Ctx

open Cert.ReferenceIdeal Idealize.ShloMosaic Cert.ReferenceIdeal.Read

/-- The reference's forward decay logarithm of head `h`. -/
theorem lgf_ref (x1 : FVec Ideal S1x2x4 .f32) (h : Fin 4) : val_main_v10_0 (F := Ideal) x1 (ix1 h) = logSig (x1 (ix3 0 0 h)) := by
  pointwise [val_main_v10_0, val_main_call0_v1_0, val_main_call0_call0_v4, val_main_call0_call0_v3, val_main_call0_v0,
    val_main_v9, val_main_v8, val_main_call0_call0_v2, val_main_call0_call0_cst, val_main_call0_call0_v6,
    val_main_call0_call0_v5, val_main_call0_call0_v11, val_main_call0_call0_v1, val_main_call0_call0_v0,
    val_main_call0_call0_v10, val_main_call0_call0_v9, val_main_call0_call0_v8, val_main_call0_call0_v7]
  exact logSig_spelt _

/-- The reference's backward decay logarithm of head `h`. -/
theorem lgb_ref (x1 : FVec Ideal S1x2x4 .f32) (h : Fin 4) : val_main_v13_0 (F := Ideal) x1 (ix1 h) = logSig (x1 (ix3 0 1 h)) := by
  pointwise [val_main_v13_0, val_main_call1_v1_0, val_main_call1_call0_v4, val_main_call1_call0_v3, val_main_call1_v0,
    val_main_v12, val_main_v11, val_main_call1_call0_v2, val_main_call1_call0_cst, val_main_call1_call0_v6,
    val_main_call1_call0_v5, val_main_call1_call0_v11, val_main_call1_call0_v1, val_main_call1_call0_v0,
    val_main_call1_call0_v10, val_main_call1_call0_v9, val_main_call1_call0_v8, val_main_call1_call0_v7]
  exact logSig_spelt _

/-- The gradient of `k` at position `l` and channel `d` of head `h`. -/
theorem dk_ref (x0 : FVec Ideal S256x3072 .bf16) (x1 : FVec Ideal S1x2x4 .f32) (x2 x3 : FVec Ideal S4x128x128 .f32)
    (l : Fin 256) (h : Fin 4) (d : Fin 128) (j : Fin 512) (hj : j.val = 128 * h.val + d.val)
    (col : Fin 128 → Fin 3072) (hcol : ∀ e, (col e).val = 1024 + (h.val * 128 + e.val)) :
    val_main_v88 (F := Ideal) x0 x1 x2 x3 (ix2 l j)
      = (∑ e : Fin 128, x3 (ix3 h d e) * x0 (ix2 l (col e))) * wBwd (x1 (ix3 0 1 h)) l
        + (∑ e : Fin 128, x2 (ix3 h d e) * x0 (ix2 l (col e))) * wFwd (x1 (ix3 0 0 h)) l := by
  have e1 : val_main_v88 (F := Ideal) x0 x1 x2 x3 (ix2 l j) = val_main_v69 (F := Ideal) x0 x1 x2 x3 (ix4 0 l h d) := by
    rw [val_main_v88_apply, val_main_v87_apply, val_main_v86_apply]
    refine congrArg (val_main_v69 (F := Ideal) x0 x1 x2 x3) (funext fun a => Fin.ext ?_)
    have := d.isLt; have := h.isLt; have := l.isLt
    match a with
    | ⟨0, _⟩ => dsimp [idx_main_v86, idx_main_v87]
    | ⟨1, _⟩ => dsimp [idx_main_v86, idx_main_v87]; omega
    | ⟨2, _⟩ => dsimp [idx_main_v86, idx_main_v87]; omega
    | ⟨3, _⟩ => dsimp [idx_main_v86, idx_main_v87]; omega
  have ec : ∀ (e : Fin 128) (p), (⟨1024 + (h.val * 128 + e.val), p⟩ : Fin 3072) = col e := fun e p => Fin.ext (hcol e).symm
  rw [e1]
  pointwise [val_main_v69, val_main_v50, val_main_v45, val_main_v44, val_main_v41, val_main_v7, val_main_v5, val_main_v4,
    val_main_v3, val_main_v49, val_main_v36, val_main_v35, val_main_v34, val_main_v33, val_main_v31, val_main_v29,
    val_main_v32, val_main_v30, val_main_v28, val_main_v68, val_main_v63, val_main_v62, val_main_v40, val_main_v67,
    val_main_v24, val_main_v23, val_main_v22, val_main_v21, val_main_v19, val_main_v17, val_main_v20, val_main_v18,
    val_main_v16, val_main_v15, val_main_cst, val_main_v14]
  simp only [ec, lgf_ref, lgb_ref]
  rfl

/-- The gradient of `v` at position `l` and channel `d` of head `h`. -/
theorem dv_ref (x0 : FVec Ideal S256x3072 .bf16) (x1 : FVec Ideal S1x2x4 .f32) (x2 x3 : FVec Ideal S4x128x128 .f32)
    (l : Fin 256) (h : Fin 4) (d : Fin 128) (j : Fin 512) (hj : j.val = 128 * h.val + d.val)
    (col : Fin 128 → Fin 3072) (hcol : ∀ e, (col e).val = 512 + (h.val * 128 + e.val)) :
    val_main_v90 (F := Ideal) x0 x1 x2 x3 (ix2 l j)
      = (∑ e : Fin 128, x3 (ix3 h e d) * (x0 (ix2 l (col e)) * wBwd (x1 (ix3 0 1 h)) l))
        + (∑ e : Fin 128, x2 (ix3 h e d) * (x0 (ix2 l (col e)) * wFwd (x1 (ix3 0 0 h)) l)) := by
  have e1 : val_main_v90 (F := Ideal) x0 x1 x2 x3 (ix2 l j) = val_main_v61 (F := Ideal) x0 x1 x2 x3 (ix4 0 l h d) := by
    rw [val_main_v90_apply, val_main_v89_apply, val_main_v85_apply]
    refine congrArg (val_main_v61 (F := Ideal) x0 x1 x2 x3) (funext fun a => Fin.ext ?_)
    have := d.isLt; have := h.isLt; have := l.isLt
    match a with
    | ⟨0, _⟩ => dsimp [idx_main_v85, idx_main_v89]
    | ⟨1, _⟩ => dsimp [idx_main_v85, idx_main_v89]; omega
    | ⟨2, _⟩ => dsimp [idx_main_v85, idx_main_v89]; omega
    | ⟨3, _⟩ => dsimp [idx_main_v85, idx_main_v89]; omega
  have ec : ∀ (e : Fin 128) (p), (⟨512 + (h.val * 128 + e.val), p⟩ : Fin 3072) = col e := fun e p => Fin.ext (hcol e).symm
  rw [e1]
  pointwise [val_main_v61, val_main_v43, val_main_v42, val_main_v41, val_main_v38, val_main_v6, val_main_v2, val_main_v1,
    val_main_v0, val_main_v37, val_main_v36, val_main_v35, val_main_v34, val_main_v33, val_main_v31, val_main_v29,
    val_main_v32, val_main_v30, val_main_v28, val_main_v60, val_main_v59, val_main_v40, val_main_v26, val_main_v25,
    val_main_v24, val_main_v23, val_main_v22, val_main_v21, val_main_v19, val_main_v17, val_main_v20, val_main_v18,
    val_main_v16, val_main_v15, val_main_cst, val_main_v14]
  simp only [ec, lgf_ref, lgb_ref]
  rfl

end Cert.Ctx

end
-- ==== Proof.CtxEqual.lean ====
/-
  The equation: each of the kernel's two gradient arrays is the reference's, index by index. The two add the directions in
  opposite orders and multiply in opposite orders, which changes nothing over the extended reals.
-/
module

public import proofs.«01_k».proof.Proof.CtxArray
public import proofs.«01_k».proof.Proof.CtxBlock
public import proofs.«01_k».proof.Proof.CtxHost
public import proofs.«01_k».proof.Proof.CtxRefV

@[expose] public section

noncomputable section

namespace Cert.Ctx

open Cert.KernelIdeal Cert.KernelIdeal.Gen Idealize.ShloMosaic Idealize.ShloMosaic.TcCoe

variable (m : (ℓ : Loc nD τ sig) → Buf (Elt Ideal) ℓ)

/-- Head `h`'s columns of the projection, from column `o`. -/
def col (o : Nat) (ho : o + 512 ≤ 3072) (h : Fin 4) (e : Fin 128) : Fin 3072 := ⟨o + (h.val * 128 + e.val), by omega⟩

/-- The kernel's gradient of `k` at a position and a head's channel, over the launched arguments. -/
theorem dk_kernel (c : Dev nD) (x0 : FVec Ideal S256x3072 .bf16) (x1 : FVec Ideal S1x2x4 .f32) (x2 x3 : FVec Ideal S4x128x128 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (l : Fin 256) (h : Fin 4) (d : Fin 128) (j : Fin 512) (hj : j.val = 128 * h.val + d.val) :
    ((dats m 0 c).arrAt 6 cfg0.N : Vec Ideal S256x512 .bf16) (ix2 l j)
      = (∑ e : Fin 128, x0 (ix2 l (col 1024 (by omega) h e)) * x2 (ix3 h d e)) * wFwd (x1 (ix3 0 0 h)) l
        + (∑ e : Fin 128, x0 (ix2 l (col 1024 (by omega) h e)) * x3 (ix3 h d e)) * wBwd (x1 (ix3 0 1 h)) l := by
  subst e0 e1 e2 e3
  refine (dk_at m c l h d j hj).trans ((dk_block _ _ _ _ _ _ l d).trans ?_)
  refine congrArg₂ (· + ·) (congrArg₂ (· * ·) (Finset.sum_congr rfl fun e _ => congrArg₂ (· * ·) (v_at m c h l e _ rfl) (sf_at m c h d e)) ?_)
    (congrArg₂ (· * ·) (Finset.sum_congr rfl fun e _ => congrArg₂ (· * ·) (v_at m c h l e _ rfl) (sb_at m c h d e)) ?_)
  · exact congrArg (fun g => Ideal.exp (g * _)) ((lg_at m c h 0 d).trans (lg_entry m c h 0 d))
  · exact congrArg (fun g => Ideal.exp (g * _)) ((lg_at m c h 1 d).trans (lg_entry m c h 1 d))

/-- The kernel's gradient of `v` at a position and a head's channel, over the launched arguments. -/
theorem dv_kernel (c : Dev nD) (x0 : FVec Ideal S256x3072 .bf16) (x1 : FVec Ideal S1x2x4 .f32) (x2 x3 : FVec Ideal S4x128x128 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (l : Fin 256) (h : Fin 4) (d : Fin 128) (j : Fin 512) (hj : j.val = 128 * h.val + d.val) :
    ((dats m 0 c).arrAt 7 cfg0.N : Vec Ideal S256x512 .bf16) (ix2 l j)
      = (∑ e : Fin 128, x0 (ix2 l (col 512 (by omega) h e)) * wFwd (x1 (ix3 0 0 h)) l * x2 (ix3 h e d))
        + (∑ e : Fin 128, x0 (ix2 l (col 512 (by omega) h e)) * wBwd (x1 (ix3 0 1 h)) l * x3 (ix3 h e d)) := by
  subst e0 e1 e2 e3
  refine (dv_at m c l h d j hj).trans ((dv_block _ _ _ _ _ _ l d).trans ?_)
  refine congrArg₂ (· + ·)
    (Finset.sum_congr rfl fun e _ => congrArg₂ (· * ·) (congrArg₂ (· * ·) (k_at m c h l e _ rfl) ?_) (sf_at m c h e d))
    (Finset.sum_congr rfl fun e _ => congrArg₂ (· * ·) (congrArg₂ (· * ·) (k_at m c h l e _ rfl) ?_) (sb_at m c h e d))
  · exact congrArg (fun g => Ideal.exp (g * _)) ((lg_at m c h 0 e).trans (lg_entry m c h 0 e))
  · exact congrArg (fun g => Ideal.exp (g * _)) ((lg_at m c h 1 e).trans (lg_entry m c h 1 e))

/-- A column of the gradient arrays is a head's channel. -/
theorem head_channel (j : Fin 512) : ∃ (h : Fin 4) (d : Fin 128), j.val = 128 * h.val + d.val :=
  ⟨⟨j.val / 128, by omega⟩, ⟨j.val % 128, by omega⟩, by show j.val = 128 * (j.val / 128) + j.val % 128; omega⟩

/-- The kernel's array of `k`'s gradient is the reference's. -/
theorem dk_eq (c : Dev nD) (x0 : FVec Ideal S256x3072 .bf16) (x1 : FVec Ideal S1x2x4 .f32) (x2 x3 : FVec Ideal S4x128x128 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    ((dats m 0 c).arrAt 6 cfg0.N : Vec Ideal S256x512 .bf16) = Cert.ReferenceIdeal.Read.val_main_v88 (F := Ideal) x0 x1 x2 x3 := by
  refine funext fun (i : S256x512.Idx) => ?_
  rw [eq_ix2 i]
  obtain ⟨h, d, hj⟩ := head_channel (i 1)
  rw [dk_kernel m c x0 x1 x2 x3 e0 e1 e2 e3 (i 0) h d (i 1) hj,
    dk_ref x0 x1 x2 x3 (i 0) h d (i 1) hj (col 1024 (by omega) h) fun e => rfl, add_comm]
  exact congrArg₂ (· + ·) (congrArg (· * _) (Finset.sum_congr rfl fun e _ => mul_comm _ _))
    (congrArg (· * _) (Finset.sum_congr rfl fun e _ => mul_comm _ _))

/-- The kernel's array of `v`'s gradient is the reference's. -/
theorem dv_eq (c : Dev nD) (x0 : FVec Ideal S256x3072 .bf16) (x1 : FVec Ideal S1x2x4 .f32) (x2 x3 : FVec Ideal S4x128x128 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    ((dats m 0 c).arrAt 7 cfg0.N : Vec Ideal S256x512 .bf16) = Cert.ReferenceIdeal.Read.val_main_v90 (F := Ideal) x0 x1 x2 x3 := by
  refine funext fun (i : S256x512.Idx) => ?_
  rw [eq_ix2 i]
  obtain ⟨h, d, hj⟩ := head_channel (i 1)
  rw [dv_kernel m c x0 x1 x2 x3 e0 e1 e2 e3 (i 0) h d (i 1) hj,
    dv_ref x0 x1 x2 x3 (i 0) h d (i 1) hj (col 512 (by omega) h) fun e => rfl, add_comm]
  exact congrArg₂ (· + ·) (Finset.sum_congr rfl fun e _ => mul_comm _ _) (Finset.sum_congr rfl fun e _ => mul_comm _ _)

end Cert.Ctx

end
-- ==== Proof.CtxClaims.lean ====
/-
  The claims about the context's state gradients, assembled: the runs, and the equality of the two results.
-/
module

public import proofs.«01_k».proof.Defs
public import proofs.«01_k».proof.Proof.Gen.Kernel.Frame
public import proofs.«01_k».proof.Proof.CtxEqual
public import proofs.«01_k».proof.Proof.Gen.ReferenceIdeal.Run
public import Idealize.ShloMosaic.Lib.Quiescent

@[expose] public section

noncomputable section

namespace Cert.Ctx

open Idealize.ShloMosaic Idealize.ShloMosaic.TcCoe Idealize.SL.Sem

/-- The kernel runs, leaves its arguments and every semaphore as they were. -/
theorem frame_kernel : Cert.quiescent_Kernel := fun m ρ _ => Cert.Kernel.Gen.frame m ρ

/-- The same of the kernel read over the extended reals. -/
theorem frame_ideal : Cert.quiescent_KernelIdeal := fun m ρ _ => Cert.KernelIdeal.Gen.frame m ρ

/-- The reference runs and leaves its arguments as they were; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Over the extended reals the kernel's gradients of `k` and `v` are the reference's. -/
theorem value : Cert.algebraic_KernelIdeal_ReferenceIdeal := by
  intro m ρ m' ρ' _ hagree
  refine ⟨fun c => (Cert.KernelIdeal.Gen.dats m 0 c).arrAt 6 Cert.KernelIdeal.cfg0.N,
    fun c => (Cert.KernelIdeal.Gen.dats m 0 c).arrAt 7 Cert.KernelIdeal.cfg0.N, ?_, ?_⟩
  · exact (θ_run Cert.KernelIdeal.defs _ _).mono (fun _ h c => ⟨(h c).1, (h c).2.1, (h c).2.2.2⟩)
      (Cert.KernelIdeal.Value.run_blocks (F := Ideal) m ρ)
  · refine (θ_run Cert.ReferenceIdeal.defs _ _).mono (fun _ h c => ?_) (Cert.ReferenceIdeal.Value.run (F := Ideal) m' ρ')
    have h0 := h c
    have a := hagree c
    refine ⟨h0.1.trans ((Cert.ReferenceIdeal.Read.val_main_v88_eq _).trans (dk_eq m c _ _ _ _ ?_ ?_ ?_ ?_).symm),
      h0.2.1.trans ((Cert.ReferenceIdeal.Read.val_main_v90_eq _).trans (dv_eq m c _ _ _ _ ?_ ?_ ?_ ?_).symm), h0.2.2⟩
    · exact a.1.symm
    · exact a.2.1.symm
    · exact a.2.2.1.symm
    · exact a.2.2.2.symm
    · exact a.1.symm
    · exact a.2.1.symm
    · exact a.2.2.1.symm
    · exact a.2.2.2.symm

end Cert.Ctx

end
-- ==== Proof.MlpKit.lean ====
/-
  What the squared-ReLU pass's runs are stated over: the program up to the call, the blocks of its operands at a point, the
  two conditions of the body, the buffers by name, and the counters of the copies that the body starts.
-/
module

public import proofs.«01_k».proof.Proof.Gen.Kernel2Ideal.Skeleton
public import proofs.«01_k».proof.Proof.Gen.Kernel2Ideal.Frame

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Propositions about one device's share of the machine. -/
abbrev Held (F : FTy → Type) : Type _ := sProp (MT nD τ sig Unit (Elt F) ℕ (Pipeline.UD sig nD τ) ℕ)

variable (m : (ℓ : Loc nD τ sig) → Buf (Elt F) ℓ) (ρ : Dev nD → PrngReg)

set_option maxHeartbeats 800000 in
/-- The program runs its host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! An operand's buffer holds its block when a point starts, if the body leaves the block as it was. -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1080000 in
/-- A run that ends as the proof data say leaves every argument as it was. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 6).trans (((dats 0 c).arrAt_in 6 rfl _).trans ((hA c 6).trans (V_main_arg8 m c)))⟩) h

/-- The body's branch of the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The body's branch of the last point. -/
abbrev cond0_1 (i : grid0.Coords) : Prop := (Scalar.cmpi .ne (Scalar.extui (Scalar.cmpi .eq (BitVec.ofNat 32 (i 0).val) 15#32)) 0#32) = 1#1
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, e0]
    word_cmp
   : ∀ t : Fin grid0.N, cond0_1 (grid0.coords t) ↔ t.val % 16 = 15)

/-! A buffer of each result, to state its contents through. -/

abbrev VO0_7 : View sig .tc .vmem S256x1024 .f32 := (Memref.whole cc0_stg7_0 : Memref sig .tc .vmem S256x1024 .f32).view
abbrev VO0_8 : View sig .tc .vmem S256x1024 .bf16 := (Memref.whole cc0_stg8_0 : Memref sig .tc .vmem S256x1024 .bf16).view
abbrev VO0_9 : View sig .tc .vmem S256x4096 .bf16 := (Memref.whole cc0_stg9_0 : Memref sig .tc .vmem S256x4096 .bf16).view
abbrev VO0_10 : View sig .tc .vmem S256x4096 .bf16 := (Memref.whole cc0_stg10_0 : Memref sig .tc .vmem S256x4096 .bf16).view
abbrev VO0_11 : View sig .tc .vmem S256x1024 .bf16 := (Memref.whole cc0_stg11_0 : Memref sig .tc .vmem S256x1024 .bf16).view
abbrev VO0_12 : View sig .tc .vmem S1x1024 .f32 := (Memref.whole cc0_stg12_0 : Memref sig .tc .vmem S1x1024 .f32).view
abbrev VO0_13 : View sig .tc .vmem S1x1024 .f32 := (Memref.whole cc0_stg13_0 : Memref sig .tc .vmem S1x1024 .f32).view
abbrev VO0_14 : View sig .tc .vmem S1x1024 .f32 := (Memref.whole cc0_stg14_0 : Memref sig .tc .vmem S1x1024 .f32).view
abbrev VO0_15 : View sig .tc .vmem S1x1024 .f32 := (Memref.whole cc0_stg15_0 : Memref sig .tc .vmem S1x1024 .f32).view
abbrev VO0_16 : View sig .tc .vmem S1x1024 .f32 := (Memref.whole cc0_stg16_0 : Memref sig .tc .vmem S1x1024 .f32).view
abbrev VO0_17 : View sig .tc .vmem S1x1024 .f32 := (Memref.whole cc0_stg17_0 : Memref sig .tc .vmem S1x1024 .f32).view

/-! The buffers of a point. -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1024 .f32 := win0_17.stage (cfg0.slots t 17)
abbrev hs0_17 (t : Fin cfg0.N) : (ms0_17 t).IsWhole := hstage0_17 ((cfg0.slots t 17).cast nbuf0_17)

/-! The scratch buffers, and the parts of the two matrices that the body copies there. -/

abbrev scM0_0 : Memref sig .tc .vmem S4x1024x1024 .bf16 := Memref.whole cc0_scratch0
abbrev scM0_1 : Memref sig .tc .vmem S4x1024x1024 .bf16 := Memref.whole cc0_scratch1
abbrev scM0_2 : Memref sig .tc .vmem S256x4096 .f32 := Memref.whole cc0_scratch2
abbrev VS0_0 : View sig .tc .vmem S4x1024x1024 .bf16 := scM0_0.view
abbrev VS0_1 : View sig .tc .vmem S4x1024x1024 .bf16 := scM0_1.view
abbrev hbM0_0 : Memref sig .tc .hbm S8x256x1024 .bf16 := Memref.whole main_v9
abbrev hbM0_1 : Memref sig .tc .hbm S8x256x1024 .bf16 := Memref.whole main_v11
abbrev hbM0_2 : Memref sig .tc .hbm S8x256x1024 .bf16 := Memref.whole main_v13
abbrev hbM0_3 : Memref sig .tc .hbm S8x256x1024 .bf16 := Memref.whole main_v15

/-- A part's contents, and the part held whole. -/
abbrev HbBuf0 (c : Dev nD) {sp : Space} {S : Shape} {e : EltTy} (M : Memref sig .tc sp S e) : Type := Buf (Elt F) (M.view.loc (c : Thread nD τ))
@[inherit_doc HbBuf0]
abbrev hbPt0 (c : Dev nD) {sp : Space} {S : Shape} {e : EltTy} (M : Memref sig .tc sp S e) (f : HbBuf0 (F := F) c M) : Held F :=
  M.view.loc (c : Thread nD τ) ↦{fullShare} f

/-- The counters of the 32 copies. -/
abbrev osem0 : Fin 32 → SemLoc sig := fun j => (![SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56] : Fin 32 → SemLoc sig) j
theorem ownSemFacts0 : Pipeline.OwnSemFacts spec0 osem0 := by decide

/-- The counters at zero, one by one. -/
theorem ownSems00_eq (c : Dev nD) :
    (Pipeline.ownSems0 (Ix := Unit) (Name := ℕ) (U := Pipeline.UD sig nD τ) (Lvl := ℕ) (Val := Elt F) (τ := τ) osem0 c : Held F)
      = iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The four parts of the matrices. -/
def H0 : Finset (Ref sig .tc) := {main_v9, main_v11, main_v13, main_v15}
theorem H0_sub : H0 ⊆ Pipeline.restRefs sig spec0 := by decide

/-- The four parts, one by one. -/
theorem hbmPts0_eq (c : Dev nD) :
    (bigSep H0 (fun b => ((c : Thread nD τ).loc b) ↦{fullShare} V m c b) : Held F) = iprop(hbPt0 c hbM0_0 (V m c main_v9) ∗ hbPt0 c hbM0_1 (V m c main_v11) ∗ hbPt0 c hbM0_2 (V m c main_v13) ∗ hbPt0 c hbM0_3 (V m c main_v15)) := by
  rw [BI.bigSep_eq_bigSepL_of_eq [main_v9, main_v11, main_v13, main_v15] (by decide) (by decide)]; rfl

end Cert.Mlp

end
-- ==== Proof.MlpPoint.lean ====
/-
  What one point of the squared-ReLU pass works on, what it leaves behind, and the statement that it does.
-/
module

public import proofs.«01_k».proof.Proof.MlpKit

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The buffers of one point: the inputs' and results' blocks, and the three scratch buffers. -/
structure Bufs where
  x1 : Memref sig .tc .vmem S256x1024 .f32
  hx1 : x1.IsWhole
  n2g : Memref sig .tc .vmem S1x1024 .f32
  hn2g : n2g.IsWhole
  sh2 : Memref sig .tc .vmem S1x1024 .f32
  hsh2 : sh2.IsWhole
  sc2 : Memref sig .tc .vmem S1x1024 .f32
  hsc2 : sc2.IsWhole
  g2 : Memref sig .tc .vmem S1x1024 .f32
  hg2 : g2.IsWhole
  fg : Memref sig .tc .vmem S1x1024 .f32
  hfg : fg.IsWhole
  tgt : Memref sig .tc .vmem S256x1024 .f32
  htgt : tgt.IsWhole
  dx1 : Memref sig .tc .vmem S256x1024 .f32
  hdx1 : dx1.IsWhole
  h2b : Memref sig .tc .vmem S256x1024 .bf16
  hh2b : h2b.IsWhole
  ab : Memref sig .tc .vmem S256x4096 .bf16
  hab : ab.IsWhole
  dub : Memref sig .tc .vmem S256x4096 .bf16
  hdub : dub.IsWhole
  dmb : Memref sig .tc .vmem S256x1024 .bf16
  hdmb : dmb.IsWhole
  dsc : Memref sig .tc .vmem S1x1024 .f32
  hdsc : dsc.IsWhole
  dsh : Memref sig .tc .vmem S1x1024 .f32
  hdsh : dsh.IsWhole
  dg2 : Memref sig .tc .vmem S1x1024 .f32
  hdg2 : dg2.IsWhole
  dn2 : Memref sig .tc .vmem S1x1024 .f32
  hdn2 : dn2.IsWhole
  dfg : Memref sig .tc .vmem S1x1024 .f32
  hdfg : dfg.IsWhole
  loss : Memref sig .tc .vmem S1x1024 .f32
  hloss : loss.IsWhole
  w1s : Memref sig .tc .vmem S4x1024x1024 .bf16
  hw1s : w1s.IsWhole
  w2s : Memref sig .tc .vmem S4x1024x1024 .bf16
  hw2s : w2s.IsWhole
  rs : Memref sig .tc .vmem S256x4096 .f32
  hrs : rs.IsWhole

/-- The values of the inputs' blocks. -/
structure Ins (F : FTy → Type) where
  x1 : Vec F S256x1024 .f32
  n2g : Vec F S1x1024 .f32
  sh2 : Vec F S1x1024 .f32
  sc2 : Vec F S1x1024 .f32
  g2 : Vec F S1x1024 .f32
  fg : Vec F S1x1024 .f32
  tgt : Vec F S256x1024 .f32

/-- The values of the results' blocks and of the two matrices held in scratch. -/
structure Outs (F : FTy → Type) where
  dx1 : Vec F S256x1024 .f32
  h2b : Vec F S256x1024 .bf16
  ab : Vec F S256x4096 .bf16
  dub : Vec F S256x4096 .bf16
  dmb : Vec F S256x1024 .bf16
  dsc : Vec F S1x1024 .f32
  dsh : Vec F S1x1024 .f32
  dg2 : Vec F S1x1024 .f32
  dn2 : Vec F S1x1024 .f32
  dfg : Vec F S1x1024 .f32
  loss : Vec F S1x1024 .f32
  w1s : Vec F S4x1024x1024 .bf16
  w2s : Vec F S4x1024x1024 .bf16

/-- What a point writes, buffer by buffer, the last store first. -/
structure Pieces (F : FTy → Type) where
  dx1 : List (View.Piece (Elt F) S256x1024 .f32)
  h2b : List (View.Piece (Elt F) S256x1024 .bf16)
  ab : List (View.Piece (Elt F) S256x4096 .bf16)
  dub : List (View.Piece (Elt F) S256x4096 .bf16)
  dmb : List (View.Piece (Elt F) S256x1024 .bf16)
  dsc : List (View.Piece (Elt F) S1x1024 .f32)
  dsh : List (View.Piece (Elt F) S1x1024 .f32)
  dg2 : List (View.Piece (Elt F) S1x1024 .f32)
  dn2 : List (View.Piece (Elt F) S1x1024 .f32)
  dfg : List (View.Piece (Elt F) S1x1024 .f32)
  loss : List (View.Piece (Elt F) S1x1024 .f32)
  w1s : List (View.Piece (Elt F) S4x1024x1024 .bf16)
  w2s : List (View.Piece (Elt F) S4x1024x1024 .bf16)
  rs : List (View.Piece (Elt F) S256x4096 .f32)

/-- The writes cover each result's block. -/
structure Pieces.Cover (L : Pieces F) : Prop where
  dx1 : ∀ y : S256x1024.Idx, ∃ p ∈ L.dx1, y ∈ p.1.set
  h2b : ∀ y : S256x1024.Idx, ∃ p ∈ L.h2b, y ∈ p.1.set
  ab : ∀ y : S256x4096.Idx, ∃ p ∈ L.ab, y ∈ p.1.set
  dub : ∀ y : S256x4096.Idx, ∃ p ∈ L.dub, y ∈ p.1.set
  dmb : ∀ y : S256x1024.Idx, ∃ p ∈ L.dmb, y ∈ p.1.set
  dsc : ∀ y : S1x1024.Idx, ∃ p ∈ L.dsc, y ∈ p.1.set
  dsh : ∀ y : S1x1024.Idx, ∃ p ∈ L.dsh, y ∈ p.1.set
  dg2 : ∀ y : S1x1024.Idx, ∃ p ∈ L.dg2, y ∈ p.1.set
  dn2 : ∀ y : S1x1024.Idx, ∃ p ∈ L.dn2, y ∈ p.1.set
  dfg : ∀ y : S1x1024.Idx, ∃ p ∈ L.dfg, y ∈ p.1.set
  loss : ∀ y : S1x1024.Idx, ∃ p ∈ L.loss, y ∈ p.1.set

/-- A result's block after the writes, whatever was there before. -/
def Pieces.read (L : Pieces F) (w1 w2 : Vec F S4x1024x1024 .bf16) : Outs F where
  dx1 := VO0_7.read (Elt F) (VO0_7.writes (Elt F) VO0_7.junk L.dx1)
  h2b := VO0_8.read (Elt F) (VO0_8.writes (Elt F) VO0_8.junk L.h2b)
  ab := VO0_9.read (Elt F) (VO0_9.writes (Elt F) VO0_9.junk L.ab)
  dub := VO0_10.read (Elt F) (VO0_10.writes (Elt F) VO0_10.junk L.dub)
  dmb := VO0_11.read (Elt F) (VO0_11.writes (Elt F) VO0_11.junk L.dmb)
  dsc := VO0_12.read (Elt F) (VO0_12.writes (Elt F) VO0_12.junk L.dsc)
  dsh := VO0_13.read (Elt F) (VO0_13.writes (Elt F) VO0_13.junk L.dsh)
  dg2 := VO0_14.read (Elt F) (VO0_14.writes (Elt F) VO0_14.junk L.dg2)
  dn2 := VO0_15.read (Elt F) (VO0_15.writes (Elt F) VO0_15.junk L.dn2)
  dfg := VO0_16.read (Elt F) (VO0_16.writes (Elt F) VO0_16.junk L.dfg)
  loss := VO0_17.read (Elt F) (VO0_17.writes (Elt F) VO0_17.junk L.loss)
  w1s := w1
  w2s := w2

/-- The two matrices after the first point's copies. -/
def Pieces.w1 (L : Pieces F) : Vec F S4x1024x1024 .bf16 := VS0_0.read (Elt F) (VS0_0.writes (Elt F) VS0_0.junk L.w1s)
@[inherit_doc Pieces.w1]
def Pieces.w2 (L : Pieces F) : Vec F S4x1024x1024 .bf16 := VS0_1.read (Elt F) (VS0_1.writes (Elt F) VS0_1.junk L.w2s)

/-- The 32 counters of the first point's copies, at zero. -/
def cells (c : Dev nD) : Held F :=
  Pipeline.ownSems0 (Ix := Unit) (Name := ℕ) (U := Pipeline.UD sig nD τ) (Lvl := ℕ) (Val := Elt F) (τ := τ) osem0 c

/-- The body on given buffers. -/
abbrev body (i : grid0.Coords) (M : Bufs) : Prog (TpuEff nD τ sig (Elt F) Λ₀ .tc) PUnit :=
  cc0_mlp i M.x1 M.hx1 M.n2g M.hn2g M.sh2 M.hsh2 M.sc2 M.hsc2 M.g2 M.hg2 M.fg M.hfg (Memref.whole main_v9) (Memref.isWhole_whole _) (Memref.whole main_v11) (Memref.isWhole_whole _)
    (Memref.whole main_v13) (Memref.isWhole_whole _) (Memref.whole main_v15) (Memref.isWhole_whole _)
    M.tgt M.htgt M.dx1 M.hdx1 M.h2b M.hh2b M.ab M.hab M.dub M.hdub M.dmb M.hdmb M.dsc M.hdsc M.dsh M.hdsh M.dg2 M.hdg2 M.dn2 M.hdn2 M.dfg M.hdfg M.loss M.hloss M.w1s M.hw1s M.w2s M.hw2s M.rs M.hrs cc0_scratch3

/-- The first point: the copies fill the two matrices, the sums start at zero. The body runs from the inputs' blocks
    to the writes `L`, and leaves the inputs as they were. -/
def RunFirst (c : Dev nD) (i : grid0.Coords) (M : Bufs) (X : Ins F) (f0 : HbBuf0 (F := F) c hbM0_0) (f1 : HbBuf0 (F := F) c hbM0_1) (f2 : HbBuf0 (F := F) c hbM0_2) (f3 : HbBuf0 (F := F) c hbM0_3)
    (L : Pieces F) : Prop :=
  ∀ (W : Waits sig Unit) (K : PUnit → Held F),
    iprop(owns (c : Thread nD τ) M.x1 fullShare X.x1 ∗
      owns (c : Thread nD τ) M.n2g fullShare X.n2g ∗
      owns (c : Thread nD τ) M.sh2 fullShare X.sh2 ∗
      owns (c : Thread nD τ) M.sc2 fullShare X.sc2 ∗
      owns (c : Thread nD τ) M.g2 fullShare X.g2 ∗
      owns (c : Thread nD τ) M.fg fullShare X.fg ∗
      owns (c : Thread nD τ) M.tgt fullShare X.tgt ∗
      (∃ d, owns (c : Thread nD τ) M.dx1 fullShare d) ∗
      (∃ d, owns (c : Thread nD τ) M.h2b fullShare d) ∗
      (∃ d, owns (c : Thread nD τ) M.ab fullShare d) ∗
      (∃ d, owns (c : Thread nD τ) M.dub fullShare d) ∗
      (∃ d, owns (c : Thread nD τ) M.dmb fullShare d) ∗
      (∃ d, owns (c : Thread nD τ) M.dsc fullShare d) ∗
      (∃ d, owns (c : Thread nD τ) M.dsh fullShare d) ∗
      (∃ d, owns (c : Thread nD τ) M.dg2 fullShare d) ∗
      (∃ d, owns (c : Thread nD τ) M.dn2 fullShare d) ∗
      (∃ d, owns (c : Thread nD τ) M.dfg fullShare d) ∗
      (∃ d, owns (c : Thread nD τ) M.loss fullShare d) ∗
      (∃ d, owns (c : Thread nD τ) M.w1s fullShare d) ∗
      (∃ d, owns (c : Thread nD τ) M.w2s fullShare d) ∗
      (∃ d, owns (c : Thread nD τ) M.rs fullShare d) ∗
      cells c ∗
      hbPt0 c hbM0_0 f0 ∗ hbPt0 c hbM0_1 f1 ∗ hbPt0 c hbM0_2 f2 ∗ hbPt0 c hbM0_3 f3 ∗
      owes (c : Thread nD τ) 0 W ∗
      (iprop(owns (c : Thread nD τ) M.x1 fullShare X.x1 ∗
        owns (c : Thread nD τ) M.n2g fullShare X.n2g ∗
        owns (c : Thread nD τ) M.sh2 fullShare X.sh2 ∗
        owns (c : Thread nD τ) M.sc2 fullShare X.sc2 ∗
        owns (c : Thread nD τ) M.g2 fullShare X.g2 ∗
        owns (c : Thread nD τ) M.fg fullShare X.fg ∗
        owns (c : Thread nD τ) M.tgt fullShare X.tgt ∗
        (∃ f, M.dx1.view.loc (c : Thread nD τ) ↦[M.dx1.view.set]{fullShare} M.dx1.view.writes (Elt F) f L.dx1) ∗
        (∃ f, M.h2b.view.loc (c : Thread nD τ) ↦[M.h2b.view.set]{fullShare} M.h2b.view.writes (Elt F) f L.h2b) ∗
        (∃ f, M.ab.view.loc (c : Thread nD τ) ↦[M.ab.view.set]{fullShare} M.ab.view.writes (Elt F) f L.ab) ∗
        (∃ f, M.dub.view.loc (c : Thread nD τ) ↦[M.dub.view.set]{fullShare} M.dub.view.writes (Elt F) f L.dub) ∗
        (∃ f, M.dmb.view.loc (c : Thread nD τ) ↦[M.dmb.view.set]{fullShare} M.dmb.view.writes (Elt F) f L.dmb) ∗
        (∃ f, M.dsc.view.loc (c : Thread nD τ) ↦[M.dsc.view.set]{fullShare} M.dsc.view.writes (Elt F) f L.dsc) ∗
        (∃ f, M.dsh.view.loc (c : Thread nD τ) ↦[M.dsh.view.set]{fullShare} M.dsh.view.writes (Elt F) f L.dsh) ∗
        (∃ f, M.dg2.view.loc (c : Thread nD τ) ↦[M.dg2.view.set]{fullShare} M.dg2.view.writes (Elt F) f L.dg2) ∗
        (∃ f, M.dn2.view.loc (c : Thread nD τ) ↦[M.dn2.view.set]{fullShare} M.dn2.view.writes (Elt F) f L.dn2) ∗
        (∃ f, M.dfg.view.loc (c : Thread nD τ) ↦[M.dfg.view.set]{fullShare} M.dfg.view.writes (Elt F) f L.dfg) ∗
        (∃ f, M.loss.view.loc (c : Thread nD τ) ↦[M.loss.view.set]{fullShare} M.loss.view.writes (Elt F) f L.loss) ∗
        (∃ f, M.w1s.view.loc (c : Thread nD τ) ↦[M.w1s.view.set]{fullShare} M.w1s.view.writes (Elt F) f L.w1s) ∗
        (∃ f, M.w2s.view.loc (c : Thread nD τ) ↦[M.w2s.view.set]{fullShare} M.w2s.view.writes (Elt F) f L.w2s) ∗
        (∃ f, M.rs.view.loc (c : Thread nD τ) ↦[M.rs.view.set]{fullShare} M.rs.view.writes (Elt F) f L.rs) ∗
        cells c ∗
        hbPt0 c hbM0_0 f0 ∗ hbPt0 c hbM0_1 f1 ∗ hbPt0 c hbM0_2 f2 ∗ hbPt0 c hbM0_3 f3 ∗
        (∃ W', owes (c : Thread nD τ) 0 W')) -∗ K ⟨⟩))
    ⊢ wp frame (wpE (defs₀ (F := F)) Variants.none c none) Set.univ (body i M) K

/-- A later point: the sums go on from `P`, whose two matrices are still in scratch. The body runs from the inputs' blocks
    to the writes `L`, and leaves the inputs as they were. -/
def RunLater (c : Dev nD) (i : grid0.Coords) (M : Bufs) (X : Ins F) (P : Outs F)
    (L : Pieces F) : Prop :=
  ∀ (W : Waits sig Unit) (K : PUnit → Held F),
    iprop(owns (c : Thread nD τ) M.x1 fullShare X.x1 ∗
      owns (c : Thread nD τ) M.n2g fullShare X.n2g ∗
      owns (c : Thread nD τ) M.sh2 fullShare X.sh2 ∗
      owns (c : Thread nD τ) M.sc2 fullShare X.sc2 ∗
      owns (c : Thread nD τ) M.g2 fullShare X.g2 ∗
      owns (c : Thread nD τ) M.fg fullShare X.fg ∗
      owns (c : Thread nD τ) M.tgt fullShare X.tgt ∗
      (∃ d, owns (c : Thread nD τ) M.dx1 fullShare d) ∗
      (∃ d, owns (c : Thread nD τ) M.h2b fullShare d) ∗
      (∃ d, owns (c : Thread nD τ) M.ab fullShare d) ∗
      (∃ d, owns (c : Thread nD τ) M.dub fullShare d) ∗
      (∃ d, owns (c : Thread nD τ) M.dmb fullShare d) ∗
      owns (c : Thread nD τ) M.dsc fullShare P.dsc ∗
      owns (c : Thread nD τ) M.dsh fullShare P.dsh ∗
      owns (c : Thread nD τ) M.dg2 fullShare P.dg2 ∗
      owns (c : Thread nD τ) M.dn2 fullShare P.dn2 ∗
      owns (c : Thread nD τ) M.dfg fullShare P.dfg ∗
      owns (c : Thread nD τ) M.loss fullShare P.loss ∗
      owns (c : Thread nD τ) M.w1s fullShare P.w1s ∗
      owns (c : Thread nD τ) M.w2s fullShare P.w2s ∗
      (∃ d, owns (c : Thread nD τ) M.rs fullShare d) ∗
      owes (c : Thread nD τ) 0 W ∗
      (iprop(owns (c : Thread nD τ) M.x1 fullShare X.x1 ∗
        owns (c : Thread nD τ) M.n2g fullShare X.n2g ∗
        owns (c : Thread nD τ) M.sh2 fullShare X.sh2 ∗
        owns (c : Thread nD τ) M.sc2 fullShare X.sc2 ∗
        owns (c : Thread nD τ) M.g2 fullShare X.g2 ∗
        owns (c : Thread nD τ) M.fg fullShare X.fg ∗
        owns (c : Thread nD τ) M.tgt fullShare X.tgt ∗
        (∃ f, M.dx1.view.loc (c : Thread nD τ) ↦[M.dx1.view.set]{fullShare} M.dx1.view.writes (Elt F) f L.dx1) ∗
        (∃ f, M.h2b.view.loc (c : Thread nD τ) ↦[M.h2b.view.set]{fullShare} M.h2b.view.writes (Elt F) f L.h2b) ∗
        (∃ f, M.ab.view.loc (c : Thread nD τ) ↦[M.ab.view.set]{fullShare} M.ab.view.writes (Elt F) f L.ab) ∗
        (∃ f, M.dub.view.loc (c : Thread nD τ) ↦[M.dub.view.set]{fullShare} M.dub.view.writes (Elt F) f L.dub) ∗
        (∃ f, M.dmb.view.loc (c : Thread nD τ) ↦[M.dmb.view.set]{fullShare} M.dmb.view.writes (Elt F) f L.dmb) ∗
        (∃ f, M.dsc.view.loc (c : Thread nD τ) ↦[M.dsc.view.set]{fullShare} M.dsc.view.writes (Elt F) f L.dsc) ∗
        (∃ f, M.dsh.view.loc (c : Thread nD τ) ↦[M.dsh.view.set]{fullShare} M.dsh.view.writes (Elt F) f L.dsh) ∗
        (∃ f, M.dg2.view.loc (c : Thread nD τ) ↦[M.dg2.view.set]{fullShare} M.dg2.view.writes (Elt F) f L.dg2) ∗
        (∃ f, M.dn2.view.loc (c : Thread nD τ) ↦[M.dn2.view.set]{fullShare} M.dn2.view.writes (Elt F) f L.dn2) ∗
        (∃ f, M.dfg.view.loc (c : Thread nD τ) ↦[M.dfg.view.set]{fullShare} M.dfg.view.writes (Elt F) f L.dfg) ∗
        (∃ f, M.loss.view.loc (c : Thread nD τ) ↦[M.loss.view.set]{fullShare} M.loss.view.writes (Elt F) f L.loss) ∗
        owns (c : Thread nD τ) M.w1s fullShare P.w1s ∗
        owns (c : Thread nD τ) M.w2s fullShare P.w2s ∗
        (∃ f, M.rs.view.loc (c : Thread nD τ) ↦[M.rs.view.set]{fullShare} M.rs.view.writes (Elt F) f L.rs) ∗
        (∃ W', owes (c : Thread nD τ) 0 W')) -∗ K ⟨⟩))
    ⊢ wp frame (wpE (defs₀ (F := F)) Variants.none c none) Set.univ (body i M) K

end Cert.Mlp

end
-- ==== Proof.MlpCopy.lean ====
/-
  A copy into a row block of one matrix of a stack, `stack.at[k, rows]`, as a write of that box of the stack.
-/
module

public import proofs.«01_k».proof.Proof.MlpKit
public import Idealize.ShloMosaic.Lib.Writes
public import Idealize.ShloMosaic.Lib.Pointwise
public import Idealize.ShloMosaic.Lib.ValueLayout

@[expose] public section

noncomputable section

namespace Cert.Mlp

open Cert.Kernel2Ideal Cert.Kernel2Ideal.Gen
open Idealize.ShloMosaic Idealize.ShloMosaic.TcCoe Idealize.ShloMosaic.Tactic

variable {F : FTy → Type} [FloatOps F]

/-- A row block given the unit axis that the copy's destination has dropped. -/
def raise (w : Vec F S256x1024 .bf16) : Vec F S1x256x1024 .bf16 :=
  fun x => w ((Shape.reshapeEquiv squeezes_S1x256x1024_S256x1024.numel_eq).symm x)

/-- The raised block at a row and a column. -/
theorem raise_apply (w : Vec F S256x1024 .bf16) (r : Fin 256) (q : Fin 1024) : raise w (ix3 0 r q) = w (ix2 r q) := by
  unfold raise
  refine congrArg w ?_
  rw [Equiv.symm_apply_eq]
  exact (ValueIdx.reshapeEquiv_ix2_1ab _ r q).symm

/-- A write through a block whose unit axis is dropped is a write of the block's box. -/
theorem write_dropped {sp : Space} (M : Memref sig .tc sp S4x1024x1024 .bf16) (o : Fin 3 → ℕ) (inb) (hr)
    (f : M.view.ty.Contents (Elt F)) (w : Vec F S256x1024 .bf16) :
    View.write (Elt F) ((M.slice (Rect.unit o S1x256x1024.size inb) hr).squeeze S256x1024 squeezes_S1x256x1024_S256x1024).view f w Finset.univ
      = M.view.writes (Elt F) f [⟨Rect.unit o S1x256x1024.size inb, raise w⟩] :=
  View.write_reshape_univ (M.view.slice (Rect.unit o S1x256x1024.size inb)) squeezes_S1x256x1024_S256x1024.numel_eq f w

/-- A further such write, after others. -/
theorem dropped_cons {sp : Space} (M : Memref sig .tc sp S4x1024x1024 .bf16) {o : Fin 3 → ℕ} {inb} (hr)
    {f : M.view.ty.Contents (Elt F)} (g : M.view.ty.Contents (Elt F)) {ps : List (View.Piece (Elt F) S4x1024x1024 .bf16)} (w : Vec F S256x1024 .bf16)
    (hg : g = M.view.writes (Elt F) f ps) :
    View.write (Elt F) ((M.slice (Rect.unit o S1x256x1024.size inb) hr).squeeze S256x1024 squeezes_S1x256x1024_S256x1024).view g w Finset.univ
      = M.view.writes (Elt F) f (⟨Rect.unit o S1x256x1024.size inb, raise w⟩ :: ps) := by
  subst hg
  exact (write_dropped M o inb hr _ w).trans (View.writes_append ..).symm

/-- The sixteen copies that fill a stack, one after the other, as one list of boxes, the last one first. -/
theorem copies_dropped {sp : Space} (M : Memref sig .tc sp S4x1024x1024 .bf16) (f : M.view.ty.Contents (Elt F))
    (w0 w1 w2 w3 w4 w5 w6 w7 w8 w9 w10 w11 w12 w13 w14 w15 : Vec F S256x1024 .bf16) (h0 h1 h2 h3 h4 h5 h6 h7 h8 h9 h10 h11 h12 h13 h14 h15) :
    (View.write (Elt F) ((M.slice (Rect.unit ![3, 768, 0] S1x256x1024.size inb_S4x1024x1024_S1x256x1024_3_768_0) h15).squeeze S256x1024 squeezes_S1x256x1024_S256x1024).view
      (View.write (Elt F) ((M.slice (Rect.unit ![3, 256, 0] S1x256x1024.size inb_S4x1024x1024_S1x256x1024_3_256_0) h14).squeeze S256x1024 squeezes_S1x256x1024_S256x1024).view
      (View.write (Elt F) ((M.slice (Rect.unit ![2, 768, 0] S1x256x1024.size inb_S4x1024x1024_S1x256x1024_2_768_0) h13).squeeze S256x1024 squeezes_S1x256x1024_S256x1024).view
      (View.write (Elt F) ((M.slice (Rect.unit ![2, 256, 0] S1x256x1024.size inb_S4x1024x1024_S1x256x1024_2_256_0) h12).squeeze S256x1024 squeezes_S1x256x1024_S256x1024).view
      (View.write (Elt F) ((M.slice (Rect.unit ![1, 768, 0] S1x256x1024.size inb_S4x1024x1024_S1x256x1024_1_768_0) h11).squeeze S256x1024 squeezes_S1x256x1024_S256x1024).view
      (View.write (Elt F) ((M.slice (Rect.unit ![1, 256, 0] S1x256x1024.size inb_S4x1024x1024_S1x256x1024_1_256_0) h10).squeeze S256x1024 squeezes_S1x256x1024_S256x1024).view
      (View.write (Elt F) ((M.slice (Rect.unit ![0, 768, 0] S1x256x1024.size inb_S4x1024x1024_S1x256x1024_0_768_0) h9).squeeze S256x1024 squeezes_S1x256x1024_S256x1024).view
      (View.write (Elt F) ((M.slice (Rect.unit ![0, 256, 0] S1x256x1024.size inb_S4x1024x1024_S1x256x1024_0_256_0) h8).squeeze S256x1024 squeezes_S1x256x1024_S256x1024).view
      (View.write (Elt F) ((M.slice (Rect.unit ![3, 512, 0] S1x256x1024.size inb_S4x1024x1024_S1x256x1024_3_512_0) h7).squeeze S256x1024 squeezes_S1x256x1024_S256x1024).view
      (View.write (Elt F) ((M.slice (Rect.unit ![3, 0, 0] S1x256x1024.size inb_S4x1024x1024_S1x256x1024_3_0_0) h6).squeeze S256x1024 squeezes_S1x256x1024_S256x1024).view
      (View.write (Elt F) ((M.slice (Rect.unit ![2, 512, 0] S1x256x1024.size inb_S4x1024x1024_S1x256x1024_2_512_0) h5).squeeze S256x1024 squeezes_S1x256x1024_S256x1024).view
      (View.write (Elt F) ((M.slice (Rect.unit ![2, 0, 0] S1x256x1024.size inb_S4x1024x1024_S1x256x1024_2_0_0) h4).squeeze S256x1024 squeezes_S1x256x1024_S256x1024).view
      (View.write (Elt F) ((M.slice (Rect.unit ![1, 512, 0] S1x256x1024.size inb_S4x1024x1024_S1x256x1024_1_512_0) h3).squeeze S256x1024 squeezes_S1x256x1024_S256x1024).view
      (View.write (Elt F) ((M.slice (Rect.unit ![1, 0, 0] S1x256x1024.size inb_S4x1024x1024_S1x256x1024_1_0_0) h2).squeeze S256x1024 squeezes_S1x256x1024_S256x1024).view
      (View.write (Elt F) ((M.slice (Rect.unit ![0, 512, 0] S1x256x1024.size inb_S4x1024x1024_S1x256x1024_0_512_0) h1).squeeze S256x1024 squeezes_S1x256x1024_S256x1024).view
      (View.write (Elt F) ((M.slice (Rect.unit ![0, 0, 0] S1x256x1024.size inb_S4x1024x1024_S1x256x1024_0_0_0) h0).squeeze S256x1024 squeezes_S1x256x1024_S256x1024).view
      f w0 Finset.univ) w1 Finset.univ) w2 Finset.univ) w3 Finset.univ) w4 Finset.univ) w5 Finset.univ) w6 Finset.univ) w7 Finset.univ) w8 Finset.univ) w9 Finset.univ) w10 Finset.univ) w11 Finset.univ) w12 Finset.univ) w13 Finset.univ) w14 Finset.univ) w15 Finset.univ)
      = M.view.writes (Elt F) f
      [⟨Rect.unit ![3, 768, 0] S1x256x1024.size inb_S4x1024x1024_S1x256x1024_3_768_0, raise w15⟩,
        ⟨Rect.unit ![3, 256, 0] S1x256x1024.size inb_S4x1024x1024_S1x256x1024_3_256_0, raise w14⟩,
        ⟨Rect.unit ![2, 768, 0] S1x256x1024.size inb_S4x1024x1024_S1x256x1024_2_768_0, raise w13⟩,
        ⟨Rect.unit ![2, 256, 0] S1x256x1024.size inb_S4x1024x1024_S1x256x1024_2_256_0, raise w12⟩,
        ⟨Rect.unit ![1, 768, 0] S1x256x1024.size inb_S4x1024x1024_S1x256x1024_1_768_0, raise w11⟩,
        ⟨Rect.unit ![1, 256, 0] S1x256x1024.size inb_S4x1024x1024_S1x256x1024_1_256_0, raise w10⟩,
        ⟨Rect.unit ![0, 768, 0] S1x256x1024.size inb_S4x1024x1024_S1x256x1024_0_768_0, raise w9⟩,
        ⟨Rect.unit ![0, 256, 0] S1x256x1024.size inb_S4x1024x1024_S1x256x1024_0_256_0, raise w8⟩,
        ⟨Rect.unit ![3, 512, 0] S1x256x1024.size inb_S4x1024x1024_S1x256x1024_3_512_0, raise w7⟩,
        ⟨Rect.unit ![3, 0, 0] S1x256x1024.size inb_S4x1024x1024_S1x256x1024_3_0_0, raise w6⟩,
        ⟨Rect.unit ![2, 512, 0] S1x256x1024.size inb_S4x1024x1024_S1x256x1024_2_512_0, raise w5⟩,
        ⟨Rect.unit ![2, 0, 0] S1x256x1024.size inb_S4x1024x1024_S1x256x1024_2_0_0, raise w4⟩,
        ⟨Rect.unit ![1, 512, 0] S1x256x1024.size inb_S4x1024x1024_S1x256x1024_1_512_0, raise w3⟩,
        ⟨Rect.unit ![1, 0, 0] S1x256x1024.size inb_S4x1024x1024_S1x256x1024_1_0_0, raise w2⟩,
        ⟨Rect.unit ![0, 512, 0] S1x256x1024.size inb_S4x1024x1024_S1x256x1024_0_512_0, raise w1⟩,
        ⟨Rect.unit ![0, 0, 0] S1x256x1024.size inb_S4x1024x1024_S1x256x1024_0_0_0, raise w0⟩] := by
  exact dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ (dropped_cons M _ _ _ rfl)))))))))))))))

end Cert.Mlp

end
-- ==== Proof.MlpRunFirst.lean ====
/-
  The first point of the grid, run.
-/
module

public import proofs.«01_k».proof.Proof.MlpPoint
public import proofs.«01_k».proof.Proof.MlpCopy

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

set_option sl_exec.dmaWindow true in
set_option sl_exec.dmaWindowSet true in
set_option sl_exec.rejoinHeartbeats 400000 in
set_option maxHeartbeats 0 in
/-- The first point of the grid, run. -/
def runFirst (c : Dev nD) (i : grid0.Coords) (M : Bufs) (h0 : cond0_0 i) (h1 : ¬cond0_1 i) (X : Ins F)
    (f0 : HbBuf0 (F := F) c hbM0_0) (f1 : HbBuf0 (F := F) c hbM0_1) (f2 : HbBuf0 (F := F) c hbM0_2) (f3 : HbBuf0 (F := F) c hbM0_3) : { L : Pieces F // RunFirst c i M X f0 f1 f2 f3 L } := by
  refine ⟨⟨?_, ?_, ?_, ?_, ?_, ?_, ?_, ?_, ?_, ?_, ?_, ?_, ?_, ?_⟩, fun W K => ?run⟩
  case run =>
    unfold body
    unfold cells; simp only [ownSems00_eq]
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨Hx1, ⟨%vn2g, %en2g, Hn2g⟩, ⟨%vsh2, %esh2, Hsh2⟩, ⟨%vsc2, %esc2, Hsc2⟩, ⟨%vg2, %eg2, Hg2⟩, ⟨%vfg, %efg, Hfg⟩, ⟨%vtgt, %etgt, Htgt⟩, ⟨%ddx1, %vdx1, -, Hdx1⟩, ⟨%dh2b, %vh2b, -, Hh2b⟩, ⟨%dab, %vab, -, Hab⟩, ⟨%ddub, %vdub, -, Hdub⟩, ⟨%ddmb, %vdmb, -, Hdmb⟩, ⟨%ddsc, %vdsc, -, Hdsc⟩, ⟨%ddsh, %vdsh, -, Hdsh⟩, ⟨%ddg2, %vdg2, -, Hdg2⟩, ⟨%ddn2, %vdn2, -, Hdn2⟩, ⟨%ddfg, %vdfg, -, Hdfg⟩, ⟨%dloss, %vloss, -, Hloss⟩, ⟨%dw1s, %vw1s, -, Hw1s⟩, ⟨%dw2s, %vw2s, -, Hw2s⟩, ⟨%drs, %vrs, -, Hrs⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hf0, Hf1, Hf2, Hf3, HW, Hk⟩
    obtain rfl := M.hn2g.eq_unread en2g
    obtain rfl := M.hsh2.eq_unread esh2
    obtain rfl := M.hsc2.eq_unread esc2
    obtain rfl := M.hg2.eq_unread eg2
    obtain rfl := M.hfg.eq_unread efg
    obtain rfl := M.htgt.eq_unread etgt
    sl_exec (disch := first | sl_exact h0 | sl_exact h1)
    rw [copies_dropped, copies_dropped]
    icases Hx1 with ⟨%vx1, %ex1, Hx1⟩
    obtain rfl := M.hx1.eq_unread ex1
    sl_exec (disch := first | sl_exact h0 | sl_exact h1)
    sl_step
    iapply Hk
    isplitl [Hx1]
    · iexists _; isplitr; · ipureintro; exact M.hx1.read_unread _
      iexact Hx1
    isplitl [Hn2g]
    · iexists _; isplitr; · ipureintro; exact M.hn2g.read_unread _
      iexact Hn2g
    isplitl [Hsh2]
    · iexists _; isplitr; · ipureintro; exact M.hsh2.read_unread _
      iexact Hsh2
    isplitl [Hsc2]
    · iexists _; isplitr; · ipureintro; exact M.hsc2.read_unread _
      iexact Hsc2
    isplitl [Hg2]
    · iexists _; isplitr; · ipureintro; exact M.hg2.read_unread _
      iexact Hg2
    isplitl [Hfg]
    · iexists _; isplitr; · ipureintro; exact M.hfg.read_unread _
      iexact Hfg
    isplitl [Htgt]
    · iexists _; isplitr; · ipureintro; exact M.htgt.read_unread _
      iexact Htgt
    isplitl [Hdx1]; · iexists _; iexact Hdx1
    isplitl [Hh2b]; · iexists _; iexact Hh2b
    isplitl [Hab]; · iexists _; iexact Hab
    isplitl [Hdub]; · iexists _; iexact Hdub
    isplitl [Hdmb]; · iexists _; iexact Hdmb
    isplitl [Hdsc]; · iexists _; iexact Hdsc
    isplitl [Hdsh]; · iexists _; iexact Hdsh
    isplitl [Hdg2]; · iexists _; iexact Hdg2
    isplitl [Hdn2]; · iexists _; iexact Hdn2
    isplitl [Hdfg]; · iexists _; iexact Hdfg
    isplitl [Hloss]; · iexists _; iexact Hloss
    isplitl [Hw1s]; · iexists _; iexact Hw1s
    isplitl [Hw2s]; · iexists _; iexact Hw2s
    isplitl [Hrs]; · iexists _; iexact Hrs
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      iexact Hq31
    isplitl [Hf0]; · iexact Hf0
    isplitl [Hf1]; · iexact Hf1
    isplitl [Hf2]; · iexact Hf2
    isplitl [Hf3]; · iexact Hf3
    iexists _; iexact HW

end Cert.Mlp

end
-- ==== Proof.MlpRunMid.lean ====
/-
  A point that is neither the first nor the last, run.
-/
module

public import proofs.«01_k».proof.Proof.MlpPoint

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

set_option maxHeartbeats 0 in
/-- A point that is neither the first nor the last, run. -/
def runMid (c : Dev nD) (i : grid0.Coords) (M : Bufs) (h0 : ¬cond0_0 i) (h1 : ¬cond0_1 i) (X : Ins F)
    (P : Outs F) : { L : Pieces F // RunLater c i M X P L } := by
  refine ⟨⟨?_, ?_, ?_, ?_, ?_, ?_, ?_, ?_, ?_, ?_, ?_, [], [], ?_⟩, fun W K => ?run⟩
  case run =>
    unfold body
    simp only [cc0_mlp_eq_skeleton]; unfold cc0_mlp_skel
    simp only [k0_part14_eq_skeleton, k0_part15_eq_skeleton, k0_part16_eq_skeleton, k0_part17_eq_skeleton, k0_part18_eq_skeleton, k0_part19_eq_skeleton, k0_part20_eq_skeleton]
    unfold owns
    iintro ⟨⟨%vx1, %ex1, Hx1⟩, ⟨%vn2g, %en2g, Hn2g⟩, ⟨%vsh2, %esh2, Hsh2⟩, ⟨%vsc2, %esc2, Hsc2⟩, ⟨%vg2, %eg2, Hg2⟩, ⟨%vfg, %efg, Hfg⟩, ⟨%vtgt, %etgt, Htgt⟩, ⟨%ddx1, %vdx1, -, Hdx1⟩, ⟨%dh2b, %vh2b, -, Hh2b⟩, ⟨%dab, %vab, -, Hab⟩, ⟨%ddub, %vdub, -, Hdub⟩, ⟨%ddmb, %vdmb, -, Hdmb⟩, ⟨%vdsc, %edsc, Hdsc⟩, ⟨%vdsh, %edsh, Hdsh⟩, ⟨%vdg2, %edg2, Hdg2⟩, ⟨%vdn2, %edn2, Hdn2⟩, ⟨%vdfg, %edfg, Hdfg⟩, ⟨%vloss, %eloss, Hloss⟩, ⟨%vw1s, %ew1s, Hw1s⟩, ⟨%vw2s, %ew2s, Hw2s⟩, ⟨%drs, %vrs, -, Hrs⟩, HW, Hk⟩
    obtain rfl := M.hx1.eq_unread ex1
    obtain rfl := M.hn2g.eq_unread en2g
    obtain rfl := M.hsh2.eq_unread esh2
    obtain rfl := M.hsc2.eq_unread esc2
    obtain rfl := M.hg2.eq_unread eg2
    obtain rfl := M.hfg.eq_unread efg
    obtain rfl := M.htgt.eq_unread etgt
    obtain rfl := M.hdsc.eq_unread edsc
    obtain rfl := M.hdsh.eq_unread edsh
    obtain rfl := M.hdg2.eq_unread edg2
    obtain rfl := M.hdn2.eq_unread edn2
    obtain rfl := M.hdfg.eq_unread edfg
    obtain rfl := M.hloss.eq_unread eloss
    obtain rfl := M.hw1s.eq_unread ew1s
    obtain rfl := M.hw2s.eq_unread ew2s
    sl_exec (disch := first | sl_exact h0 | sl_exact h1)
    sl_step
    iapply Hk
    isplitl [Hx1]
    · iexists _; isplitr; · ipureintro; exact M.hx1.read_unread _
      iexact Hx1
    isplitl [Hn2g]
    · iexists _; isplitr; · ipureintro; exact M.hn2g.read_unread _
      iexact Hn2g
    isplitl [Hsh2]
    · iexists _; isplitr; · ipureintro; exact M.hsh2.read_unread _
      iexact Hsh2
    isplitl [Hsc2]
    · iexists _; isplitr; · ipureintro; exact M.hsc2.read_unread _
      iexact Hsc2
    isplitl [Hg2]
    · iexists _; isplitr; · ipureintro; exact M.hg2.read_unread _
      iexact Hg2
    isplitl [Hfg]
    · iexists _; isplitr; · ipureintro; exact M.hfg.read_unread _
      iexact Hfg
    isplitl [Htgt]
    · iexists _; isplitr; · ipureintro; exact M.htgt.read_unread _
      iexact Htgt
    isplitl [Hdx1]; · iexists _; iexact Hdx1
    isplitl [Hh2b]; · iexists _; iexact Hh2b
    isplitl [Hab]; · iexists _; iexact Hab
    isplitl [Hdub]; · iexists _; iexact Hdub
    isplitl [Hdmb]; · iexists _; iexact Hdmb
    isplitl [Hdsc]; · iexists _; iexact Hdsc
    isplitl [Hdsh]; · iexists _; iexact Hdsh
    isplitl [Hdg2]; · iexists _; iexact Hdg2
    isplitl [Hdn2]; · iexists _; iexact Hdn2
    isplitl [Hdfg]; · iexists _; iexact Hdfg
    isplitl [Hloss]; · iexists _; iexact Hloss
    isplitl [Hw1s]
    · iexists _; isplitr; · ipureintro; exact M.hw1s.read_unread _
      iexact Hw1s
    isplitl [Hw2s]
    · iexists _; isplitr; · ipureintro; exact M.hw2s.read_unread _
      iexact Hw2s
    isplitl [Hrs]; · iexists _; iexact Hrs
    iexists _; iexact HW

end Cert.Mlp

end
-- ==== Proof.MlpRunLast.lean ====
/-
  The last point of the grid, run.
-/
module

public import proofs.«01_k».proof.Proof.MlpPoint

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

set_option maxHeartbeats 0 in
/-- The last point of the grid, run. -/
def runLast (c : Dev nD) (i : grid0.Coords) (M : Bufs) (h0 : ¬cond0_0 i) (h1 : cond0_1 i) (X : Ins F)
    (P : Outs F) : { L : Pieces F // RunLater c i M X P L } := by
  refine ⟨⟨?_, ?_, ?_, ?_, ?_, ?_, ?_, ?_, ?_, ?_, ?_, [], [], ?_⟩, fun W K => ?run⟩
  case run =>
    unfold body
    simp only [cc0_mlp_eq_skeleton]; unfold cc0_mlp_skel
    simp only [k0_part14_eq_skeleton, k0_part15_eq_skeleton, k0_part16_eq_skeleton, k0_part17_eq_skeleton, k0_part18_eq_skeleton, k0_part19_eq_skeleton, k0_part20_eq_skeleton]
    unfold owns
    iintro ⟨⟨%vx1, %ex1, Hx1⟩, ⟨%vn2g, %en2g, Hn2g⟩, ⟨%vsh2, %esh2, Hsh2⟩, ⟨%vsc2, %esc2, Hsc2⟩, ⟨%vg2, %eg2, Hg2⟩, ⟨%vfg, %efg, Hfg⟩, ⟨%vtgt, %etgt, Htgt⟩, ⟨%ddx1, %vdx1, -, Hdx1⟩, ⟨%dh2b, %vh2b, -, Hh2b⟩, ⟨%dab, %vab, -, Hab⟩, ⟨%ddub, %vdub, -, Hdub⟩, ⟨%ddmb, %vdmb, -, Hdmb⟩, ⟨%vdsc, %edsc, Hdsc⟩, ⟨%vdsh, %edsh, Hdsh⟩, ⟨%vdg2, %edg2, Hdg2⟩, ⟨%vdn2, %edn2, Hdn2⟩, ⟨%vdfg, %edfg, Hdfg⟩, ⟨%vloss, %eloss, Hloss⟩, ⟨%vw1s, %ew1s, Hw1s⟩, ⟨%vw2s, %ew2s, Hw2s⟩, ⟨%drs, %vrs, -, Hrs⟩, HW, Hk⟩
    obtain rfl := M.hx1.eq_unread ex1
    obtain rfl := M.hn2g.eq_unread en2g
    obtain rfl := M.hsh2.eq_unread esh2
    obtain rfl := M.hsc2.eq_unread esc2
    obtain rfl := M.hg2.eq_unread eg2
    obtain rfl := M.hfg.eq_unread efg
    obtain rfl := M.htgt.eq_unread etgt
    obtain rfl := M.hdsc.eq_unread edsc
    obtain rfl := M.hdsh.eq_unread edsh
    obtain rfl := M.hdg2.eq_unread edg2
    obtain rfl := M.hdn2.eq_unread edn2
    obtain rfl := M.hdfg.eq_unread edfg
    obtain rfl := M.hloss.eq_unread eloss
    obtain rfl := M.hw1s.eq_unread ew1s
    obtain rfl := M.hw2s.eq_unread ew2s
    sl_exec (disch := first | sl_exact h0 | sl_exact h1)
    sl_step
    iapply Hk
    isplitl [Hx1]
    · iexists _; isplitr; · ipureintro; exact M.hx1.read_unread _
      iexact Hx1
    isplitl [Hn2g]
    · iexists _; isplitr; · ipureintro; exact M.hn2g.read_unread _
      iexact Hn2g
    isplitl [Hsh2]
    · iexists _; isplitr; · ipureintro; exact M.hsh2.read_unread _
      iexact Hsh2
    isplitl [Hsc2]
    · iexists _; isplitr; · ipureintro; exact M.hsc2.read_unread _
      iexact Hsc2
    isplitl [Hg2]
    · iexists _; isplitr; · ipureintro; exact M.hg2.read_unread _
      iexact Hg2
    isplitl [Hfg]
    · iexists _; isplitr; · ipureintro; exact M.hfg.read_unread _
      iexact Hfg
    isplitl [Htgt]
    · iexists _; isplitr; · ipureintro; exact M.htgt.read_unread _
      iexact Htgt
    isplitl [Hdx1]; · iexists _; iexact Hdx1
    isplitl [Hh2b]; · iexists _; iexact Hh2b
    isplitl [Hab]; · iexists _; iexact Hab
    isplitl [Hdub]; · iexists _; iexact Hdub
    isplitl [Hdmb]; · iexists _; iexact Hdmb
    isplitl [Hdsc]; · iexists _; iexact Hdsc
    isplitl [Hdsh]; · iexists _; iexact Hdsh
    isplitl [Hdg2]; · iexists _; iexact Hdg2
    isplitl [Hdn2]; · iexists _; iexact Hdn2
    isplitl [Hdfg]; · iexists _; iexact Hdfg
    isplitl [Hloss]; · iexists _; iexact Hloss
    isplitl [Hw1s]
    · iexists _; isplitr; · ipureintro; exact M.hw1s.read_unread _
      iexact Hw1s
    isplitl [Hw2s]
    · iexists _; isplitr; · ipureintro; exact M.hw2s.read_unread _
      iexact Hw2s
    isplitl [Hrs]; · iexists _; iexact Hrs
    iexists _; iexact HW

end Cert.Mlp

end
-- ==== Proof.MlpData.lean ====
/-
  What each point of the squared-ReLU pass leaves, as a recursion over the points, and the data of its pipeline.
-/
module

public import proofs.«01_k».proof.Proof.MlpRunFirst
public import proofs.«01_k».proof.Proof.MlpRunMid
public import proofs.«01_k».proof.Proof.MlpRunLast

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- The buffers of point `t`. -/
abbrev bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t,
    scM0_0, Memref.isWhole_whole _, scM0_1, Memref.isWhole_whole _, scM0_2, Memref.isWhole_whole _⟩

/-- The inputs' blocks at point `t`. -/
abbrev blocks (c : Dev nD) (t : Fin cfg0.N) : Ins F :=
  ⟨iblk m c 0 t, iblk m c 1 t, iblk m c 2 t, iblk m c 3 t, iblk m c 4 t, iblk m c 5 t, iblk m c 6 t⟩

/-- The first point's writes. -/
abbrev firstRun (c : Dev nD) (t : Fin cfg0.N) (h0 : t.val % 16 = 0) :
    { L : Pieces F // RunFirst c (grid0.coords t) (bufs t) (blocks m c t) (V m c main_v9) (V m c main_v11) (V m c main_v13) (V m c main_v15) L } :=
  runFirst c (grid0.coords t) (bufs t) ((hcond0_0 t).mpr h0) (fun h => by have := (hcond0_1 t).mp h; omega) (blocks m c t) _ _ _ _

/-- A middle point's writes, after `P`. -/
abbrev midRun (c : Dev nD) (t : Fin cfg0.N) (h0 : t.val % 16 ≠ 0) (h1 : t.val % 16 ≠ 15) (P : Outs F) :
    { L : Pieces F // RunLater c (grid0.coords t) (bufs t) (blocks m c t) P L } :=
  runMid c (grid0.coords t) (bufs t) (fun h => h0 ((hcond0_0 t).mp h)) (fun h => h1 ((hcond0_1 t).mp h)) (blocks m c t) P

/-- The last point's writes, after `P`. -/
abbrev lastRun (c : Dev nD) (t : Fin cfg0.N) (h0 : t.val % 16 ≠ 0) (h1 : t.val % 16 = 15) (P : Outs F) :
    { L : Pieces F // RunLater c (grid0.coords t) (bufs t) (blocks m c t) P L } :=
  runLast c (grid0.coords t) (bufs t) (fun h => h0 ((hcond0_0 t).mp h)) ((hcond0_1 t).mpr h1) (blocks m c t) P

/-- The writes of the first point cover the results' blocks. -/
theorem first_cover (c : Dev nD) (t : Fin cfg0.N) (h0 : t.val % 16 = 0) : ((firstRun m c t h0).1).Cover where
  dx1 := View.cover_of_tiledL (firstRun m c t h0).1.dx1 S256x1024.size (by sl_kernel_rfl)
  h2b := View.cover_of_tiledL (firstRun m c t h0).1.h2b S256x1024.size (by sl_kernel_rfl)
  ab := View.cover_of_tiledL (firstRun m c t h0).1.ab S256x1024.size (by sl_kernel_rfl)
  dub := View.cover_of_tiledL (firstRun m c t h0).1.dub S256x1024.size (by sl_kernel_rfl)
  dmb := View.cover_of_tiledL (firstRun m c t h0).1.dmb S256x1024.size (by sl_kernel_rfl)
  dsc := View.cover_of_tiledL (firstRun m c t h0).1.dsc S1x1024.size (by sl_kernel_rfl)
  dsh := View.cover_of_tiledL (firstRun m c t h0).1.dsh S1x1024.size (by sl_kernel_rfl)
  dg2 := View.cover_of_tiledL (firstRun m c t h0).1.dg2 S1x1024.size (by sl_kernel_rfl)
  dn2 := View.cover_of_tiledL (firstRun m c t h0).1.dn2 S1x1024.size (by sl_kernel_rfl)
  dfg := View.cover_of_tiledL (firstRun m c t h0).1.dfg S1x1024.size (by sl_kernel_rfl)
  loss := View.cover_of_tiledL (firstRun m c t h0).1.loss S1x1024.size (by sl_kernel_rfl)

/-- The writes of the points between cover the results' blocks. -/
theorem mid_cover (c : Dev nD) (t : Fin cfg0.N) (h0 : t.val % 16 ≠ 0) (h1 : t.val % 16 ≠ 15) (P : Outs F) : ((midRun m c t h0 h1 P).1).Cover where
  dx1 := View.cover_of_tiledL (midRun m c t h0 h1 P).1.dx1 S256x1024.size (by sl_kernel_rfl)
  h2b := View.cover_of_tiledL (midRun m c t h0 h1 P).1.h2b S256x1024.size (by sl_kernel_rfl)
  ab := View.cover_of_tiledL (midRun m c t h0 h1 P).1.ab S256x1024.size (by sl_kernel_rfl)
  dub := View.cover_of_tiledL (midRun m c t h0 h1 P).1.dub S256x1024.size (by sl_kernel_rfl)
  dmb := View.cover_of_tiledL (midRun m c t h0 h1 P).1.dmb S256x1024.size (by sl_kernel_rfl)
  dsc := View.cover_of_tiledL (midRun m c t h0 h1 P).1.dsc S1x1024.size (by sl_kernel_rfl)
  dsh := View.cover_of_tiledL (midRun m c t h0 h1 P).1.dsh S1x1024.size (by sl_kernel_rfl)
  dg2 := View.cover_of_tiledL (midRun m c t h0 h1 P).1.dg2 S1x1024.size (by sl_kernel_rfl)
  dn2 := View.cover_of_tiledL (midRun m c t h0 h1 P).1.dn2 S1x1024.size (by sl_kernel_rfl)
  dfg := View.cover_of_tiledL (midRun m c t h0 h1 P).1.dfg S1x1024.size (by sl_kernel_rfl)
  loss := View.cover_of_tiledL (midRun m c t h0 h1 P).1.loss S1x1024.size (by sl_kernel_rfl)

/-- The writes of the last point cover the results' blocks. -/
theorem last_cover (c : Dev nD) (t : Fin cfg0.N) (h0 : t.val % 16 ≠ 0) (h1 : t.val % 16 = 15) (P : Outs F) : ((lastRun m c t h0 h1 P).1).Cover where
  dx1 := View.cover_of_tiledL (lastRun m c t h0 h1 P).1.dx1 S256x1024.size (by sl_kernel_rfl)
  h2b := View.cover_of_tiledL (lastRun m c t h0 h1 P).1.h2b S256x1024.size (by sl_kernel_rfl)
  ab := View.cover_of_tiledL (lastRun m c t h0 h1 P).1.ab S256x1024.size (by sl_kernel_rfl)
  dub := View.cover_of_tiledL (lastRun m c t h0 h1 P).1.dub S256x1024.size (by sl_kernel_rfl)
  dmb := View.cover_of_tiledL (lastRun m c t h0 h1 P).1.dmb S256x1024.size (by sl_kernel_rfl)
  dsc := View.cover_of_tiledL (lastRun m c t h0 h1 P).1.dsc S1x1024.size (by sl_kernel_rfl)
  dsh := View.cover_of_tiledL (lastRun m c t h0 h1 P).1.dsh S1x1024.size (by sl_kernel_rfl)
  dg2 := View.cover_of_tiledL (lastRun m c t h0 h1 P).1.dg2 S1x1024.size (by sl_kernel_rfl)
  dn2 := View.cover_of_tiledL (lastRun m c t h0 h1 P).1.dn2 S1x1024.size (by sl_kernel_rfl)
  dfg := View.cover_of_tiledL (lastRun m c t h0 h1 P).1.dfg S1x1024.size (by sl_kernel_rfl)
  loss := View.cover_of_tiledL (lastRun m c t h0 h1 P).1.loss S1x1024.size (by sl_kernel_rfl)

/-- The first point's copies fill the matrix. -/
theorem first_cover_w1s (c : Dev nD) (t : Fin cfg0.N) (h0 : t.val % 16 = 0) (y : S4x1024x1024.Idx) :
    ∃ p ∈ (firstRun m c t h0).1.w1s, y ∈ p.1.set :=
  View.cover_of_tiledL (firstRun m c t h0).1.w1s S1x256x1024.size (by sl_kernel_rfl) y

/-- The first point's copies fill the matrix. -/
theorem first_cover_w2s (c : Dev nD) (t : Fin cfg0.N) (h0 : t.val % 16 = 0) (y : S4x1024x1024.Idx) :
    ∃ p ∈ (firstRun m c t h0).1.w2s, y ∈ p.1.set :=
  View.cover_of_tiledL (firstRun m c t h0).1.w2s S1x256x1024.size (by sl_kernel_rfl) y

/-- What the results' buffers and the two matrices hold after point `n`. -/
def outsAt (c : Dev nD) : (n : ℕ) → n < cfg0.N → Outs F
  | 0, hn => (firstRun m c ⟨0, hn⟩ rfl).1.read (firstRun m c ⟨0, hn⟩ rfl).1.w1 (firstRun m c ⟨0, hn⟩ rfl).1.w2
  | n + 1, hn =>
    have h0 : (n + 1) % 16 ≠ 0 := by have : n + 1 < 16 := lt_of_lt_of_eq hn (show cfg0.N = 16 from N_0); omega
    if h1 : (n + 1) % 16 = 15 then
      (lastRun m c ⟨n + 1, hn⟩ h0 h1 (outsAt c n (Nat.lt_of_succ_lt hn))).1.read
        (outsAt c n (Nat.lt_of_succ_lt hn)).w1s (outsAt c n (Nat.lt_of_succ_lt hn)).w2s
    else
      (midRun m c ⟨n + 1, hn⟩ h0 h1 (outsAt c n (Nat.lt_of_succ_lt hn))).1.read
        (outsAt c n (Nat.lt_of_succ_lt hn)).w1s (outsAt c n (Nat.lt_of_succ_lt hn)).w2s

/-- What the point before `t` left. -/
abbrev prior (c : Dev nD) (t : Fin cfg0.N) : Outs F := outsAt m c (t.val - 1) (Nat.lt_of_le_of_lt (Nat.sub_le _ _) t.isLt)

theorem outsAt_first (c : Dev nD) (t : Fin cfg0.N) (h0 : t.val % 16 = 0) :
    outsAt m c t.val t.isLt = (firstRun m c t h0).1.read (firstRun m c t h0).1.w1 (firstRun m c t h0).1.w2 := by
  have hN : t.val < 16 := lt_of_lt_of_eq t.isLt (show cfg0.N = 16 from N_0)
  obtain ⟨n, hn⟩ := t
  cases n with
  | zero => rfl
  | succ n => exact absurd h0 (by dsimp only at hN ⊢; omega)

theorem outsAt_mid (c : Dev nD) (t : Fin cfg0.N) (h0 : t.val % 16 ≠ 0) (h1 : t.val % 16 ≠ 15) :
    outsAt m c t.val t.isLt = (midRun m c t h0 h1 (prior m c t)).1.read (prior m c t).w1s (prior m c t).w2s := by
  obtain ⟨n, hn⟩ := t
  cases n with
  | zero => exact absurd rfl h0
  | succ n => exact (dif_neg h1).trans rfl

theorem outsAt_last (c : Dev nD) (t : Fin cfg0.N) (h0 : t.val % 16 ≠ 0) (h1 : t.val % 16 = 15) :
    outsAt m c t.val t.isLt = (lastRun m c t h0 h1 (prior m c t)).1.read (prior m c t).w1s (prior m c t).w2s := by
  obtain ⟨n, hn⟩ := t
  cases n with
  | zero => exact absurd rfl h0
  | succ n => exact (dif_pos h1).trans rfl

/-- The weights where the launch left them. -/
def weights (c : Dev nD) : Held F := bigSep H0 (fun b => ((c : Thread nD τ).loc b) ↦{fullShare} V m c b)

/-- What is held between the points beside the windows: before the first point whatever the launch gives, later the two
    matrices at what the point before left. -/
def between (c : Dev nD) : (n : ℕ) → n ≤ cfg0.N → Held F
  | 0, _ => Pipeline.ΦD osem0 spec0 H0 (V m) c
  | n + 1, hn => iprop(iprop(owns (c : Thread nD τ) scM0_0 fullShare (outsAt m c n hn).w1s
      ∗ owns (c : Thread nD τ) scM0_1 fullShare (outsAt m c n hn).w2s ∗ (∃ d, owns (c : Thread nD τ) scM0_2 fullShare d))
      ∗ (∃ r, prngReg c r) ∗ cells c ∗ weights m c)

/-- The launch's part, item by item. -/
theorem launch_eq (c : Dev nD) : (Pipeline.ΦD osem0 spec0 H0 (V m) c : Held F)
    = iprop(iprop((∃ d, owns (c : Thread nD τ) scM0_0 fullShare d) ∗ (∃ d, owns (c : Thread nD τ) scM0_1 fullShare d)
      ∗ (∃ d, owns (c : Thread nD τ) scM0_2 fullShare d)) ∗ (∃ r, prngReg c r) ∗ cells c ∗ weights m c) := by
  rw [Pipeline.ΦD_eq, scopedRest0_eq]; simp only [scM0_0, scM0_1, scM0_2, owns_whole, cells, weights]; try rfl

theorem between_succ (c : Dev nD) (n : ℕ) (h : n < cfg0.N) :
    between m c (n + 1) h = iprop(iprop(owns (c : Thread nD τ) scM0_0 fullShare (outsAt m c n h).w1s
      ∗ owns (c : Thread nD τ) scM0_1 fullShare (outsAt m c n h).w2s ∗ (∃ d, owns (c : Thread nD τ) scM0_2 fullShare d))
      ∗ (∃ r, prngReg c r) ∗ cells c ∗ weights m c) := rfl

theorem between_pos (c : Dev nD) (n : ℕ) (h : n ≤ cfg0.N) (hz : n ≠ 0) :
    between m c n h = iprop(iprop(owns (c : Thread nD τ) scM0_0 fullShare (outsAt m c (n - 1) (by omega)).w1s
      ∗ owns (c : Thread nD τ) scM0_1 fullShare (outsAt m c (n - 1) (by omega)).w2s ∗ (∃ d, owns (c : Thread nD τ) scM0_2 fullShare d))
      ∗ (∃ r, prngReg c r) ∗ cells c ∗ weights m c) := by
  cases n with
  | zero => exact absurd rfl hz
  | succ n => rfl

/-- The pipeline's data: the arrays as the region finds them, each buffer after each point, and what is held between. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).dx1
    | ⟨8, _⟩ => (outsAt m c t.val t.isLt).h2b
    | ⟨9, _⟩ => (outsAt m c t.val t.isLt).ab
    | ⟨10, _⟩ => (outsAt m c t.val t.isLt).dub
    | ⟨11, _⟩ => (outsAt m c t.val t.isLt).dmb
    | ⟨12, _⟩ => (outsAt m c t.val t.isLt).dsc
    | ⟨13, _⟩ => (outsAt m c t.val t.isLt).dsh
    | ⟨14, _⟩ => (outsAt m c t.val t.isLt).dg2
    | ⟨15, _⟩ => (outsAt m c t.val t.isLt).dn2
    | ⟨16, _⟩ => (outsAt m c t.val t.isLt).dfg
    | ⟨17, _⟩ => (outsAt m c t.val t.isLt).loss
    | ⟨_ + 18, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem phi_castSucc (c : Dev nD) (t : Fin cfg0.N) : (dats m 0 c).Φ t.castSucc = between m c t.val (Nat.le_of_lt t.isLt) := by
  dsimp only [dats]; exact Pipeline.Dat.Φ_castSucc (between m c) t

theorem after_x1 (c : Dev nD) (t : Fin cfg0.N) : (dats m 0 c).after 0 t = iblk m c 0 t := by dsimp only [dats]
theorem after_n2g (c : Dev nD) (t : Fin cfg0.N) : (dats m 0 c).after 1 t = iblk m c 1 t := by dsimp only [dats]
theorem after_sh2 (c : Dev nD) (t : Fin cfg0.N) : (dats m 0 c).after 2 t = iblk m c 2 t := by dsimp only [dats]
theorem after_sc2 (c : Dev nD) (t : Fin cfg0.N) : (dats m 0 c).after 3 t = iblk m c 3 t := by dsimp only [dats]
theorem after_g2 (c : Dev nD) (t : Fin cfg0.N) : (dats m 0 c).after 4 t = iblk m c 4 t := by dsimp only [dats]
theorem after_fg (c : Dev nD) (t : Fin cfg0.N) : (dats m 0 c).after 5 t = iblk m c 5 t := by dsimp only [dats]
theorem after_tgt (c : Dev nD) (t : Fin cfg0.N) : (dats m 0 c).after 6 t = iblk m c 6 t := by dsimp only [dats]
theorem after_dx1 (c : Dev nD) (t : Fin cfg0.N) : (dats m 0 c).after 7 t = (outsAt m c t.val t.isLt).dx1 := by dsimp only [dats]
theorem after_h2b (c : Dev nD) (t : Fin cfg0.N) : (dats m 0 c).after 8 t = (outsAt m c t.val t.isLt).h2b := by dsimp only [dats]
theorem after_ab (c : Dev nD) (t : Fin cfg0.N) : (dats m 0 c).after 9 t = (outsAt m c t.val t.isLt).ab := by dsimp only [dats]
theorem after_dub (c : Dev nD) (t : Fin cfg0.N) : (dats m 0 c).after 10 t = (outsAt m c t.val t.isLt).dub := by dsimp only [dats]
theorem after_dmb (c : Dev nD) (t : Fin cfg0.N) : (dats m 0 c).after 11 t = (outsAt m c t.val t.isLt).dmb := by dsimp only [dats]
theorem after_dsc (c : Dev nD) (t : Fin cfg0.N) : (dats m 0 c).after 12 t = (outsAt m c t.val t.isLt).dsc := by dsimp only [dats]
theorem after_dsh (c : Dev nD) (t : Fin cfg0.N) : (dats m 0 c).after 13 t = (outsAt m c t.val t.isLt).dsh := by dsimp only [dats]
theorem after_dg2 (c : Dev nD) (t : Fin cfg0.N) : (dats m 0 c).after 14 t = (outsAt m c t.val t.isLt).dg2 := by dsimp only [dats]
theorem after_dn2 (c : Dev nD) (t : Fin cfg0.N) : (dats m 0 c).after 15 t = (outsAt m c t.val t.isLt).dn2 := by dsimp only [dats]
theorem after_dfg (c : Dev nD) (t : Fin cfg0.N) : (dats m 0 c).after 16 t = (outsAt m c t.val t.isLt).dfg := by dsimp only [dats]
theorem after_loss (c : Dev nD) (t : Fin cfg0.N) : (dats m 0 c).after 17 t = (outsAt m c t.val t.isLt).loss := by dsimp only [dats]

theorem before_x1 (c : Dev nD) (t : Fin cfg0.N) (d) : (dats m 0 c).before 0 t d = iblk m c 0 t :=
  before0_0_of m (dats m 0 c) (A_eq m c 0) (after_x1 m c) t d
theorem before_n2g (c : Dev nD) (t : Fin cfg0.N) (d) : (dats m 0 c).before 1 t d = iblk m c 1 t :=
  before0_1_of m (dats m 0 c) (A_eq m c 1) (after_n2g m c) t d
theorem before_sh2 (c : Dev nD) (t : Fin cfg0.N) (d) : (dats m 0 c).before 2 t d = iblk m c 2 t :=
  before0_2_of m (dats m 0 c) (A_eq m c 2) (after_sh2 m c) t d
theorem before_sc2 (c : Dev nD) (t : Fin cfg0.N) (d) : (dats m 0 c).before 3 t d = iblk m c 3 t :=
  before0_3_of m (dats m 0 c) (A_eq m c 3) (after_sc2 m c) t d
theorem before_g2 (c : Dev nD) (t : Fin cfg0.N) (d) : (dats m 0 c).before 4 t d = iblk m c 4 t :=
  before0_4_of m (dats m 0 c) (A_eq m c 4) (after_g2 m c) t d
theorem before_fg (c : Dev nD) (t : Fin cfg0.N) (d) : (dats m 0 c).before 5 t d = iblk m c 5 t :=
  before0_5_of m (dats m 0 c) (A_eq m c 5) (after_fg m c) t d
theorem before_tgt (c : Dev nD) (t : Fin cfg0.N) (d) : (dats m 0 c).before 6 t d = iblk m c 6 t :=
  before0_6_of m (dats m 0 c) (A_eq m c 6) (after_tgt m c) t d

/-! A sum's buffer is kept from point to point: it is written back only after the last. -/

theorem before_dsc (c : Dev nD) (t : Fin cfg0.N) (h0 : t.val % 16 ≠ 0) (d) : (dats m 0 c).before 12 t d = (prior m c t).dsc := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before_dsh (c : Dev nD) (t : Fin cfg0.N) (h0 : t.val % 16 ≠ 0) (d) : (dats m 0 c).before 13 t d = (prior m c t).dsh := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
theorem before_dg2 (c : Dev nD) (t : Fin cfg0.N) (h0 : t.val % 16 ≠ 0) (d) : (dats m 0 c).before 14 t d = (prior m c t).dg2 := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]
theorem before_dn2 (c : Dev nD) (t : Fin cfg0.N) (h0 : t.val % 16 ≠ 0) (d) : (dats m 0 c).before 15 t d = (prior m c t).dn2 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before_dfg (c : Dev nD) (t : Fin cfg0.N) (h0 : t.val % 16 ≠ 0) (d) : (dats m 0 c).before 16 t d = (prior m c t).dfg := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before_loss (c : Dev nD) (t : Fin cfg0.N) (h0 : t.val % 16 ≠ 0) (d) : (dats m 0 c).before 17 t d = (prior m c t).loss := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

end Cert.Mlp

end
-- ==== Proof.MlpFrame.lean ====
/-
  The squared-ReLU pass runs to the end: the body at every point, and the launch.
-/
module

public import proofs.«01_k».proof.Proof.MlpData
public import Idealize.ShloMosaic.Lib.Claim

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- What the body finds at point `t`. -/
def found (c : Dev nD) (t : Fin cfg0.N) : Held F :=
  iprop((dats m 0 c).Φ t.castSucc ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗
    (∃ d, owns (c : Thread nD τ) (ms0_4 t) fullShare ((dats m 0 c).before 4 t d)) ∗
    (∃ d, owns (c : Thread nD τ) (ms0_5 t) fullShare ((dats m 0 c).before 5 t d)) ∗
    (∃ d, owns (c : Thread nD τ) (ms0_6 t) fullShare ((dats m 0 c).before 6 t d)) ∗
    (∃ d, owns (c : Thread nD τ) (ms0_7 t) fullShare ((dats m 0 c).before 7 t d)) ∗
    (∃ d, owns (c : Thread nD τ) (ms0_8 t) fullShare ((dats m 0 c).before 8 t d)) ∗
    (∃ d, owns (c : Thread nD τ) (ms0_9 t) fullShare ((dats m 0 c).before 9 t d)) ∗
    (∃ d, owns (c : Thread nD τ) (ms0_10 t) fullShare ((dats m 0 c).before 10 t d)) ∗
    (∃ d, owns (c : Thread nD τ) (ms0_11 t) fullShare ((dats m 0 c).before 11 t d)) ∗
    (∃ d, owns (c : Thread nD τ) (ms0_12 t) fullShare ((dats m 0 c).before 12 t d)) ∗
    (∃ d, owns (c : Thread nD τ) (ms0_13 t) fullShare ((dats m 0 c).before 13 t d)) ∗
    (∃ d, owns (c : Thread nD τ) (ms0_14 t) fullShare ((dats m 0 c).before 14 t d)) ∗
    (∃ d, owns (c : Thread nD τ) (ms0_15 t) fullShare ((dats m 0 c).before 15 t d)) ∗
    (∃ d, owns (c : Thread nD τ) (ms0_16 t) fullShare ((dats m 0 c).before 16 t d)) ∗
    (∃ d, owns (c : Thread nD τ) (ms0_17 t) fullShare ((dats m 0 c).before 17 t d)))

/-- What it leaves. -/
def left (c : Dev nD) (t : Fin cfg0.N) : Held F :=
  iprop((dats m 0 c).Φ t.succ ∗ (dats m 0 c).owesAt () t.succ ∗
    owns (c : Thread nD τ) (ms0_0 t) fullShare ((dats m 0 c).after 0 t) ∗
    owns (c : Thread nD τ) (ms0_1 t) fullShare ((dats m 0 c).after 1 t) ∗
    owns (c : Thread nD τ) (ms0_2 t) fullShare ((dats m 0 c).after 2 t) ∗
    owns (c : Thread nD τ) (ms0_3 t) fullShare ((dats m 0 c).after 3 t) ∗
    owns (c : Thread nD τ) (ms0_4 t) fullShare ((dats m 0 c).after 4 t) ∗
    owns (c : Thread nD τ) (ms0_5 t) fullShare ((dats m 0 c).after 5 t) ∗
    owns (c : Thread nD τ) (ms0_6 t) fullShare ((dats m 0 c).after 6 t) ∗
    owns (c : Thread nD τ) (ms0_7 t) fullShare ((dats m 0 c).after 7 t) ∗
    owns (c : Thread nD τ) (ms0_8 t) fullShare ((dats m 0 c).after 8 t) ∗
    owns (c : Thread nD τ) (ms0_9 t) fullShare ((dats m 0 c).after 9 t) ∗
    owns (c : Thread nD τ) (ms0_10 t) fullShare ((dats m 0 c).after 10 t) ∗
    owns (c : Thread nD τ) (ms0_11 t) fullShare ((dats m 0 c).after 11 t) ∗
    owns (c : Thread nD τ) (ms0_12 t) fullShare ((dats m 0 c).after 12 t) ∗
    owns (c : Thread nD τ) (ms0_13 t) fullShare ((dats m 0 c).after 13 t) ∗
    owns (c : Thread nD τ) (ms0_14 t) fullShare ((dats m 0 c).after 14 t) ∗
    owns (c : Thread nD τ) (ms0_15 t) fullShare ((dats m 0 c).after 15 t) ∗
    owns (c : Thread nD τ) (ms0_16 t) fullShare ((dats m 0 c).after 16 t) ∗
    owns (c : Thread nD τ) (ms0_17 t) fullShare ((dats m 0 c).after 17 t))

set_option maxHeartbeats 24000000 in
/-- The body at the first point, from its run `L`. -/
theorem sound_first (c : Dev nD) (t : Fin cfg0.N) (h0 : t.val = 0) (L : Pieces F) (hc : L.Cover)
    (hw1 : ∀ y : S4x1024x1024.Idx, ∃ p ∈ L.w1s, y ∈ p.1.set) (hw2 : ∀ y : S4x1024x1024.Idx, ∃ p ∈ L.w2s, y ∈ p.1.set)
    (hrun : RunFirst c (grid0.coords t) (bufs t) (blocks m c t) (V m c main_v9) (V m c main_v11) (V m c main_v13) (V m c main_v15) L)
    (ho : outsAt m c t.val t.isLt = L.read L.w1 L.w2) :
    found m c t ⊢ wp frame (wpE (defs₀ (F := F)) Variants.none c none) Set.univ (bodyAt0 t) (fun _ => left m c t) := by
  unfold found left
  simp only [before_x1, before_n2g, before_sh2, before_sc2, before_g2, before_fg, before_tgt]
  rw [show (dats m 0 c).Φ t.succ = between m c (t.val + 1) t.isLt from rfl, between_succ m c _ t.isLt,
    after_x1, after_n2g, after_sh2, after_sc2, after_g2, after_fg, after_tgt, after_dx1, after_h2b, after_ab, after_dub, after_dmb, after_dsc, after_dsh, after_dg2, after_dn2, after_dfg, after_loss, phi_castSucc]
  simp only [ho, Pieces.read]
  unfold Dat.owesAt Pipeline.owesWithin
  rw [show (dats m 0 c).owed t.castSucc = 0 from rfl, show (dats m 0 c).owed t.succ = 0 from rfl]
  rw [show between m c t.val (Nat.le_of_lt t.isLt) = Pipeline.ΦD osem0 spec0 H0 (V m) c by obtain ⟨n, hn⟩ := t; dsimp only at h0; subst h0; rfl, launch_eq]
  unfold weights; rw [hbmPts0_eq]
  iintro ⟨⟨⟨Hw1s, Hw2s, Hrs⟩, Hg, Hq, ⟨Hf0, Hf1, Hf2, Hf3⟩⟩, ⟨%W, -, HW⟩, ⟨%dx1, Hx1⟩, ⟨%dn2g, Hn2g⟩, ⟨%dsh2, Hsh2⟩, ⟨%dsc2, Hsc2⟩, ⟨%dg2, Hg2⟩, ⟨%dfg, Hfg⟩, ⟨%dtgt, Htgt⟩, ⟨%ddx1, Hdx1⟩, ⟨%dh2b, Hh2b⟩, ⟨%dab, Hab⟩, ⟨%ddub, Hdub⟩, ⟨%ddmb, Hdmb⟩, ⟨%ddsc, Hdsc⟩, ⟨%ddsh, Hdsh⟩, ⟨%ddg2, Hdg2⟩, ⟨%ddn2, Hdn2⟩, ⟨%ddfg, Hdfg⟩, ⟨%dloss, Hloss⟩⟩
  iapply (hrun W _)
  isplitl [Hx1]; · iexact Hx1
  isplitl [Hn2g]; · iexact Hn2g
  isplitl [Hsh2]; · iexact Hsh2
  isplitl [Hsc2]; · iexact Hsc2
  isplitl [Hg2]; · iexact Hg2
  isplitl [Hfg]; · iexact Hfg
  isplitl [Htgt]; · iexact Htgt
  isplitl [Hdx1]; · iexists _; iexact Hdx1
  isplitl [Hh2b]; · iexists _; iexact Hh2b
  isplitl [Hab]; · iexists _; iexact Hab
  isplitl [Hdub]; · iexists _; iexact Hdub
  isplitl [Hdmb]; · iexists _; iexact Hdmb
  isplitl [Hdsc]; · iexists _; iexact Hdsc
  isplitl [Hdsh]; · iexists _; iexact Hdsh
  isplitl [Hdg2]; · iexists _; iexact Hdg2
  isplitl [Hdn2]; · iexists _; iexact Hdn2
  isplitl [Hdfg]; · iexists _; iexact Hdfg
  isplitl [Hloss]; · iexists _; iexact Hloss
  isplitl [Hw1s]; · iexact Hw1s
  isplitl [Hw2s]; · iexact Hw2s
  isplitl [Hrs]; · iexact Hrs
  isplitl [Hq]; · iexact Hq
  isplitl [Hf0]; · iexact Hf0
  isplitl [Hf1]; · iexact Hf1
  isplitl [Hf2]; · iexact Hf2
  isplitl [Hf3]; · iexact Hf3
  isplitl [HW]; · iexact HW
  iintro ⟨Hx1, Hn2g, Hsh2, Hsc2, Hg2, Hfg, Htgt, ⟨%vdx1, Hdx1⟩, ⟨%vh2b, Hh2b⟩, ⟨%vab, Hab⟩, ⟨%vdub, Hdub⟩, ⟨%vdmb, Hdmb⟩, ⟨%vdsc, Hdsc⟩, ⟨%vdsh, Hdsh⟩, ⟨%vdg2, Hdg2⟩, ⟨%vdn2, Hdn2⟩, ⟨%vdfg, Hdfg⟩, ⟨%vloss, Hloss⟩, ⟨%vw1s, Hw1s⟩, ⟨%vw2s, Hw2s⟩, ⟨%vrs, Hrs⟩, Hq, Hf0, Hf1, Hf2, Hf3, ⟨%W', HW'⟩⟩
  isplitl [Hw1s Hw2s Hrs Hg Hq Hf0 Hf1 Hf2 Hf3]
  · isplitl [Hw1s Hw2s Hrs]
    · isplitl [Hw1s]
      · unfold owns; iexists _; isplitr
        swap; · iexact Hw1s
        ipureintro; exact View.read_writes_of_cover _ _ _ _ _ hw1
      isplitl [Hw2s]
      · unfold owns; iexists _; isplitr
        swap; · iexact Hw2s
        ipureintro; exact View.read_writes_of_cover _ _ _ _ _ hw2
      iexists _; unfold owns; iexists _; isplitr
      swap; · iexact Hrs
      ipureintro; rfl
    isplitl [Hg]; · iexact Hg
    isplitl [Hq]; · iexact Hq
    isplitl [Hf0]; · iexact Hf0
    isplitl [Hf1]; · iexact Hf1
    isplitl [Hf2]; · iexact Hf2
    iexact Hf3
  isplitl [HW']
  · iexists W'; isplitr; · ipureintro; exact fun _ _ => Or.inl trivial
    iexact HW'
  isplitl [Hx1]; · iexact Hx1
  isplitl [Hn2g]; · iexact Hn2g
  isplitl [Hsh2]; · iexact Hsh2
  isplitl [Hsc2]; · iexact Hsc2
  isplitl [Hg2]; · iexact Hg2
  isplitl [Hfg]; · iexact Hfg
  isplitl [Htgt]; · iexact Htgt
  isplitl [Hdx1]
  · unfold owns; iexists _; isplitr
    swap; · iexact Hdx1
    ipureintro; exact View.read_writes_of_cover _ _ _ _ _ hc.dx1
  isplitl [Hh2b]
  · unfold owns; iexists _; isplitr
    swap; · iexact Hh2b
    ipureintro; exact View.read_writes_of_cover _ _ _ _ _ hc.h2b
  isplitl [Hab]
  · unfold owns; iexists _; isplitr
    swap; · iexact Hab
    ipureintro; exact View.read_writes_of_cover _ _ _ _ _ hc.ab
  isplitl [Hdub]
  · unfold owns; iexists _; isplitr
    swap; · iexact Hdub
    ipureintro; exact View.read_writes_of_cover _ _ _ _ _ hc.dub
  isplitl [Hdmb]
  · unfold owns; iexists _; isplitr
    swap; · iexact Hdmb
    ipureintro; exact View.read_writes_of_cover _ _ _ _ _ hc.dmb
  isplitl [Hdsc]
  · unfold owns; iexists _; isplitr
    swap; · iexact Hdsc
    ipureintro; exact View.read_writes_of_cover _ _ _ _ _ hc.dsc
  isplitl [Hdsh]
  · unfold owns; iexists _; isplitr
    swap; · iexact Hdsh
    ipureintro; exact View.read_writes_of_cover _ _ _ _ _ hc.dsh
  isplitl [Hdg2]
  · unfold owns; iexists _; isplitr
    swap; · iexact Hdg2
    ipureintro; exact View.read_writes_of_cover _ _ _ _ _ hc.dg2
  isplitl [Hdn2]
  · unfold owns; iexists _; isplitr
    swap; · iexact Hdn2
    ipureintro; exact View.read_writes_of_cover _ _ _ _ _ hc.dn2
  isplitl [Hdfg]
  · unfold owns; iexists _; isplitr
    swap; · iexact Hdfg
    ipureintro; exact View.read_writes_of_cover _ _ _ _ _ hc.dfg
  unfold owns; iexists _; isplitr
  swap; · iexact Hloss
  ipureintro; exact View.read_writes_of_cover _ _ _ _ _ hc.loss

set_option maxHeartbeats 24000000 in
/-- The body at a later point, from its run `L`. -/
theorem sound_later (c : Dev nD) (t : Fin cfg0.N) (h0 : t.val % 16 ≠ 0) (L : Pieces F) (hc : L.Cover)
    (hrun : RunLater c (grid0.coords t) (bufs t) (blocks m c t) (prior m c t) L)
    (ho : outsAt m c t.val t.isLt = L.read (prior m c t).w1s (prior m c t).w2s) :
    found m c t ⊢ wp frame (wpE (defs₀ (F := F)) Variants.none c none) Set.univ (bodyAt0 t) (fun _ => left m c t) := by
  unfold found left
  simp only [before_x1, before_n2g, before_sh2, before_sc2, before_g2, before_fg, before_tgt]
  simp only [before_dsc m c t h0, before_dsh m c t h0, before_dg2 m c t h0, before_dn2 m c t h0, before_dfg m c t h0, before_loss m c t h0]
  rw [show (dats m 0 c).Φ t.succ = between m c (t.val + 1) t.isLt from rfl, between_succ m c _ t.isLt,
    after_x1, after_n2g, after_sh2, after_sc2, after_g2, after_fg, after_tgt, after_dx1, after_h2b, after_ab, after_dub, after_dmb, after_dsc, after_dsh, after_dg2, after_dn2, after_dfg, after_loss, phi_castSucc]
  simp only [ho, Pieces.read]
  unfold Dat.owesAt Pipeline.owesWithin
  rw [show (dats m 0 c).owed t.castSucc = 0 from rfl, show (dats m 0 c).owed t.succ = 0 from rfl]
  rw [between_pos m c _ _ (fun h => h0 (by rw [h]))]
  iintro ⟨⟨⟨Hw1s, Hw2s, Hrs⟩, Hg, Hq, Hf⟩, ⟨%W, -, HW⟩, ⟨%dx1, Hx1⟩, ⟨%dn2g, Hn2g⟩, ⟨%dsh2, Hsh2⟩, ⟨%dsc2, Hsc2⟩, ⟨%dg2, Hg2⟩, ⟨%dfg, Hfg⟩, ⟨%dtgt, Htgt⟩, ⟨%ddx1, Hdx1⟩, ⟨%dh2b, Hh2b⟩, ⟨%dab, Hab⟩, ⟨%ddub, Hdub⟩, ⟨%ddmb, Hdmb⟩, ⟨%ddsc, Hdsc⟩, ⟨%ddsh, Hdsh⟩, ⟨%ddg2, Hdg2⟩, ⟨%ddn2, Hdn2⟩, ⟨%ddfg, Hdfg⟩, ⟨%dloss, Hloss⟩⟩
  iapply (hrun W _)
  isplitl [Hx1]; · iexact Hx1
  isplitl [Hn2g]; · iexact Hn2g
  isplitl [Hsh2]; · iexact Hsh2
  isplitl [Hsc2]; · iexact Hsc2
  isplitl [Hg2]; · iexact Hg2
  isplitl [Hfg]; · iexact Hfg
  isplitl [Htgt]; · iexact Htgt
  isplitl [Hdx1]; · iexists _; iexact Hdx1
  isplitl [Hh2b]; · iexists _; iexact Hh2b
  isplitl [Hab]; · iexists _; iexact Hab
  isplitl [Hdub]; · iexists _; iexact Hdub
  isplitl [Hdmb]; · iexists _; iexact Hdmb
  isplitl [Hdsc]; · iexact Hdsc
  isplitl [Hdsh]; · iexact Hdsh
  isplitl [Hdg2]; · iexact Hdg2
  isplitl [Hdn2]; · iexact Hdn2
  isplitl [Hdfg]; · iexact Hdfg
  isplitl [Hloss]; · iexact Hloss
  isplitl [Hw1s]; · iexact Hw1s
  isplitl [Hw2s]; · iexact Hw2s
  isplitl [Hrs]; · iexact Hrs
  isplitl [HW]; · iexact HW
  iintro ⟨Hx1, Hn2g, Hsh2, Hsc2, Hg2, Hfg, Htgt, ⟨%vdx1, Hdx1⟩, ⟨%vh2b, Hh2b⟩, ⟨%vab, Hab⟩, ⟨%vdub, Hdub⟩, ⟨%vdmb, Hdmb⟩, ⟨%vdsc, Hdsc⟩, ⟨%vdsh, Hdsh⟩, ⟨%vdg2, Hdg2⟩, ⟨%vdn2, Hdn2⟩, ⟨%vdfg, Hdfg⟩, ⟨%vloss, Hloss⟩, Hw1s, Hw2s, ⟨%vrs, Hrs⟩, ⟨%W', HW'⟩⟩
  isplitl [Hw1s Hw2s Hrs Hg Hq Hf]
  · isplitl [Hw1s Hw2s Hrs]
    · isplitl [Hw1s]; · iexact Hw1s
      isplitl [Hw2s]; · iexact Hw2s
      iexists _; unfold owns; iexists _; isplitr
      swap; · iexact Hrs
      ipureintro; rfl
    isplitl [Hg]; · iexact Hg
    isplitl [Hq]; · iexact Hq
    iexact Hf
  isplitl [HW']
  · iexists W'; isplitr; · ipureintro; exact fun _ _ => Or.inl trivial
    iexact HW'
  isplitl [Hx1]; · iexact Hx1
  isplitl [Hn2g]; · iexact Hn2g
  isplitl [Hsh2]; · iexact Hsh2
  isplitl [Hsc2]; · iexact Hsc2
  isplitl [Hg2]; · iexact Hg2
  isplitl [Hfg]; · iexact Hfg
  isplitl [Htgt]; · iexact Htgt
  isplitl [Hdx1]
  · unfold owns; iexists _; isplitr
    swap; · iexact Hdx1
    ipureintro; exact View.read_writes_of_cover _ _ _ _ _ hc.dx1
  isplitl [Hh2b]
  · unfold owns; iexists _; isplitr
    swap; · iexact Hh2b
    ipureintro; exact View.read_writes_of_cover _ _ _ _ _ hc.h2b
  isplitl [Hab]
  · unfold owns; iexists _; isplitr
    swap; · iexact Hab
    ipureintro; exact View.read_writes_of_cover _ _ _ _ _ hc.ab
  isplitl [Hdub]
  · unfold owns; iexists _; isplitr
    swap; · iexact Hdub
    ipureintro; exact View.read_writes_of_cover _ _ _ _ _ hc.dub
  isplitl [Hdmb]
  · unfold owns; iexists _; isplitr
    swap; · iexact Hdmb
    ipureintro; exact View.read_writes_of_cover _ _ _ _ _ hc.dmb
  isplitl [Hdsc]
  · unfold owns; iexists _; isplitr
    swap; · iexact Hdsc
    ipureintro; exact View.read_writes_of_cover _ _ _ _ _ hc.dsc
  isplitl [Hdsh]
  · unfold owns; iexists _; isplitr
    swap; · iexact Hdsh
    ipureintro; exact View.read_writes_of_cover _ _ _ _ _ hc.dsh
  isplitl [Hdg2]
  · unfold owns; iexists _; isplitr
    swap; · iexact Hdg2
    ipureintro; exact View.read_writes_of_cover _ _ _ _ _ hc.dg2
  isplitl [Hdn2]
  · unfold owns; iexists _; isplitr
    swap; · iexact Hdn2
    ipureintro; exact View.read_writes_of_cover _ _ _ _ _ hc.dn2
  isplitl [Hdfg]
  · unfold owns; iexists _; isplitr
    swap; · iexact Hdfg
    ipureintro; exact View.read_writes_of_cover _ _ _ _ _ hc.dfg
  unfold owns; iexists _; isplitr
  swap; · iexact Hloss
  ipureintro; exact View.read_writes_of_cover _ _ _ _ _ hc.loss

/-- The body at every point. -/
theorem sound (c : Dev nD) (t : Fin cfg0.N) :
    found m c t ⊢ wp frame (wpE (defs₀ (F := F)) Variants.none c none) Set.univ (bodyAt0 t) (fun _ => left m c t) := by
  have hN : t.val < 16 := lt_of_lt_of_eq t.isLt (show cfg0.N = 16 from N_0)
  by_cases h0 : t.val % 16 = 0
  · exact sound_first m c t (by omega) _ (first_cover m c t h0) (first_cover_w1s m c t h0) (first_cover_w2s m c t h0)
      (firstRun m c t h0).2 (outsAt_first m c t h0)
  · by_cases h1 : t.val % 16 = 15
    · exact sound_later m c t h0 _ (last_cover m c t h0 h1 _) (lastRun m c t h0 h1 (prior m c t)).2 (outsAt_last m c t h0 h1)
    · exact sound_later m c t h0 _ (mid_cover m c t h0 h1 _) (midRun m c t h0 h1 (prior m c t)).2 (outsAt_mid m c t h0 h1)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enter (c : Dev nD) : Pipeline.ΦD osem0 spec0 H0 (V m) c ⊢ (dats m 0 c).Φ 0 := by
  rw [show (dats m 0 c).Φ 0 = Pipeline.ΦD osem0 spec0 H0 (V m) c from rfl]
  try exact Idealize.SL.BI.Entails.refl _

theorem leave (c : Dev nD) : (dats m 0 c).Φ (Fin.last cfg0.N) ⊢ Pipeline.ΦD osem0 spec0 H0 (V m) c := by
  rw [show (dats m 0 c).Φ (Fin.last cfg0.N) = between m c cfg0.N (Nat.le_refl _) from rfl,
    between_pos m c _ _ (by have : cfg0.N = 16 := N_0; omega), launch_eq]
  iintro ⟨⟨Ha, Hb, Hr⟩, Hg, Hq, Hf⟩
  isplitl [Ha Hb Hr]
  · isplitl [Ha]; · iexists _; iexact Ha
    isplitl [Hb]; · iexists _; iexact Hb
    iexact Hr
  isplitl [Hg]; · iexact Hg
  isplitl [Hq]; · iexact Hq
  iexact Hf

set_option backward.isDefEq.respectTransparency.types false in
/-- Every run of the kernel ends, with each array at what the pipeline's data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := enter m) (hout := leave m)

/-- The same without the counters. -/
theorem run_ends : θ_run defs (onTc (τ := τ) (main (F := F))) (s₀ m ρ) (Pipeline.FramePost cfgs (dats m) 0 (V m)) :=
  (θ_run defs _ _).mono (fun _ h => h.1) (run_quiescent m ρ)

/-- The kernel runs, leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_ends m ρ)) ((θ_run defs _ _).mono (fun _ h => h.2) (run_quiescent m ρ))

end Cert.Mlp

end
-- ==== Proof.MlpFrames.lean ====
/-
  The squared-ReLU layer's pass, forward and backward in one kernel: it runs, and so does the reference.
-/
module

public import proofs.«01_k».proof.Defs
public import proofs.«01_k».proof.Proof.MlpFrame
public import proofs.«01_k».proof.Proof.Gen.Kernel2.Skeleton
public import proofs.«01_k».proof.Proof.Gen.Reference2Ideal.Run
public import Idealize.ShloMosaic.Lib.Quiescent

@[expose] public section

noncomputable section

namespace Cert.Mlp

open Idealize.ShloMosaic Idealize.SL.Sem Idealize.ShloMosaic.Tactic

/-- The kernel's procedures are, word for word, those of its reading over the extended reals. -/
theorem defs_eq {F : FTy → Type} [FloatOps F] : Cert.Kernel2.defs (F := F) = Cert.Kernel2Ideal.defs (F := F) := by sl_kernel_rfl

/-- And so is its program. -/
theorem main_eq {F : FTy → Type} [FloatOps F] : Cert.Kernel2.main (F := F) = Cert.Kernel2Ideal.main (F := F) := by sl_kernel_rfl

/-- The kernel runs, leaves its arguments and every semaphore as they were. -/
theorem frame_kernel : Cert.quiescent_Kernel2 := fun m ρ _ => by
  rw [defs_eq, main_eq]
  exact frame (F := Bits) m ρ

/-- The same of the kernel read over the extended reals. -/
theorem frame_ideal : Cert.quiescent_Kernel2Ideal := fun m ρ _ => frame (F := Ideal) m ρ

/-- The reference runs and leaves its arguments as they were; it has no semaphore. -/
theorem frame_reference : Cert.quiescent_Reference2Ideal := fun m ρ _ =>
  (θ_run Cert.Reference2Ideal.defs _ _).mono (fun r h => ⟨fun c => (h c).2.2.2.2.2.2.2.2.2.2.2,
      Idealize.ShloMosaic.sem_eq_zero_of_no_sems (by decide) r.2⟩)
    (Cert.Reference2Ideal.Value.run (F := Ideal) m ρ)

end Cert.Mlp

end
-- ==== Proof.MlpRow.lean ====
/-
  The squared-ReLU layer, its loss and the way back, for one row of the sequence: pure sums over the extended reals.
-/
module

public import Idealize.ShloMosaic.Lib.Pointwise

@[expose] public section

noncomputable section

namespace Cert.Mlp

open Idealize.ShloMosaic

/-- The number of columns, 1024, as its float word. -/
abbrev width : EReal := Ideal.ofBits .f32 1149239296#32

/-- The norm's small constant, as its float word. -/
abbrev small : EReal := Ideal.ofBits .f32 897988541#32

/-- Column `k` of the `j`-th quarter of the hidden layer. -/
abbrev col (j : Fin 4) (k : Fin 1024) : Fin 4096 := ⟨j.val * 1024 + k.val, by omega⟩

/-- One row of the sequence with everything the layer takes. -/
structure Row where
  /-- The row entering the layer. -/
  x : Fin 1024 → EReal
  /-- The norm's gain. -/
  n2g : Fin 1024 → EReal
  /-- The modulation's shift. -/
  sh2 : Fin 1024 → EReal
  /-- The modulation's scale. -/
  sc2 : Fin 1024 → EReal
  /-- The layer's gate. -/
  g2 : Fin 1024 → EReal
  /-- The last norm's gain. -/
  fg : Fin 1024 → EReal
  /-- The target. -/
  tgt : Fin 1024 → EReal
  /-- The matrix into the hidden layer. -/
  w1 : Fin 1024 → Fin 4096 → EReal
  /-- The matrix out of it. -/
  w2 : Fin 4096 → Fin 1024 → EReal

/-- The reciprocal of a row's root mean square. -/
def scale (x : Fin 1024 → EReal) : EReal := Ideal.rsqrt (Ideal.div (∑ q, x q * x q) width + small)

/-- The way back through a norm: from the gradient `d` of the normed row `x`. -/
def normBack (x d : Fin 1024 → EReal) (q : Fin 1024) : EReal :=
  scale x * (d q - x q * scale x * Ideal.div (∑ q', d q' * (x q' * scale x)) width)

namespace Row

variable (R : Row)

/-- The normed row. -/
def xh (q : Fin 1024) : EReal := R.x q * scale R.x
/-- With the gain. -/
def hn (q : Fin 1024) : EReal := R.xh q * R.n2g q
/-- Modulated: what enters the hidden layer. -/
def h (q : Fin 1024) : EReal := R.hn q * (1 + R.sc2 q) + R.sh2 q
/-- The hidden layer's product. -/
def u (n : Fin 4096) : EReal := ∑ q, R.h q * R.w1 q n
/-- Its positive part. -/
def relu (n : Fin 4096) : EReal := max (R.u n) 0
/-- Squared. -/
def act (n : Fin 4096) : EReal := R.relu n * R.relu n
/-- The layer's output before the gate. -/
def out (q : Fin 1024) : EReal := ∑ n, R.act n * R.w2 n q
/-- The row leaving the layer. -/
def x2 (q : Fin 1024) : EReal := R.x q + R.g2 q * R.out q
/-- Normed. -/
def x2h (q : Fin 1024) : EReal := R.x2 q * scale R.x2
/-- The difference from the target. -/
def err (q : Fin 1024) : EReal := R.x2h q * R.fg q - R.tgt q
/-- The loss's gradient at the output. -/
def dout (q : Fin 1024) : EReal := R.err q * Ideal.ofBits .f32 981467136#32
/-- At the last norm. -/
def d2 (q : Fin 1024) : EReal := R.dout q * R.fg q
/-- At the row leaving the layer. -/
def dx2 (q : Fin 1024) : EReal := normBack R.x2 R.d2 q
/-- At the layer's output before the gate. -/
def dm (q : Fin 1024) : EReal := R.g2 q * R.dx2 q
/-- At the hidden layer's product. -/
def du (n : Fin 4096) : EReal := (∑ q, R.dm q * R.w2 n q) * (Ideal.ofBits .f32 1073741824#32 * R.relu n)
/-- At what enters the hidden layer. -/
def dh (q : Fin 1024) : EReal := ∑ n, R.du n * R.w1 q n
/-- Before the modulation. -/
def dhn (q : Fin 1024) : EReal := R.dh q * (1 + R.sc2 q)
/-- At the normed row. -/
def d1 (q : Fin 1024) : EReal := R.dhn q * R.n2g q
/-- At the row entering the layer. -/
def dx1 (q : Fin 1024) : EReal := R.dx2 q + normBack R.x R.d1 q

end Row

/-- A sum over the hidden layer, quarter by quarter. -/
theorem sum_quarters (f : Fin 4096 → EReal) :
    ∑ n, f n = (((∑ k, f (col 0 k)) + ∑ k, f (col 1 k)) + ∑ k, f (col 2 k)) + ∑ k, f (col 3 k) := by
  have e : ∀ g : Fin (4 * 1024) → EReal, ∑ n, g n = ∑ j : Fin 4, ∑ k : Fin 1024, g (finProdFinEquiv (j, k)) := fun g => by
    rw [← finProdFinEquiv.sum_comp, Fintype.sum_prod_type]
  refine (e f).trans ?_
  rw [Fin.sum_univ_four]
  have c : ∀ (j : Fin 4) (k : Fin 1024), (finProdFinEquiv (j, k) : Fin (4 * 1024)) = col j k := fun j k =>
    Fin.ext (by show k.val + 1024 * j.val = j.val * 1024 + k.val; omega)
  simp only [c]

end Cert.Mlp

end
-- ==== Proof.MlpBlock.lean ====
/-
  What the squared-ReLU body computes, step by step, on a block of 256 rows.
-/
module

public import proofs.«01_k».proof.Proof.MlpRow
public import proofs.«01_k».proof.Proof.Gen.Kernel2Ideal.Skeleton

@[expose] public section

noncomputable section

namespace Cert.Mlp

open Cert.Kernel2Ideal Cert.Kernel2Ideal.Gen Idealize.ShloMosaic Idealize.ShloMosaic.TcCoe

/-- The zero block the products start from. -/
abbrev zero : FVec Ideal S256x1024 .f32 := constant S256x1024 .f32 0#32

/-- A block of 256 rows that holds, of each row, the function `f`. -/
def Rows {f : FTy} (v : FVec Ideal S256x1024 f) (g : Fin 256 → Fin 1024 → EReal) : Prop := ∀ p q, v (ix2 p q) = g p q

/-- One row of 1024 columns shared by every row of the block. -/
def Shared (v : FVec Ideal S1x1024 .f32) (g : Fin 256 → Fin 1024 → EReal) : Prop := ∀ p q, v (ix2 0 q) = g p q

/-- Quarter `j` of the matrix into the hidden layer. -/
def In (R : Fin 256 → Row) (j : Fin 4) (v : FVec Ideal S1x1024x1024 .bf16) : Prop := ∀ p k q, v (ix3 0 k q) = (R p).w1 k (col j q)

/-- Quarter `j` of the matrix out of it. -/
def Out (R : Fin 256 → Row) (j : Fin 4) (v : FVec Ideal S1x1024x1024 .bf16) : Prop := ∀ p k q, v (ix3 0 k q) = (R p).w2 (col j k) q

variable {R : Fin 256 → Row} {x1 tgt x2 dx2 acc rl : FVec Ideal S256x1024 .f32} {n2g sh2 sc2 g2 fg old : FVec Ideal S1x1024 .f32}
  {h act du dm du3 : FVec Ideal S256x1024 .bf16} {w : FVec Ideal S1x1024x1024 .bf16} {sq : FVec Ideal S256 .f32}

/-- What enters the hidden layer. -/
theorem entering (hx : Rows x1 fun p => (R p).x) (hn : Shared n2g fun p => (R p).n2g) (hc : Shared sc2 fun p => (R p).sc2)
    (hs : Shared sh2 fun p => (R p).sh2) : Rows (k0_pay11 (F := Ideal) x1 n2g sc2 sh2) fun p => (R p).h := fun p q => by
  pointwise [k0_pay11]
  simp only [hx p, hn p, hc p, hs p]
  rfl

/-- The first quarter of the hidden layer, its positive part. -/
theorem relu0 {j : Fin 4} (hh : Rows h fun p => (R p).h) (hw : In R j w) :
    Rows (k0_pay14 (F := Ideal) h (k0_pay13 w) zero) fun p q => (R p).relu (col j q) := fun p q => by
  pointwise [k0_pay14, k0_pay13]
  simp only [hh p, hw p]
  rfl

/-- The second. -/
theorem relu1 {j : Fin 4} (hh : Rows h fun p => (R p).h) (hw : In R j w) :
    Rows (k0_pay17 (F := Ideal) h w) fun p q => (R p).relu (col j q) := fun p q => by
  pointwise [k0_pay17]
  simp only [hh p, hw p]
  rfl

/-- The first quarter squared. -/
theorem act0 {j : Fin 4} (hh : Rows h fun p => (R p).h) (hw : In R j w) :
    Rows (k0_pay16 (F := Ideal) h (k0_pay13 w) zero) fun p q => (R p).act (col j q) := fun p q =>
  congrArg (fun a : EReal => a * a) (relu0 hh hw p q)

/-- The second. -/
theorem act1 {j : Fin 4} (hh : Rows h fun p => (R p).h) (hw : In R j w) :
    Rows (k0_pay19 (F := Ideal) h w) fun p q => (R p).act (col j q) := fun p q =>
  congrArg (fun a : EReal => a * a) (relu1 hh hw p q)

/-- The third. -/
theorem act2 {j : Fin 4} (hh : Rows h fun p => (R p).h) (hw : In R j w) :
    Rows (k0_pay24 (F := Ideal) h (k0_pay21 w) zero) fun p q => (R p).act (col j q) := act0 hh hw

/-- The fourth. -/
theorem act3 {j : Fin 4} (hh : Rows h fun p => (R p).h) (hw : In R j w) :
    Rows (k0_pay27 (F := Ideal) h w) fun p q => (R p).act (col j q) := act1 hh hw

/-- A quarter's part of the layer's output. -/
def part (R : Row) (j : Fin 4) (q : Fin 1024) : EReal := ∑ k, R.act (col j k) * R.w2 (col j k) q

/-- The output is the sum of the four. -/
theorem part_sum (R : Row) (q : Fin 1024) : part R 0 q + part R 1 q + part R 2 q + part R 3 q = R.out q :=
  (sum_quarters fun n => R.act n * R.w2 n q).symm

/-- The first half of the layer's output. -/
theorem half {w0 v0 w1 v1 : FVec Ideal S1x1024x1024 .bf16} (hh : Rows h fun p => (R p).h) (h0 : In R 0 w0) (k0 : Out R 0 v0)
    (h1 : In R 1 w1) (k1 : Out R 1 v1) :
    Rows (k0_pay20 (F := Ideal) h k0_pay12 (k0_pay13 w0) zero v0 w1 v1) fun p q => part (R p) 0 q + part (R p) 1 q := fun p q => by
  pointwise [k0_pay20, k0_pay12]
  have a0 := act0 hh h0 p
  have a1 := act1 hh h1 p
  simp only [a0, a1, k0 p, k1 p, zero_add]
  rfl

/-- The layer's output. -/
theorem output {w2 v2 w3 v3 : FVec Ideal S1x1024x1024 .bf16} (hh : Rows h fun p => (R p).h)
    (ha : Rows acc fun p q => part (R p) 0 q + part (R p) 1 q) (h2 : In R 2 w2) (k2 : Out R 2 v2)
    (h3 : In R 3 w3) (k3 : Out R 3 v3) :
    Rows (k0_pay28 (F := Ideal) h acc (k0_pay21 w2) zero v2 w3 v3) fun p => (R p).out := fun p q => by
  pointwise [k0_pay28]
  have a0 := act2 hh h2 p
  have a1 := act3 hh h3 p
  simp only [a0, a1, k2 p, k3 p, ha p]
  exact part_sum _ _

/-- The row leaving the layer. -/
theorem leaving {w2 v2 w3 v3 : FVec Ideal S1x1024x1024 .bf16} (hx : Rows x1 fun p => (R p).x) (hg : Shared g2 fun p => (R p).g2)
    (ho : Rows (k0_pay28 (F := Ideal) h acc (k0_pay21 w2) zero v2 w3 v3) fun p => (R p).out) :
    Rows (k0_pay29 (F := Ideal) x1 g2 h acc (k0_pay21 w2) zero v2 w3 v3) fun p => (R p).x2 := fun p q => by
  pointwise [k0_pay29]
  simp only [hx p, hg p, ho p]
  rfl

/-- The sum of its squares. -/
theorem squares {w2 v2 w3 v3 : FVec Ideal S1x1024x1024 .bf16}
    (ho : Rows (k0_pay29 (F := Ideal) x1 g2 h acc (k0_pay21 w2) zero v2 w3 v3) fun p => (R p).x2) (p : Fin 256) :
    k0_pay30 (F := Ideal) x1 g2 h acc (k0_pay21 w2) zero v2 w3 v3 (ix1 p) = ∑ q, (R p).x2 q * (R p).x2 q := by
  pointwise [k0_pay30]
  simp only [ho p]

variable (hx2 : Rows x2 fun p => (R p).x2) (hsq : ∀ p, sq (ix1 p) = ∑ q, (R p).x2 q * (R p).x2 q)
  (hf : Shared fg fun p => (R p).fg) (ht : Rows tgt fun p => (R p).tgt)

include hx2 hsq hf ht

/-- The gradient at the row leaving the layer. -/
theorem back : Rows (k0_pay37 (F := Ideal) fg x2 sq tgt) fun p => (R p).dx2 := fun p q => by
  pointwise [k0_pay37, k0_pay35, k0_pay33, k0_pay32, k0_pay31]
  simp only [hx2 p, hsq p, hf p, ht p]
  rfl

/-- The block's sum of the squared differences is added. -/
theorem lossSum (q : Fin 1024) : k0_pay34 (F := Ideal) fg x2 sq tgt old (ix2 0 q) = old (ix2 0 q) + ∑ p, (R p).err q * (R p).err q := by
  pointwise [k0_pay34, k0_pay33, k0_pay32, k0_pay31]
  refine congrArg (_ + ·) (Finset.sum_congr rfl fun p _ => ?_)
  simp only [hx2 p, hsq p, hf p, ht p]
  rfl

/-- The block's part of the last gain's gradient is added. -/
theorem fgSum (q : Fin 1024) : k0_pay36 (F := Ideal) fg x2 sq tgt old (ix2 0 q) = old (ix2 0 q) + ∑ p, (R p).dout q * (R p).x2h q := by
  pointwise [k0_pay36, k0_pay35, k0_pay33, k0_pay32, k0_pay31]
  refine congrArg (_ + ·) (Finset.sum_congr rfl fun p _ => ?_)
  simp only [hx2 p, hsq p, hf p, ht p]
  rfl

omit hx2 hsq hf ht

/-- The block's part of the gate's gradient is added. -/
theorem gateSum (ho : Rows acc fun p => (R p).out) (hd : Rows dx2 fun p => (R p).dx2) (q : Fin 1024) :
    k0_pay38 (F := Ideal) acc dx2 old (ix2 0 q) = old (ix2 0 q) + ∑ p, (R p).dx2 q * (R p).out q := by
  pointwise [k0_pay38]
  refine congrArg (_ + ·) (Finset.sum_congr rfl fun p _ => ?_)
  simp only [ho p, hd p]

/-- The gradient at the layer's output before the gate. -/
theorem gated (hg : Shared g2 fun p => (R p).g2) (hd : Rows dx2 fun p => (R p).dx2) :
    Rows (k0_pay39 (F := Ideal) g2 dx2) fun p => (R p).dm := fun p q => by
  pointwise [k0_pay39]
  simp only [hg p, hd p]
  rfl

/-- A quarter of the gradient at the hidden layer's product: the first. -/
theorem du0 {j : Fin 4} (hm : Rows (k0_pay39 (F := Ideal) g2 dx2) fun p => (R p).dm) (hw : Out R j w)
    (hr : Rows rl fun p q => (R p).relu (col j q)) : Rows (k0_pay40 (F := Ideal) g2 dx2 w rl) fun p q => (R p).du (col j q) := fun p q => by
  pointwise [k0_pay40]
  simp only [hm p, hw p, hr p]
  rfl

/-- The second. -/
theorem du1 {j : Fin 4} (hm : Rows (k0_pay39 (F := Ideal) g2 dx2) fun p => (R p).dm) (hw : Out R j w)
    (hr : Rows rl fun p q => (R p).relu (col j q)) :
    Rows (k0_pay44 (F := Ideal) (k0_pay42 g2 dx2 w) rl k0_pay43) fun p q => (R p).du (col j q) := fun p q => by
  pointwise [k0_pay44, k0_pay42, k0_pay43]
  simp only [hm p, hw p, hr p]
  rfl

/-- The third. -/
theorem du2 {j : Fin 4} (hm : Rows dm fun p => (R p).dm) (hw : Out R j w)
    (hr : Rows rl fun p q => (R p).relu (col j q)) : Rows (k0_pay45 (F := Ideal) dm w rl) fun p q => (R p).du (col j q) := fun p q => by
  pointwise [k0_pay45]
  simp only [hm p, hw p, hr p]
  rfl

/-- The fourth. -/
theorem du3_ {j : Fin 4} (hm : Rows dm fun p => (R p).dm) (hw : Out R j w)
    (hr : Rows rl fun p q => (R p).relu (col j q)) : Rows (k0_pay47 (F := Ideal) dm w rl) fun p q => (R p).du (col j q) := du2 hm hw hr

/-- A quarter's part of the gradient at what enters the hidden layer. -/
def backPart (R : Row) (j : Fin 4) (q : Fin 1024) : EReal := ∑ k, R.du (col j k) * R.w1 q (col j k)

/-- The gradient is the sum of the four. -/
theorem backPart_sum (R : Row) (q : Fin 1024) : backPart R 0 q + backPart R 1 q + backPart R 2 q + backPart R 3 q = R.dh q :=
  (sum_quarters fun n => R.du n * R.w1 q n).symm

/-- The first quarter's part. -/
theorem back0 {v : FVec Ideal S1x1024x1024 .bf16} (hd : Rows (k0_pay40 (F := Ideal) g2 dx2 v rl) fun p q => (R p).du (col 0 q))
    (hw : In R 0 w) : Rows (k0_pay41 (F := Ideal) g2 dx2 v rl w) fun p => backPart (R p) 0 := fun p q => by
  pointwise [k0_pay41]
  simp only [hd p, hw p, zero_add]
  rfl

/-- With the second and the third. -/
theorem back012 {u1 r1 r2 c : FVec Ideal S256x1024 .f32} {w1 v2 w2 : FVec Ideal S1x1024x1024 .bf16}
    (ha : Rows acc fun p => backPart (R p) 0)
    (hd1 : Rows (k0_pay44 (F := Ideal) u1 r1 c) fun p q => (R p).du (col 1 q))
    (hd2 : Rows (k0_pay45 (F := Ideal) dm v2 r2) fun p q => (R p).du (col 2 q)) (h1 : In R 1 w1) (h2 : In R 2 w2) :
    Rows (k0_pay46 (F := Ideal) dm acc u1 r1 c w1 v2 r2 w2) fun p q => backPart (R p) 0 q + backPart (R p) 1 q + backPart (R p) 2 q := fun p q => by
  pointwise [k0_pay46]
  simp only [hd1 p, hd2 p, ha p, h1 p, h2 p]
  rfl

/-- The gradient at what enters the hidden layer. -/
theorem entered (ha : Rows acc fun p q => backPart (R p) 0 q + backPart (R p) 1 q + backPart (R p) 2 q)
    (hd : Rows du3 fun p q => (R p).du (col 3 q)) (hw : In R 3 w) : Rows (k0_pay48 (F := Ideal) acc du3 w) fun p => (R p).dh := fun p q => by
  pointwise [k0_pay48]
  simp only [hd p, ha p, hw p]
  exact backPart_sum _ _

variable (hx : Rows x1 fun p => (R p).x) (hn : Shared n2g fun p => (R p).n2g) (hc : Shared sc2 fun p => (R p).sc2)
  (he : Rows (k0_pay48 (F := Ideal) acc du3 w) fun p => (R p).dh)

include he in
/-- The block's part of the shift's gradient. -/
theorem shiftSum (q : Fin 1024) : k0_pay53 (F := Ideal) acc du3 w (ix2 0 q) = ∑ p, (R p).dh q := by
  pointwise [k0_pay53]
  exact Finset.sum_congr rfl fun p _ => he p q

include he hx hn in
/-- The block's part of the modulation's scale's gradient. -/
theorem scaleSum (q : Fin 1024) : k0_pay54 (F := Ideal) x1 n2g acc du3 w (ix2 0 q) = ∑ p, (R p).dh q * (R p).hn q := by
  pointwise [k0_pay54, k0_pay50, k0_pay49]
  refine Finset.sum_congr rfl fun p _ => ?_
  simp only [he p, hx p, hn p]
  rfl

include he hx hc in
/-- The block's part of the gain's gradient. -/
theorem gainSum (q : Fin 1024) : k0_pay52 (F := Ideal) x1 sc2 acc du3 w (ix2 0 q) = ∑ p, (R p).dhn q * (R p).xh q := by
  pointwise [k0_pay52, k0_pay51, k0_pay50, k0_pay49]
  refine Finset.sum_congr rfl fun p _ => ?_
  simp only [he p, hx p, hc p]
  rfl

include he hx hn hc in
/-- The gradient at the row entering the layer. -/
theorem entrance (hd : Rows dx2 fun p => (R p).dx2) : Rows (k0_pay55 (F := Ideal) x1 n2g sc2 dx2 acc du3 w) fun p => (R p).dx1 := fun p q => by
  pointwise [k0_pay55, k0_pay51, k0_pay50, k0_pay49]
  simp only [he p, hx p, hn p, hc p, hd p]
  rfl

/-- The last point's step on the loss: every entry becomes the sum over the columns, halved and averaged. -/
theorem lossLast (q : Fin 1024) : k0_pay4 (F := Ideal) old (ix2 0 q) = (∑ x, old (ix2 0 x)) * Ideal.ofBits .f32 973078528#32 := by
  pointwise [k0_pay4]

/-- A sum is added to what is there. -/
theorem addOld {v : FVec Ideal S1x1024 .f32} (q : Fin 1024) : k0_pay1 (F := Ideal) v old (ix2 0 q) = old (ix2 0 q) + v (ix2 0 q) := by
  pointwise [k0_pay1]

end Cert.Mlp

end
-- ==== Proof.MlpWords.lean ====
/-
  What a point of the squared-ReLU pass computes, as a function of its inputs' blocks and of the two matrices.
-/
module

public import proofs.«01_k».proof.Proof.MlpPoint
public import proofs.«01_k».proof.Proof.MlpBlock
public import Idealize.ShloMosaic.Lib.Pipeline.ReadBack

@[expose] public section

set_option maxRecDepth 16384

noncomputable section

namespace Cert.Mlp

open Cert.Kernel2Ideal Cert.Kernel2Ideal.Gen
open Idealize.ShloMosaic Idealize.ShloMosaic.TcCoe Idealize.ShloMosaic.Tactic

variable {F : FTy → Type} [FloatOps F]

theorem zeros2 : (![0, 0] : Fin 2 → Nat) = fun _ => 0 := funext fun a => by fin_cases a <;> rfl

/-- Quarter 0 of a matrix in its four quarters. -/
abbrev q0 (W : Vec F S4x1024x1024 .bf16) : Vec F S1x1024x1024 .bf16 :=
  View.ld W (Rect.unit ![0, 0, 0] S1x1024x1024.size inb_S4x1024x1024_S1x1024x1024_0_0_0)

/-- Quarter 1 of a matrix in its four quarters. -/
abbrev q1 (W : Vec F S4x1024x1024 .bf16) : Vec F S1x1024x1024 .bf16 :=
  View.ld W (Rect.unit ![1, 0, 0] S1x1024x1024.size inb_S4x1024x1024_S1x1024x1024_1_0_0)

/-- Quarter 2 of a matrix in its four quarters. -/
abbrev q2 (W : Vec F S4x1024x1024 .bf16) : Vec F S1x1024x1024 .bf16 :=
  View.ld W (Rect.unit ![2, 0, 0] S1x1024x1024.size inb_S4x1024x1024_S1x1024x1024_2_0_0)

/-- Quarter 3 of a matrix in its four quarters. -/
abbrev q3 (W : Vec F S4x1024x1024 .bf16) : Vec F S1x1024x1024 .bf16 :=
  View.ld W (Rect.unit ![3, 0, 0] S1x1024x1024.size inb_S4x1024x1024_S1x1024x1024_3_0_0)

/-- The block the products start from: zero. -/
abbrev start : FVec F S256x1024 .f32 := constant S256x1024 .f32 0#32

namespace Words

variable (X : Ins F) (w1 w2 : Vec F S4x1024x1024 .bf16)

/-- What enters the hidden layer. -/
def h : Vec F S256x1024 .bf16 := k0_pay11 X.x1 X.n2g X.sc2 X.sh2
/-- The first half of the layer's output. -/
def half : Vec F S256x1024 .f32 := k0_pay20 (h X) k0_pay12 (k0_pay13 (q0 w1)) start (q0 w2) (q1 w1) (q1 w2)
/-- The layer's output. -/
def out : Vec F S256x1024 .f32 := k0_pay28 (h X) (half X w1 w2) (k0_pay21 (q2 w1)) start (q2 w2) (q3 w1) (q3 w2)
/-- The rows leaving the layer. -/
def x2 : Vec F S256x1024 .f32 := k0_pay29 X.x1 X.g2 (h X) (half X w1 w2) (k0_pay21 (q2 w1)) start (q2 w2) (q3 w1) (q3 w2)
/-- The sums of their squares. -/
def sq : FVec F S256 .f32 := k0_pay30 X.x1 X.g2 (h X) (half X w1 w2) (k0_pay21 (q2 w1)) start (q2 w2) (q3 w1) (q3 w2)
/-- The gradient there. -/
def dx2 : Vec F S256x1024 .f32 := k0_pay37 X.fg (x2 X w1 w2) (sq X w1 w2) X.tgt
/-- The gradient at the layer's output before the gate. -/
def dm : Vec F S256x1024 .bf16 := k0_pay39 X.g2 (dx2 X w1 w2)
/-- The hidden layer's positive part, first quarter. -/
def r0 : Vec F S256x1024 .f32 := k0_pay15 (h X) (k0_pay13 (q0 w1)) start
/-- Second. -/
def r1 : Vec F S256x1024 .f32 := k0_pay18 (h X) (q1 w1)
/-- Third. -/
def r2 : Vec F S256x1024 .f32 := k0_pay23 (h X) (k0_pay21 (q2 w1)) start
/-- Fourth. -/
def r3 : Vec F S256x1024 .f32 := k0_pay26 (h X) (q3 w1)
/-- Squared, first quarter. -/
def a0 : Vec F S256x1024 .bf16 := k0_pay16 (h X) (k0_pay13 (q0 w1)) start
/-- Second. -/
def a1 : Vec F S256x1024 .bf16 := k0_pay19 (h X) (q1 w1)
/-- Third. -/
def a2 : Vec F S256x1024 .bf16 := k0_pay24 (h X) (k0_pay21 (q2 w1)) start
/-- Fourth. -/
def a3 : Vec F S256x1024 .bf16 := k0_pay27 (h X) (q3 w1)
/-- The gradient at the hidden layer's product, first quarter. -/
def d0 : Vec F S256x1024 .bf16 := k0_pay40 X.g2 (dx2 X w1 w2) (q0 w2) (r0 X w1)
/-- Second. -/
def d1 : Vec F S256x1024 .bf16 := k0_pay44 (k0_pay42 X.g2 (dx2 X w1 w2) (q1 w2)) (r1 X w1) k0_pay43
/-- Third. -/
def d2 : Vec F S256x1024 .bf16 := k0_pay45 (dm X w1 w2) (q2 w2) (r2 X w1)
/-- Fourth. -/
def d3 : Vec F S256x1024 .bf16 := k0_pay47 (dm X w1 w2) (q3 w2) (r3 X w1)
/-- The first quarter's part of the gradient at what enters the hidden layer. -/
def b0 : Vec F S256x1024 .f32 := k0_pay41 X.g2 (dx2 X w1 w2) (q0 w2) (r0 X w1) (q0 w1)
/-- With the second's and the third's. -/
def b2 : Vec F S256x1024 .f32 := k0_pay46 (dm X w1 w2) (b0 X w1 w2) (k0_pay42 X.g2 (dx2 X w1 w2) (q1 w2)) (r1 X w1) k0_pay43 (q1 w1) (q2 w2) (r2 X w1) (q2 w1)
/-- The block's part of the gain's gradient. -/
def gain : Vec F S1x1024 .f32 := k0_pay52 X.x1 X.sc2 (b2 X w1 w2) (d3 X w1 w2) (q3 w1)
/-- Of the shift's. -/
def shift : Vec F S1x1024 .f32 := k0_pay53 (b2 X w1 w2) (d3 X w1 w2) (q3 w1)
/-- Of the modulation's scale's. -/
def scl : Vec F S1x1024 .f32 := k0_pay54 X.x1 X.n2g (b2 X w1 w2) (d3 X w1 w2) (q3 w1)
/-- The gradient at the rows entering the layer. -/
def dx1 : Vec F S256x1024 .f32 := k0_pay55 X.x1 X.n2g X.sc2 (dx2 X w1 w2) (b2 X w1 w2) (d3 X w1 w2) (q3 w1)
/-- The gate's gradient so far, from `old`. -/
def gate (old : Vec F S1x1024 .f32) : Vec F S1x1024 .f32 := k0_pay38 (out X w1 w2) (dx2 X w1 w2) old
/-- The last gain's. -/
def last (old : Vec F S1x1024 .f32) : Vec F S1x1024 .f32 := k0_pay36 X.fg (x2 X w1 w2) (sq X w1 w2) X.tgt old
/-- The squared differences'. -/
def loss (old : Vec F S1x1024 .f32) : Vec F S1x1024 .f32 := k0_pay34 X.fg (x2 X w1 w2) (sq X w1 w2) X.tgt old

end Words

/-- Four quarters side by side. -/
abbrev quarters {e : EltTy} (a b c d : Vec F S256x1024 e) : List (View.Piece (Elt F) S256x4096 e) :=
  [⟨Rect.unit ![0, 3072] S256x1024.size inb_S256x4096_S256x1024_0_3072, d⟩,
    ⟨Rect.unit ![0, 2048] S256x1024.size inb_S256x4096_S256x1024_0_2048, c⟩,
    ⟨Rect.unit ![0, 1024] S256x1024.size inb_S256x4096_S256x1024_0_1024, b⟩,
    ⟨Rect.unit ![0, 0] S256x1024.size inb_S256x4096_S256x1024_0_0, a⟩]

variable {e : EltTy} (v : View sig .tc .vmem S256x4096 e) (a b c d : Vec F S256x1024 e)

/-- Reading one of them back. -/
theorem quarter0 : v.readCov (quarters a b c d) (Rect.unit (s := S256x4096) ![0, 0] S256x1024.size inb_S256x4096_S256x1024_0_0).toLoadRect = a := by
  rw [View.readCov_skip _ _ _ _ _ (by decide), View.readCov_skip _ _ _ _ _ (by decide), View.readCov_skip _ _ _ _ _ (by decide)]
  exact View.readCov_cons_toLoadRect _ _ _ _
theorem quarter1 : v.readCov (quarters a b c d) (Rect.unit (s := S256x4096) ![0, 1024] S256x1024.size inb_S256x4096_S256x1024_0_1024).toLoadRect = b := by
  rw [View.readCov_skip _ _ _ _ _ (by decide), View.readCov_skip _ _ _ _ _ (by decide)]
  exact View.readCov_cons_toLoadRect _ _ _ _
theorem quarter2 : v.readCov (quarters a b c d) (Rect.unit (s := S256x4096) ![0, 2048] S256x1024.size inb_S256x4096_S256x1024_0_2048).toLoadRect = c := by
  rw [View.readCov_skip _ _ _ _ _ (by decide)]
  exact View.readCov_cons_toLoadRect _ _ _ _
theorem quarter3 : v.readCov (quarters a b c d) (Rect.unit (s := S256x4096) ![0, 3072] S256x1024.size inb_S256x4096_S256x1024_0_3072).toLoadRect = d :=
  View.readCov_cons_toLoadRect _ _ _ _

/-- The block of the four, entry by entry. -/
def laid (a b c d : Vec F S256x1024 e) : Vec F S256x4096 e := View.canon (quarters a b c d)

/-- Where a quarter's entry lies, -/
theorem at_quarter (o : Nat) (inb : ∀ a, (![0, o] : Fin 2 → Nat) a + S256x1024.size a ≤ S256x4096.size a) (p : Fin 256) (q : Fin 1024) (k : Fin 4096) (hk : o + q.val = k.val) :
    (Rect.unit (s := S256x4096) ![0, o] S256x1024.size inb).emb (ix2 p q) = ix2 p k := by
  funext x; apply Fin.ext
  fin_cases x
  · show 0 + 1 * p.val = p.val; omega
  · show o + 1 * q.val = k.val; omega

/-- and where it does not. -/
theorem off_quarter (o : Nat) (inb : ∀ a, (![0, o] : Fin 2 → Nat) a + S256x1024.size a ≤ S256x4096.size a) (p : Fin 256) (k : Fin 4096) (hk : k.val < o ∨ o + 1024 ≤ k.val) :
    (ix2 p k : S256x4096.Idx) ∉ (Rect.unit (s := S256x4096) ![0, o] S256x1024.size inb).set := fun hm => by
  obtain ⟨x, hx⟩ := (Rect.unit (s := S256x4096) ![0, o] S256x1024.size inb).exists_idx_of_mem hm
  have h1 : o + 1 * (x 1).val = k.val := congrArg (fun i : S256x4096.Idx => (i 1).val) hx
  have h2 : (x 1).val < 1024 := (x 1).isLt
  omega

/-- A later piece elsewhere changes nothing; -/
theorem piece_skip (o : Nat) (inb : ∀ a, (![0, o] : Fin 2 → Nat) a + S256x1024.size a ≤ S256x4096.size a) (w : Vec F S256x1024 e) (L : List (View.Piece (Elt F) S256x4096 e))
    (p : Fin 256) (k : Fin 4096) (hk : k.val < o ∨ o + 1024 ≤ k.val) :
    View.canon (⟨Rect.unit (s := S256x4096) ![0, o] S256x1024.size inb, w⟩ :: L) (ix2 p k) = View.canon L (ix2 p k) :=
  View.canon_cons_of_not_mem _ _ (off_quarter o inb p k hk)

/-- at its own place it is what is read. -/
theorem piece_take (o : Nat) (inb : ∀ a, (![0, o] : Fin 2 → Nat) a + S256x1024.size a ≤ S256x4096.size a) (w : Vec F S256x1024 e) (L : List (View.Piece (Elt F) S256x4096 e))
    (p : Fin 256) (q : Fin 1024) (k : Fin 4096) (hk : o + q.val = k.val) :
    View.canon (⟨Rect.unit (s := S256x4096) ![0, o] S256x1024.size inb, w⟩ :: L) (ix2 p k) = w (ix2 p q) := by
  rw [← at_quarter o inb p q k hk]
  exact View.canon_cons_emb _ _ _ _

theorem col_val (j : Fin 4) (q : Fin 1024) : (col j q).val = j.val * 1024 + q.val := rfl

/-- A quarter's entry of it: the first, -/
theorem laid0 (p : Fin 256) (q : Fin 1024) : laid a b c d (ix2 p (col 0 q)) = a (ix2 p q) := by
  have hq := q.isLt
  have hk : (col 0 q).val = q.val := (col_val 0 q).trans (Nat.zero_add _)
  generalize col 0 q = k at hk
  exact (piece_skip _ _ _ _ p k (by omega)).trans ((piece_skip _ _ _ _ p k (by omega)).trans ((piece_skip _ _ _ _ p k (by omega)).trans
    (piece_take _ _ _ _ p q k (by omega))))
/-- the second, -/
theorem laid1 (p : Fin 256) (q : Fin 1024) : laid a b c d (ix2 p (col 1 q)) = b (ix2 p q) := by
  have hq := q.isLt
  have hk : (col 1 q).val = 1024 + q.val := col_val 1 q
  generalize col 1 q = k at hk
  exact (piece_skip _ _ _ _ p k (by omega)).trans ((piece_skip _ _ _ _ p k (by omega)).trans (piece_take _ _ _ _ p q k (by omega)))
/-- the third, -/
theorem laid2 (p : Fin 256) (q : Fin 1024) : laid a b c d (ix2 p (col 2 q)) = c (ix2 p q) := by
  have hq := q.isLt
  have hk : (col 2 q).val = 2048 + q.val := col_val 2 q
  generalize col 2 q = k at hk
  exact (piece_skip _ _ _ _ p k (by omega)).trans (piece_take _ _ _ _ p q k (by omega))
/-- the fourth. -/
theorem laid3 (p : Fin 256) (q : Fin 1024) : laid a b c d (ix2 p (col 3 q)) = d (ix2 p q) := by
  have hk : (col 3 q).val = 3072 + q.val := col_val 3 q
  generalize col 3 q = k at hk
  exact piece_take _ _ _ _ p q k (by omega)

end Cert.Mlp

end
-- ==== Proof.MlpFirst.lean ====
/-
  The writes of the squared-ReLU pass's first point, in terms of the inputs' blocks and the two matrices.
-/
module

public import proofs.«01_k».proof.Proof.MlpWords
public import proofs.«01_k».proof.Proof.MlpRunFirst
public import Idealize.ShloMosaic.Lib.Pipeline.ReadBack

@[expose] public section

set_option maxRecDepth 16384

noncomputable section

namespace Cert.Mlp

open Cert.Kernel2Ideal Cert.Kernel2Ideal.Gen
open Idealize.ShloMosaic Idealize.ShloMosaic.TcCoe Idealize.ShloMosaic.Tactic

namespace First

variable {F : FTy → Type} [FloatOps F]

variable (c : Dev nD) (M : Bufs) (X : Ins F)
  (f0 : HbBuf0 (F := F) c hbM0_0) (f1 : HbBuf0 (F := F) c hbM0_1) (f2 : HbBuf0 (F := F) c hbM0_2) (f3 : HbBuf0 (F := F) c hbM0_3)

/-- The copies into the first matrix, the last one first. -/
abbrev copies1 (f0 : HbBuf0 (F := F) c hbM0_0) (f1 : HbBuf0 (F := F) c hbM0_1) : List (View.Piece (Elt F) S4x1024x1024 .bf16) :=
  [⟨Rect.unit ![3, 768, 0] S1x256x1024.size inb_S4x1024x1024_S1x256x1024_3_768_0, raise (runFirst.sl.dma0_30 c f1)⟩,
    ⟨Rect.unit ![3, 256, 0] S1x256x1024.size inb_S4x1024x1024_S1x256x1024_3_256_0, raise (runFirst.sl.dma0_28 c f1)⟩,
    ⟨Rect.unit ![2, 768, 0] S1x256x1024.size inb_S4x1024x1024_S1x256x1024_2_768_0, raise (runFirst.sl.dma0_26 c f1)⟩,
    ⟨Rect.unit ![2, 256, 0] S1x256x1024.size inb_S4x1024x1024_S1x256x1024_2_256_0, raise (runFirst.sl.dma0_24 c f1)⟩,
    ⟨Rect.unit ![1, 768, 0] S1x256x1024.size inb_S4x1024x1024_S1x256x1024_1_768_0, raise (runFirst.sl.dma0_22 c f1)⟩,
    ⟨Rect.unit ![1, 256, 0] S1x256x1024.size inb_S4x1024x1024_S1x256x1024_1_256_0, raise (runFirst.sl.dma0_20 c f1)⟩,
    ⟨Rect.unit ![0, 768, 0] S1x256x1024.size inb_S4x1024x1024_S1x256x1024_0_768_0, raise (runFirst.sl.dma0_18 c f1)⟩,
    ⟨Rect.unit ![0, 256, 0] S1x256x1024.size inb_S4x1024x1024_S1x256x1024_0_256_0, raise (runFirst.sl.dma0_16 c f1)⟩,
    ⟨Rect.unit ![3, 512, 0] S1x256x1024.size inb_S4x1024x1024_S1x256x1024_3_512_0, raise (runFirst.sl.dma0_14 c f0)⟩,
    ⟨Rect.unit ![3, 0, 0] S1x256x1024.size inb_S4x1024x1024_S1x256x1024_3_0_0, raise (runFirst.sl.dma0_12 c f0)⟩,
    ⟨Rect.unit ![2, 512, 0] S1x256x1024.size inb_S4x1024x1024_S1x256x1024_2_512_0, raise (runFirst.sl.dma0_10 c f0)⟩,
    ⟨Rect.unit ![2, 0, 0] S1x256x1024.size inb_S4x1024x1024_S1x256x1024_2_0_0, raise (runFirst.sl.dma0_8 c f0)⟩,
    ⟨Rect.unit ![1, 512, 0] S1x256x1024.size inb_S4x1024x1024_S1x256x1024_1_512_0, raise (runFirst.sl.dma0_6 c f0)⟩,
    ⟨Rect.unit ![1, 0, 0] S1x256x1024.size inb_S4x1024x1024_S1x256x1024_1_0_0, raise (runFirst.sl.dma0_4 c f0)⟩,
    ⟨Rect.unit ![0, 512, 0] S1x256x1024.size inb_S4x1024x1024_S1x256x1024_0_512_0, raise (runFirst.sl.dma0_2 c f0)⟩,
    ⟨Rect.unit ![0, 0, 0] S1x256x1024.size inb_S4x1024x1024_S1x256x1024_0_0_0, raise (runFirst.sl.dma0 c f0)⟩]

/-- The first matrix after the copies. -/
def m1 (f0 : HbBuf0 (F := F) c hbM0_0) (f1 : HbBuf0 (F := F) c hbM0_1) : Vec F S4x1024x1024 .bf16 := View.canon (copies1 c f0 f1)

/-- The copies into the second matrix, the last one first. -/
abbrev copies2 (f2 : HbBuf0 (F := F) c hbM0_2) (f3 : HbBuf0 (F := F) c hbM0_3) : List (View.Piece (Elt F) S4x1024x1024 .bf16) :=
  [⟨Rect.unit ![3, 768, 0] S1x256x1024.size inb_S4x1024x1024_S1x256x1024_3_768_0, raise (runFirst.sl.dma0_31 c f3)⟩,
    ⟨Rect.unit ![3, 256, 0] S1x256x1024.size inb_S4x1024x1024_S1x256x1024_3_256_0, raise (runFirst.sl.dma0_29 c f3)⟩,
    ⟨Rect.unit ![2, 768, 0] S1x256x1024.size inb_S4x1024x1024_S1x256x1024_2_768_0, raise (runFirst.sl.dma0_27 c f3)⟩,
    ⟨Rect.unit ![2, 256, 0] S1x256x1024.size inb_S4x1024x1024_S1x256x1024_2_256_0, raise (runFirst.sl.dma0_25 c f3)⟩,
    ⟨Rect.unit ![1, 768, 0] S1x256x1024.size inb_S4x1024x1024_S1x256x1024_1_768_0, raise (runFirst.sl.dma0_23 c f3)⟩,
    ⟨Rect.unit ![1, 256, 0] S1x256x1024.size inb_S4x1024x1024_S1x256x1024_1_256_0, raise (runFirst.sl.dma0_21 c f3)⟩,
    ⟨Rect.unit ![0, 768, 0] S1x256x1024.size inb_S4x1024x1024_S1x256x1024_0_768_0, raise (runFirst.sl.dma0_19 c f3)⟩,
    ⟨Rect.unit ![0, 256, 0] S1x256x1024.size inb_S4x1024x1024_S1x256x1024_0_256_0, raise (runFirst.sl.dma0_17 c f3)⟩,
    ⟨Rect.unit ![3, 512, 0] S1x256x1024.size inb_S4x1024x1024_S1x256x1024_3_512_0, raise (runFirst.sl.dma0_15 c f2)⟩,
    ⟨Rect.unit ![3, 0, 0] S1x256x1024.size inb_S4x1024x1024_S1x256x1024_3_0_0, raise (runFirst.sl.dma0_13 c f2)⟩,
    ⟨Rect.unit ![2, 512, 0] S1x256x1024.size inb_S4x1024x1024_S1x256x1024_2_512_0, raise (runFirst.sl.dma0_11 c f2)⟩,
    ⟨Rect.unit ![2, 0, 0] S1x256x1024.size inb_S4x1024x1024_S1x256x1024_2_0_0, raise (runFirst.sl.dma0_9 c f2)⟩,
    ⟨Rect.unit ![1, 512, 0] S1x256x1024.size inb_S4x1024x1024_S1x256x1024_1_512_0, raise (runFirst.sl.dma0_7 c f2)⟩,
    ⟨Rect.unit ![1, 0, 0] S1x256x1024.size inb_S4x1024x1024_S1x256x1024_1_0_0, raise (runFirst.sl.dma0_5 c f2)⟩,
    ⟨Rect.unit ![0, 512, 0] S1x256x1024.size inb_S4x1024x1024_S1x256x1024_0_512_0, raise (runFirst.sl.dma0_3 c f2)⟩,
    ⟨Rect.unit ![0, 0, 0] S1x256x1024.size inb_S4x1024x1024_S1x256x1024_0_0_0, raise (runFirst.sl.dma0_1 c f2)⟩]

/-- The second matrix after the copies. -/
def m2 (f2 : HbBuf0 (F := F) c hbM0_2) (f3 : HbBuf0 (F := F) c hbM0_3) : Vec F S4x1024x1024 .bf16 := View.canon (copies2 c f2 f3)

theorem word_x1 : runFirst.sl.r c M X = X.x1 := by
  unfold runFirst.sl.r; simp only [View.readAt_eq_ld, M.hx1.read_unread]; exact View.ld_unit_zero zeros2 _ _
theorem word_n2g : runFirst.sl.r_1 c M X = X.n2g := by
  unfold runFirst.sl.r_1; simp only [View.readAt_eq_ld, M.hn2g.read_unread]; exact View.ld_unit_zero zeros2 _ _
theorem word_sc2 : runFirst.sl.r_2 c M X = X.sc2 := by
  unfold runFirst.sl.r_2; simp only [View.readAt_eq_ld, M.hsc2.read_unread]; exact View.ld_unit_zero zeros2 _ _
theorem word_g2 : runFirst.sl.r_3 c M X = X.g2 := by
  unfold runFirst.sl.r_3; simp only [View.readAt_eq_ld, M.hg2.read_unread]; exact View.ld_unit_zero zeros2 _ _
theorem word_fg : runFirst.sl.r_4 c M X = X.fg := by
  unfold runFirst.sl.r_4; simp only [View.readAt_eq_ld, M.hfg.read_unread]; exact View.ld_unit_zero zeros2 _ _
theorem word_h : runFirst.sl.r_5 c M X = Words.h X := by
  unfold runFirst.sl.r_5; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_v30 : runFirst.sl.v30 c M f0 f1 = q0 (m1 c f0 f1) := by
  unfold runFirst.sl.v30; exact View.readCov_eq_canon' _ _ _
theorem word_v41 : runFirst.sl.v41 c M f2 f3 = q0 (m2 c f2 f3) := by
  unfold runFirst.sl.v41; exact View.readCov_eq_canon' _ _ _
theorem word_v45 : runFirst.sl.v45 c M f0 f1 = q1 (m1 c f0 f1) := by
  unfold runFirst.sl.v45; exact View.readCov_eq_canon' _ _ _
theorem word_v56 : runFirst.sl.v56 c M f2 f3 = q1 (m2 c f2 f3) := by
  unfold runFirst.sl.v56; exact View.readCov_eq_canon' _ _ _
theorem word_v60 : runFirst.sl.v60 c M f0 f1 = q2 (m1 c f0 f1) := by
  unfold runFirst.sl.v60; exact View.readCov_eq_canon' _ _ _
theorem word_v71 : runFirst.sl.v71 c M f2 f3 = q2 (m2 c f2 f3) := by
  unfold runFirst.sl.v71; exact View.readCov_eq_canon' _ _ _
theorem word_v75 : runFirst.sl.v75 c M f0 f1 = q3 (m1 c f0 f1) := by
  unfold runFirst.sl.v75; exact View.readCov_eq_canon' _ _ _
theorem word_v86 : runFirst.sl.v86 c M f2 f3 = q3 (m2 c f2 f3) := by
  unfold runFirst.sl.v86; exact View.readCov_eq_canon' _ _ _
theorem word_6 : runFirst.sl.r_6 c M f0 f1 = k0_pay13 (q0 (m1 c f0 f1)) := by
  unfold runFirst.sl.r_6; simp only [word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_8 : runFirst.sl.r_8 c M f0 f1 = k0_pay21 (q2 (m1 c f0 f1)) := by
  unfold runFirst.sl.r_8; simp only [word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_half : runFirst.sl.r_7 c M X f0 f1 f2 f3 = Words.half X (m1 c f0 f1) (m2 c f2 f3) := by
  unfold runFirst.sl.r_7; simp only [word_h, word_6, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_out : runFirst.sl.r_9 c M X f0 f1 f2 f3 = Words.out X (m1 c f0 f1) (m2 c f2 f3) := by
  unfold runFirst.sl.r_9; simp only [word_x1, word_g2, word_h, word_half, word_8, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_x2 : runFirst.sl.r_10 c M X f0 f1 f2 f3 = Words.x2 X (m1 c f0 f1) (m2 c f2 f3) := by
  unfold runFirst.sl.r_10; simp only [word_x1, word_g2, word_h, word_half, word_8, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_sq : runFirst.sl.r_11 c M X f0 f1 f2 f3 = Words.sq X (m1 c f0 f1) (m2 c f2 f3) := by
  unfold runFirst.sl.r_11; simp only [word_x1, word_g2, word_h, word_half, word_8, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dx2 : runFirst.sl.r_12 c M X f0 f1 f2 f3 = Words.dx2 X (m1 c f0 f1) (m2 c f2 f3) := by
  unfold runFirst.sl.r_12; simp only [word_fg, word_x2, word_sq, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dm : runFirst.sl.r_13 c M X f0 f1 f2 f3 = Words.dm X (m1 c f0 f1) (m2 c f2 f3) := by
  unfold runFirst.sl.r_13; simp only [word_g2, word_dx2]; rfl
theorem word_rs : runFirst.sl.Hrs_4 c M X f0 f1 = quarters (Words.r0 X (m1 c f0 f1)) (Words.r1 X (m1 c f0 f1)) (Words.r2 X (m1 c f0 f1)) (Words.r3 X (m1 c f0 f1)) := by
  unfold runFirst.sl.Hrs_4; simp only [word_h, word_6, word_8, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_r0 : runFirst.sl.v150 c M X f0 f1 = Words.r0 X (m1 c f0 f1) := by
  unfold runFirst.sl.v150; rw [word_rs]; exact quarter0 _ _ _ _ _
theorem word_r1 : runFirst.sl.v163 c M X f0 f1 = Words.r1 X (m1 c f0 f1) := by
  unfold runFirst.sl.v163; rw [word_rs]; exact quarter1 _ _ _ _ _
theorem word_r2 : runFirst.sl.v176 c M X f0 f1 = Words.r2 X (m1 c f0 f1) := by
  unfold runFirst.sl.v176; rw [word_rs]; exact quarter2 _ _ _ _ _
theorem word_r3 : runFirst.sl.v189 c M X f0 f1 = Words.r3 X (m1 c f0 f1) := by
  unfold runFirst.sl.v189; rw [word_rs]; exact quarter3 _ _ _ _ _
theorem word_b0 : runFirst.sl.r_14 c M X f0 f1 f2 f3 = Words.b0 X (m1 c f0 f1) (m2 c f2 f3) := by
  unfold runFirst.sl.r_14; simp only [word_r0, word_r1, word_r2, word_r3, word_g2, word_dx2, word_dm, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_15 : runFirst.sl.r_15 c M X f0 f1 f2 f3 = k0_pay42 X.g2 (Words.dx2 X (m1 c f0 f1) (m2 c f2 f3)) (q1 (m2 c f2 f3)) := by
  unfold runFirst.sl.r_15; simp only [word_r0, word_r1, word_r2, word_r3, word_g2, word_dx2, word_dm, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_b2 : runFirst.sl.r_16 c M X f0 f1 f2 f3 = Words.b2 X (m1 c f0 f1) (m2 c f2 f3) := by
  unfold runFirst.sl.r_16; simp only [word_b0, word_15, word_r0, word_r1, word_r2, word_r3, word_g2, word_dx2, word_dm, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_d3 : runFirst.sl.r_17 c M X f0 f1 f2 f3 = Words.d3 X (m1 c f0 f1) (m2 c f2 f3) := by
  unfold runFirst.sl.r_17; simp only [word_r0, word_r1, word_r2, word_r3, word_g2, word_dx2, word_dm, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_gain : runFirst.sl.r_18 c M X f0 f1 f2 f3 = Words.gain X (m1 c f0 f1) (m2 c f2 f3) := by
  unfold runFirst.sl.r_18; simp only [word_x1, word_n2g, word_sc2, word_b2, word_d3, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_shift : runFirst.sl.r_19 c M X f0 f1 f2 f3 = Words.shift X (m1 c f0 f1) (m2 c f2 f3) := by
  unfold runFirst.sl.r_19; simp only [word_x1, word_n2g, word_sc2, word_b2, word_d3, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_scl : runFirst.sl.r_20 c M X f0 f1 f2 f3 = Words.scl X (m1 c f0 f1) (m2 c f2 f3) := by
  unfold runFirst.sl.r_20; simp only [word_x1, word_n2g, word_sc2, word_b2, word_d3, word_v30, word_v41, word_v45, word_v56, word_v60, word_v71, word_v75, word_v86, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dsc0 : runFirst.sl.v245 c M = (k0_pay5 : FVec F S1x1024 .f32) := by
  unfold runFirst.sl.v245; exact View.readCov_cons_toLoadRect _ _ _ _
theorem word_dsh0 : runFirst.sl.v241 c M = (k0_pay6 : FVec F S1x1024 .f32) := by
  unfold runFirst.sl.v241; exact View.readCov_cons_toLoadRect _ _ _ _
theorem word_dg20 : runFirst.sl.v135 c M = (k0_pay7 : FVec F S1x1024 .f32) := by
  unfold runFirst.sl.v135; exact View.readCov_cons_toLoadRect _ _ _ _
theorem word_dn20 : runFirst.sl.v237 c M = (k0_pay8 : FVec F S1x1024 .f32) := by
  unfold runFirst.sl.v237; exact View.readCov_cons_toLoadRect _ _ _ _
theorem word_dfg0 : runFirst.sl.v116 c M = (k0_pay9 : FVec F S1x1024 .f32) := by
  unfold runFirst.sl.v116; exact View.readCov_cons_toLoadRect _ _ _ _
theorem word_loss0 : runFirst.sl.v107 c M = (k0_pay10 : FVec F S1x1024 .f32) := by
  unfold runFirst.sl.v107; exact View.readCov_cons_toLoadRect _ _ _ _

variable (i : grid0.Coords) (h0 : cond0_0 i) (h1 : ¬cond0_1 i) (w1 w2 : Vec F S4x1024x1024 .bf16)

theorem dx1 : ((runFirst c i M h0 h1 X f0 f1 f2 f3).1.read w1 w2).dx1 = Words.dx1 X (m1 c f0 f1) (m2 c f2 f3) := by
  unfold Pieces.read; dsimp only; rw [View.read_writes_eq_canon _ _ (runFirst c i M h0 h1 X f0 f1 f2 f3).1.dx1 (View.cover_of_tiledL (runFirst c i M h0 h1 X f0 f1 f2 f3).1.dx1 S256x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem h2b : ((runFirst c i M h0 h1 X f0 f1 f2 f3).1.read w1 w2).h2b = Words.h X := by
  unfold Pieces.read; dsimp only; rw [View.read_writes_eq_canon _ _ (runFirst c i M h0 h1 X f0 f1 f2 f3).1.h2b (View.cover_of_tiledL (runFirst c i M h0 h1 X f0 f1 f2 f3).1.h2b S256x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem ab : ((runFirst c i M h0 h1 X f0 f1 f2 f3).1.read w1 w2).ab = laid (Words.a0 X (m1 c f0 f1)) (Words.a1 X (m1 c f0 f1)) (Words.a2 X (m1 c f0 f1)) (Words.a3 X (m1 c f0 f1)) := by
  unfold Pieces.read; dsimp only; rw [View.read_writes_eq_canon _ _ (runFirst c i M h0 h1 X f0 f1 f2 f3).1.ab (View.cover_of_tiledL (runFirst c i M h0 h1 X f0 f1 f2 f3).1.ab S256x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dub : ((runFirst c i M h0 h1 X f0 f1 f2 f3).1.read w1 w2).dub = laid (Words.d0 X (m1 c f0 f1) (m2 c f2 f3)) (Words.d1 X (m1 c f0 f1) (m2 c f2 f3)) (Words.d2 X (m1 c f0 f1) (m2 c f2 f3)) (Words.d3 X (m1 c f0 f1) (m2 c f2 f3)) := by
  unfold Pieces.read; dsimp only; rw [View.read_writes_eq_canon _ _ (runFirst c i M h0 h1 X f0 f1 f2 f3).1.dub (View.cover_of_tiledL (runFirst c i M h0 h1 X f0 f1 f2 f3).1.dub S256x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dmb : ((runFirst c i M h0 h1 X f0 f1 f2 f3).1.read w1 w2).dmb = Words.dm X (m1 c f0 f1) (m2 c f2 f3) := by
  unfold Pieces.read; dsimp only; rw [View.read_writes_eq_canon _ _ (runFirst c i M h0 h1 X f0 f1 f2 f3).1.dmb (View.cover_of_tiledL (runFirst c i M h0 h1 X f0 f1 f2 f3).1.dmb S256x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsc : ((runFirst c i M h0 h1 X f0 f1 f2 f3).1.read w1 w2).dsc = k0_pay3 (Words.scl X (m1 c f0 f1) (m2 c f2 f3)) k0_pay5 := by
  unfold Pieces.read; dsimp only; rw [View.read_writes_eq_canon _ _ (runFirst c i M h0 h1 X f0 f1 f2 f3).1.dsc (View.cover_of_tiledL (runFirst c i M h0 h1 X f0 f1 f2 f3).1.dsc S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsh : ((runFirst c i M h0 h1 X f0 f1 f2 f3).1.read w1 w2).dsh = k0_pay2 (Words.shift X (m1 c f0 f1) (m2 c f2 f3)) k0_pay6 := by
  unfold Pieces.read; dsimp only; rw [View.read_writes_eq_canon _ _ (runFirst c i M h0 h1 X f0 f1 f2 f3).1.dsh (View.cover_of_tiledL (runFirst c i M h0 h1 X f0 f1 f2 f3).1.dsh S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dg2 : ((runFirst c i M h0 h1 X f0 f1 f2 f3).1.read w1 w2).dg2 = Words.gate X (m1 c f0 f1) (m2 c f2 f3) k0_pay7 := by
  unfold Pieces.read; dsimp only; rw [View.read_writes_eq_canon _ _ (runFirst c i M h0 h1 X f0 f1 f2 f3).1.dg2 (View.cover_of_tiledL (runFirst c i M h0 h1 X f0 f1 f2 f3).1.dg2 S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dn2 : ((runFirst c i M h0 h1 X f0 f1 f2 f3).1.read w1 w2).dn2 = k0_pay1 (Words.gain X (m1 c f0 f1) (m2 c f2 f3)) k0_pay8 := by
  unfold Pieces.read; dsimp only; rw [View.read_writes_eq_canon _ _ (runFirst c i M h0 h1 X f0 f1 f2 f3).1.dn2 (View.cover_of_tiledL (runFirst c i M h0 h1 X f0 f1 f2 f3).1.dn2 S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dfg : ((runFirst c i M h0 h1 X f0 f1 f2 f3).1.read w1 w2).dfg = Words.last X (m1 c f0 f1) (m2 c f2 f3) k0_pay9 := by
  unfold Pieces.read; dsimp only; rw [View.read_writes_eq_canon _ _ (runFirst c i M h0 h1 X f0 f1 f2 f3).1.dfg (View.cover_of_tiledL (runFirst c i M h0 h1 X f0 f1 f2 f3).1.dfg S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem loss : ((runFirst c i M h0 h1 X f0 f1 f2 f3).1.read w1 w2).loss = Words.loss X (m1 c f0 f1) (m2 c f2 f3) k0_pay10 := by
  unfold Pieces.read; dsimp only; rw [View.read_writes_eq_canon _ _ (runFirst c i M h0 h1 X f0 f1 f2 f3).1.loss (View.cover_of_tiledL (runFirst c i M h0 h1 X f0 f1 f2 f3).1.loss S1x1024.size (by sl_kernel_rfl))]; unfold runFirst; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_v30, word_v41, word_v45, word_v56, word_v60, word_v71, word_v75, word_v86, word_dsc0, word_dsh0, word_dg20, word_dn20, word_dfg0, word_loss0, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem filled1 : (runFirst c i M h0 h1 X f0 f1 f2 f3).1.w1 = m1 c f0 f1 := by
  unfold Pieces.w1; rw [View.read_writes_eq_canon _ _ (runFirst c i M h0 h1 X f0 f1 f2 f3).1.w1s (View.cover_of_tiledL (runFirst c i M h0 h1 X f0 f1 f2 f3).1.w1s S1x256x1024.size (by sl_kernel_rfl))]; rfl
theorem filled2 : (runFirst c i M h0 h1 X f0 f1 f2 f3).1.w2 = m2 c f2 f3 := by
  unfold Pieces.w2; rw [View.read_writes_eq_canon _ _ (runFirst c i M h0 h1 X f0 f1 f2 f3).1.w2s (View.cover_of_tiledL (runFirst c i M h0 h1 X f0 f1 f2 f3).1.w2s S1x256x1024.size (by sl_kernel_rfl))]; rfl

end First

end Cert.Mlp

end
-- ==== Proof.MlpWeights.lean ====
/-
  The two matrices of the squared-ReLU layer as the host lays them out and as the first point copies them together.
-/
module

public import proofs.«01_k».proof.Proof.MlpData
public import proofs.«01_k».proof.Proof.MlpFirst
public import proofs.«01_k».proof.Proof.MlpRow
public import Idealize.ShloMosaic.Lib.StableHlo.ReadAt
public import Idealize.ShloMosaic.Lib.Claim
public import Idealize.ShloMosaic.Lib.Pointwise

@[expose] public section

set_option maxRecDepth 16384

noncomputable section

namespace Cert.Mlp

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The first matrix, as an argument. -/
abbrev arg1 : Vec Ideal S1024x4096 .f32 := m ((c : Thread nD τ).loc main_arg6)

/-- The second matrix, as an argument. -/
abbrev arg2 : Vec Ideal S4096x1024 .f32 := m ((c : Thread nD τ).loc main_arg7)

/-- The host's layout of the first matrix: by half, device, row and column. -/
theorem layout1 (A : Vec Ideal S1024x4096 .f32) (b : Fin 2) (d : Fin 8) (r : Fin 256) (q : Fin 1024) (k : Fin 1024) (n : Fin 4096)
    (hk : k.val = d.val % 2 * 512 + (256 * b.val + r.val)) (hn : n.val = d.val / 2 * 1024 + q.val) :
    (shapeCast S2x8x256x1024 (transpose S2x4x2x256x1024 [1, 3, 0, 2, 4] (shapeCast S2x2x256x4x1024 (truncf (F := Ideal) .bf16 A bitsLt_bf16_f32)
      shapeCasts_S1024x4096_S2x2x256x4x1024) transposes_S2x2x256x4x1024_S2x4x2x256x1024_1_3_0_2_4) shapeCasts_S2x4x2x256x1024_S2x8x256x1024
      : Vec Ideal S2x8x256x1024 .bf16) (ix4 b d r q) = A (ix2 k n) := by
  pointwise
  exact congrArg₂ (fun a b => A (ix2 a b)) (Fin.ext (by dsimp only; omega)) (Fin.ext (by dsimp only; omega))

/-- The host's layout of the second matrix. -/
theorem layout2 (A : Vec Ideal S4096x1024 .f32) (b : Fin 2) (d : Fin 8) (r : Fin 256) (q : Fin 1024) (k : Fin 4096)
    (hk : k.val = d.val / 2 * 1024 + (d.val % 2 * 512 + (256 * b.val + r.val))) :
    (shapeCast S2x8x256x1024 (transpose S2x4x2x256x1024 [2, 0, 1, 3, 4] (shapeCast S4x2x2x256x1024 (truncf (F := Ideal) .bf16 A bitsLt_bf16_f32)
      shapeCasts_S4096x1024_S4x2x2x256x1024) transposes_S4x2x2x256x1024_S2x4x2x256x1024_2_0_1_3_4) shapeCasts_S2x4x2x256x1024_S2x8x256x1024
      : Vec Ideal S2x8x256x1024 .bf16) (ix4 b d r q) = A (ix2 k q) := by
  pointwise
  exact congrArg (fun a => A (ix2 a q)) (Fin.ext (by dsimp only; omega))

/-- One half of a layout: the first, -/
theorem half0 (W : Vec Ideal S2x8x256x1024 .bf16) (d : Fin 8) (r : Fin 256) (q : Fin 1024) :
    shapeCast S8x256x1024 (extractStridedSlice S1x8x256x1024 ![0, 0, 0, 0] W slices_S2x8x256x1024_S1x8x256x1024_0_0_0_0)
      shapeCasts_S1x8x256x1024_S8x256x1024 (ix3 d r q) = W (ix4 0 d r q) := by
  pointwise
/-- the second. -/
theorem half1 (W : Vec Ideal S2x8x256x1024 .bf16) (d : Fin 8) (r : Fin 256) (q : Fin 1024) :
    shapeCast S8x256x1024 (extractStridedSlice S1x8x256x1024 ![1, 0, 0, 0] W slices_S2x8x256x1024_S1x8x256x1024_1_0_0_0)
      shapeCasts_S1x8x256x1024_S8x256x1024 (ix3 d r q) = W (ix4 1 d r q) := by
  pointwise

/-- The first half of a device's rows of the first matrix, as the host lays it out. -/
theorem host_v9 (d : Fin 8) (r : Fin 256) (q : Fin 1024) (k : Fin 1024) (n : Fin 4096) (hk : k.val = d.val % 2 * 512 + (r.val)) (hn : n.val = d.val / 2 * 1024 + q.val) :
    (V m c main_v9 : Vec Ideal S8x256x1024 .bf16) (ix3 d r q) = arg1 m c (ix2 k n) := by
  entry_read
  exact (half0 _ d r q).trans (layout1 _ 0 d r q k n (by show k.val = d.val % 2 * 512 + (256 * 0 + r.val); omega) hn)

/-- The second half. -/
theorem host_v11 (d : Fin 8) (r : Fin 256) (q : Fin 1024) (k : Fin 1024) (n : Fin 4096) (hk : k.val = d.val % 2 * 512 + (256 + r.val)) (hn : n.val = d.val / 2 * 1024 + q.val) :
    (V m c main_v11 : Vec Ideal S8x256x1024 .bf16) (ix3 d r q) = arg1 m c (ix2 k n) := by
  entry_read
  exact (half1 _ d r q).trans (layout1 _ 1 d r q k n (by show k.val = d.val % 2 * 512 + (256 * 1 + r.val); omega) hn)

/-- The first half of a device's rows of the second matrix. -/
theorem host_v13 (d : Fin 8) (r : Fin 256) (q : Fin 1024) (k : Fin 4096) (hk : k.val = d.val / 2 * 1024 + (d.val % 2 * 512 + (r.val))) :
    (V m c main_v13 : Vec Ideal S8x256x1024 .bf16) (ix3 d r q) = arg2 m c (ix2 k q) := by
  entry_read
  exact (half0 _ d r q).trans (layout2 _ 0 d r q k (by show k.val = d.val / 2 * 1024 + (d.val % 2 * 512 + (256 * 0 + r.val)); omega))

/-- The second half. -/
theorem host_v15 (d : Fin 8) (r : Fin 256) (q : Fin 1024) (k : Fin 4096) (hk : k.val = d.val / 2 * 1024 + (d.val % 2 * 512 + (256 + r.val))) :
    (V m c main_v15 : Vec Ideal S8x256x1024 .bf16) (ix3 d r q) = arg2 m c (ix2 k q) := by
  entry_read
  exact (half1 _ d r q).trans (layout2 _ 1 d r q k (by show k.val = d.val / 2 * 1024 + (d.val % 2 * 512 + (256 * 1 + r.val)); omega))

/-- Where the rows of device `d` lie in the host's layout. -/
theorem at_device (d : Fin 8) (inb : ∀ a, (![d.val, 0, 0] : Fin 3 → Nat) a + S1x256x1024.size a ≤ S8x256x1024.size a) (h : S256x1024.numel = S1x256x1024.numel)
    (r : Fin 256) (q : Fin 1024) :
    (Rect.unit (s := S8x256x1024) ![d.val, 0, 0] S1x256x1024.size inb).emb (Shape.reshapeEquiv h (ix2 r q)) = ix3 d r q := by
  rw [show Shape.reshapeEquiv h (ix2 r q) = ix3 0 r q from ValueIdx.reshapeEquiv_ix2_1ab h r q]
  funext a; apply Fin.ext
  fin_cases a
  · show d.val + 1 * 0 = d.val; omega
  · show 0 + 1 * r.val = r.val; omega
  · show 0 + 1 * q.val = q.val; omega

/-- The rows of device `d`, read out of the host's layout with the device's axis dropped. -/
theorem from_device {sp : Space} (N : Memref sig .tc sp S8x256x1024 .bf16) (f : N.view.ty.Contents (Elt Ideal)) (G : Vec Ideal S8x256x1024 .bf16)
    (hN : ∀ x, View.read (Elt Ideal) N.view f x = G x) (d : Fin 8)
    (inb : ∀ a, (![d.val, 0, 0] : Fin 3 → Nat) a + S1x256x1024.size a ≤ S8x256x1024.size a) (hr) (hq : S1x256x1024.Squeezes S256x1024)
    (r : Fin 256) (q : Fin 1024) :
    ReadAs.same.apply (View.read (Elt Ideal) ((N.slice (Rect.unit ![d.val, 0, 0] S1x256x1024.size inb) hr).squeeze S256x1024 hq).view f) (ix2 r q)
      = G (ix3 d r q) :=
  (show _ = View.read (Elt Ideal) N.view f ((Rect.unit (s := S8x256x1024) ![d.val, 0, 0] S1x256x1024.size inb).emb (Shape.reshapeEquiv hq.numel_eq (ix2 r q))) from rfl).trans
    ((hN _).trans (congrArg G (at_device d inb hq.numel_eq r q)))

/-- A copy of 256 rows brings the entries of its source. -/
theorem copied (f : Vec Ideal S8x256x1024 .bf16) (G : Vec Ideal S4x1024x1024 .bf16) (w : Vec Ideal S1x256x1024 .bf16) (d : Fin 8) (j : Fin 4) (o : Nat)
    (inb : ∀ a, (![j.val, o, 0] : Fin 3 → Nat) a + S1x256x1024.size a ≤ S4x1024x1024.size a)
    (hw : ∀ (r : Fin 256) (q : Fin 1024), w (ix3 0 r q) = f (ix3 d r q))
    (hf : ∀ (r : Fin 256) (q k : Fin 1024), k.val = o + r.val → f (ix3 d r q) = G (ix3 j k q)) :
    ∀ x : S1x256x1024.Idx, w x = G ((Rect.unit (s := S4x1024x1024) ![j.val, o, 0] S1x256x1024.size inb).emb x) := by
  intro x
  obtain ⟨z, r, q, rfl⟩ : ∃ (z : Fin 1) (r : Fin 256) (q : Fin 1024), x = ix3 z r q :=
    ⟨x 0, x 1, x 2, funext fun a => match a with | ⟨0, _⟩ => rfl | ⟨1, _⟩ => rfl | ⟨2, _⟩ => rfl⟩
  obtain rfl : z = 0 := Subsingleton.elim _ _
  have ho : o + 256 ≤ 1024 := inb 1
  have hr := r.isLt
  refine (hw r q).trans ((hf r q ⟨o + r.val, by omega⟩ rfl).trans (congrArg G (funext fun a => Fin.ext ?_)))
  fin_cases a
  · show j.val = j.val + 1 * 0; omega
  · show o + r.val = o + 1 * r.val; omega
  · show q.val = 0 + 1 * q.val; omega

/-- The first matrix in quarters. -/
def whole1 : Vec Ideal S4x1024x1024 .bf16 := fun y => arg1 m c (ix2 (y 1) (col (y 0) (y 2)))

set_option maxHeartbeats 4000000 in
/-- The first point copies the matrix together. -/
theorem gathered1 : First.m1 c (V m c main_v9) (V m c main_v11) = whole1 m c := by
  funext y
  unfold First.m1
  refine View.canon_apply_of_pieces (whole1 m c) _ ?_ y (View.cover_of_tiledL (First.copies1 c (V m c main_v9) (V m c main_v11)) S1x256x1024.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · exact copied (V m c main_v11) (whole1 m c) (raise (runFirst.sl.dma0_30 c (V m c main_v11))) 7 3 768 inb_S4x1024x1024_S1x256x1024_3_768_0 (fun r q => (raise_apply (runFirst.sl.dma0_30 c (V m c main_v11)) r q).trans (by unfold runFirst.sl.dma0_30; exact from_device (Memref.whole main_v11) (V m c main_v11) (V m c main_v11) (fun _ => rfl) 7 _ _ _ r q)) fun r q k hk =>
      host_v11 m c 7 r q k (col 3 q) (by show k.val = 7 % 2 * 512 + (256 + r.val); omega) rfl
  · exact copied (V m c main_v11) (whole1 m c) (raise (runFirst.sl.dma0_28 c (V m c main_v11))) 6 3 256 inb_S4x1024x1024_S1x256x1024_3_256_0 (fun r q => (raise_apply (runFirst.sl.dma0_28 c (V m c main_v11)) r q).trans (by unfold runFirst.sl.dma0_28; exact from_device (Memref.whole main_v11) (V m c main_v11) (V m c main_v11) (fun _ => rfl) 6 _ _ _ r q)) fun r q k hk =>
      host_v11 m c 6 r q k (col 3 q) (by show k.val = 6 % 2 * 512 + (256 + r.val); omega) rfl
  · exact copied (V m c main_v11) (whole1 m c) (raise (runFirst.sl.dma0_26 c (V m c main_v11))) 5 2 768 inb_S4x1024x1024_S1x256x1024_2_768_0 (fun r q => (raise_apply (runFirst.sl.dma0_26 c (V m c main_v11)) r q).trans (by unfold runFirst.sl.dma0_26; exact from_device (Memref.whole main_v11) (V m c main_v11) (V m c main_v11) (fun _ => rfl) 5 _ _ _ r q)) fun r q k hk =>
      host_v11 m c 5 r q k (col 2 q) (by show k.val = 5 % 2 * 512 + (256 + r.val); omega) rfl
  · exact copied (V m c main_v11) (whole1 m c) (raise (runFirst.sl.dma0_24 c (V m c main_v11))) 4 2 256 inb_S4x1024x1024_S1x256x1024_2_256_0 (fun r q => (raise_apply (runFirst.sl.dma0_24 c (V m c main_v11)) r q).trans (by unfold runFirst.sl.dma0_24; exact from_device (Memref.whole main_v11) (V m c main_v11) (V m c main_v11) (fun _ => rfl) 4 _ _ _ r q)) fun r q k hk =>
      host_v11 m c 4 r q k (col 2 q) (by show k.val = 4 % 2 * 512 + (256 + r.val); omega) rfl
  · exact copied (V m c main_v11) (whole1 m c) (raise (runFirst.sl.dma0_22 c (V m c main_v11))) 3 1 768 inb_S4x1024x1024_S1x256x1024_1_768_0 (fun r q => (raise_apply (runFirst.sl.dma0_22 c (V m c main_v11)) r q).trans (by unfold runFirst.sl.dma0_22; exact from_device (Memref.whole main_v11) (V m c main_v11) (V m c main_v11) (fun _ => rfl) 3 _ _ _ r q)) fun r q k hk =>
      host_v11 m c 3 r q k (col 1 q) (by show k.val = 3 % 2 * 512 + (256 + r.val); omega) rfl
  · exact copied (V m c main_v11) (whole1 m c) (raise (runFirst.sl.dma0_20 c (V m c main_v11))) 2 1 256 inb_S4x1024x1024_S1x256x1024_1_256_0 (fun r q => (raise_apply (runFirst.sl.dma0_20 c (V m c main_v11)) r q).trans (by unfold runFirst.sl.dma0_20; exact from_device (Memref.whole main_v11) (V m c main_v11) (V m c main_v11) (fun _ => rfl) 2 _ _ _ r q)) fun r q k hk =>
      host_v11 m c 2 r q k (col 1 q) (by show k.val = 2 % 2 * 512 + (256 + r.val); omega) rfl
  · exact copied (V m c main_v11) (whole1 m c) (raise (runFirst.sl.dma0_18 c (V m c main_v11))) 1 0 768 inb_S4x1024x1024_S1x256x1024_0_768_0 (fun r q => (raise_apply (runFirst.sl.dma0_18 c (V m c main_v11)) r q).trans (by unfold runFirst.sl.dma0_18; exact from_device (Memref.whole main_v11) (V m c main_v11) (V m c main_v11) (fun _ => rfl) 1 _ _ _ r q)) fun r q k hk =>
      host_v11 m c 1 r q k (col 0 q) (by show k.val = 1 % 2 * 512 + (256 + r.val); omega) rfl
  · exact copied (V m c main_v11) (whole1 m c) (raise (runFirst.sl.dma0_16 c (V m c main_v11))) 0 0 256 inb_S4x1024x1024_S1x256x1024_0_256_0 (fun r q => (raise_apply (runFirst.sl.dma0_16 c (V m c main_v11)) r q).trans (by unfold runFirst.sl.dma0_16; exact from_device (Memref.whole main_v11) (V m c main_v11) (V m c main_v11) (fun _ => rfl) 0 _ _ _ r q)) fun r q k hk =>
      host_v11 m c 0 r q k (col 0 q) (by show k.val = 0 % 2 * 512 + (256 + r.val); omega) rfl
  · exact copied (V m c main_v9) (whole1 m c) (raise (runFirst.sl.dma0_14 c (V m c main_v9))) 7 3 512 inb_S4x1024x1024_S1x256x1024_3_512_0 (fun r q => (raise_apply (runFirst.sl.dma0_14 c (V m c main_v9)) r q).trans (by unfold runFirst.sl.dma0_14; exact from_device (Memref.whole main_v9) (V m c main_v9) (V m c main_v9) (fun _ => rfl) 7 _ _ _ r q)) fun r q k hk =>
      host_v9 m c 7 r q k (col 3 q) (by show k.val = 7 % 2 * 512 + (r.val); omega) rfl
  · exact copied (V m c main_v9) (whole1 m c) (raise (runFirst.sl.dma0_12 c (V m c main_v9))) 6 3 0 inb_S4x1024x1024_S1x256x1024_3_0_0 (fun r q => (raise_apply (runFirst.sl.dma0_12 c (V m c main_v9)) r q).trans (by unfold runFirst.sl.dma0_12; exact from_device (Memref.whole main_v9) (V m c main_v9) (V m c main_v9) (fun _ => rfl) 6 _ _ _ r q)) fun r q k hk =>
      host_v9 m c 6 r q k (col 3 q) (by show k.val = 6 % 2 * 512 + (r.val); omega) rfl
  · exact copied (V m c main_v9) (whole1 m c) (raise (runFirst.sl.dma0_10 c (V m c main_v9))) 5 2 512 inb_S4x1024x1024_S1x256x1024_2_512_0 (fun r q => (raise_apply (runFirst.sl.dma0_10 c (V m c main_v9)) r q).trans (by unfold runFirst.sl.dma0_10; exact from_device (Memref.whole main_v9) (V m c main_v9) (V m c main_v9) (fun _ => rfl) 5 _ _ _ r q)) fun r q k hk =>
      host_v9 m c 5 r q k (col 2 q) (by show k.val = 5 % 2 * 512 + (r.val); omega) rfl
  · exact copied (V m c main_v9) (whole1 m c) (raise (runFirst.sl.dma0_8 c (V m c main_v9))) 4 2 0 inb_S4x1024x1024_S1x256x1024_2_0_0 (fun r q => (raise_apply (runFirst.sl.dma0_8 c (V m c main_v9)) r q).trans (by unfold runFirst.sl.dma0_8; exact from_device (Memref.whole main_v9) (V m c main_v9) (V m c main_v9) (fun _ => rfl) 4 _ _ _ r q)) fun r q k hk =>
      host_v9 m c 4 r q k (col 2 q) (by show k.val = 4 % 2 * 512 + (r.val); omega) rfl
  · exact copied (V m c main_v9) (whole1 m c) (raise (runFirst.sl.dma0_6 c (V m c main_v9))) 3 1 512 inb_S4x1024x1024_S1x256x1024_1_512_0 (fun r q => (raise_apply (runFirst.sl.dma0_6 c (V m c main_v9)) r q).trans (by unfold runFirst.sl.dma0_6; exact from_device (Memref.whole main_v9) (V m c main_v9) (V m c main_v9) (fun _ => rfl) 3 _ _ _ r q)) fun r q k hk =>
      host_v9 m c 3 r q k (col 1 q) (by show k.val = 3 % 2 * 512 + (r.val); omega) rfl
  · exact copied (V m c main_v9) (whole1 m c) (raise (runFirst.sl.dma0_4 c (V m c main_v9))) 2 1 0 inb_S4x1024x1024_S1x256x1024_1_0_0 (fun r q => (raise_apply (runFirst.sl.dma0_4 c (V m c main_v9)) r q).trans (by unfold runFirst.sl.dma0_4; exact from_device (Memref.whole main_v9) (V m c main_v9) (V m c main_v9) (fun _ => rfl) 2 _ _ _ r q)) fun r q k hk =>
      host_v9 m c 2 r q k (col 1 q) (by show k.val = 2 % 2 * 512 + (r.val); omega) rfl
  · exact copied (V m c main_v9) (whole1 m c) (raise (runFirst.sl.dma0_2 c (V m c main_v9))) 1 0 512 inb_S4x1024x1024_S1x256x1024_0_512_0 (fun r q => (raise_apply (runFirst.sl.dma0_2 c (V m c main_v9)) r q).trans (by unfold runFirst.sl.dma0_2; exact from_device (Memref.whole main_v9) (V m c main_v9) (V m c main_v9) (fun _ => rfl) 1 _ _ _ r q)) fun r q k hk =>
      host_v9 m c 1 r q k (col 0 q) (by show k.val = 1 % 2 * 512 + (r.val); omega) rfl
  · exact copied (V m c main_v9) (whole1 m c) (raise (runFirst.sl.dma0 c (V m c main_v9))) 0 0 0 inb_S4x1024x1024_S1x256x1024_0_0_0 (fun r q => (raise_apply (runFirst.sl.dma0 c (V m c main_v9)) r q).trans (by unfold runFirst.sl.dma0; exact from_device (Memref.whole main_v9) (V m c main_v9) (V m c main_v9) (fun _ => rfl) 0 _ _ _ r q)) fun r q k hk =>
      host_v9 m c 0 r q k (col 0 q) (by show k.val = 0 % 2 * 512 + (r.val); omega) rfl

/-- The second matrix in quarters. -/
def whole2 : Vec Ideal S4x1024x1024 .bf16 := fun y => arg2 m c (ix2 (col (y 0) (y 1)) (y 2))

set_option maxHeartbeats 4000000 in
/-- The first point copies the matrix together. -/
theorem gathered2 : First.m2 c (V m c main_v13) (V m c main_v15) = whole2 m c := by
  funext y
  unfold First.m2
  refine View.canon_apply_of_pieces (whole2 m c) _ ?_ y (View.cover_of_tiledL (First.copies2 c (V m c main_v13) (V m c main_v15)) S1x256x1024.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · exact copied (V m c main_v15) (whole2 m c) (raise (runFirst.sl.dma0_31 c (V m c main_v15))) 7 3 768 inb_S4x1024x1024_S1x256x1024_3_768_0 (fun r q => (raise_apply (runFirst.sl.dma0_31 c (V m c main_v15)) r q).trans (by unfold runFirst.sl.dma0_31; exact from_device (Memref.whole main_v15) (V m c main_v15) (V m c main_v15) (fun _ => rfl) 7 _ _ _ r q)) fun r q k hk =>
      host_v15 m c 7 r q (col 3 k) (by show 3 * 1024 + k.val = 7 / 2 * 1024 + (7 % 2 * 512 + (256 + r.val)); omega)
  · exact copied (V m c main_v15) (whole2 m c) (raise (runFirst.sl.dma0_29 c (V m c main_v15))) 6 3 256 inb_S4x1024x1024_S1x256x1024_3_256_0 (fun r q => (raise_apply (runFirst.sl.dma0_29 c (V m c main_v15)) r q).trans (by unfold runFirst.sl.dma0_29; exact from_device (Memref.whole main_v15) (V m c main_v15) (V m c main_v15) (fun _ => rfl) 6 _ _ _ r q)) fun r q k hk =>
      host_v15 m c 6 r q (col 3 k) (by show 3 * 1024 + k.val = 6 / 2 * 1024 + (6 % 2 * 512 + (256 + r.val)); omega)
  · exact copied (V m c main_v15) (whole2 m c) (raise (runFirst.sl.dma0_27 c (V m c main_v15))) 5 2 768 inb_S4x1024x1024_S1x256x1024_2_768_0 (fun r q => (raise_apply (runFirst.sl.dma0_27 c (V m c main_v15)) r q).trans (by unfold runFirst.sl.dma0_27; exact from_device (Memref.whole main_v15) (V m c main_v15) (V m c main_v15) (fun _ => rfl) 5 _ _ _ r q)) fun r q k hk =>
      host_v15 m c 5 r q (col 2 k) (by show 2 * 1024 + k.val = 5 / 2 * 1024 + (5 % 2 * 512 + (256 + r.val)); omega)
  · exact copied (V m c main_v15) (whole2 m c) (raise (runFirst.sl.dma0_25 c (V m c main_v15))) 4 2 256 inb_S4x1024x1024_S1x256x1024_2_256_0 (fun r q => (raise_apply (runFirst.sl.dma0_25 c (V m c main_v15)) r q).trans (by unfold runFirst.sl.dma0_25; exact from_device (Memref.whole main_v15) (V m c main_v15) (V m c main_v15) (fun _ => rfl) 4 _ _ _ r q)) fun r q k hk =>
      host_v15 m c 4 r q (col 2 k) (by show 2 * 1024 + k.val = 4 / 2 * 1024 + (4 % 2 * 512 + (256 + r.val)); omega)
  · exact copied (V m c main_v15) (whole2 m c) (raise (runFirst.sl.dma0_23 c (V m c main_v15))) 3 1 768 inb_S4x1024x1024_S1x256x1024_1_768_0 (fun r q => (raise_apply (runFirst.sl.dma0_23 c (V m c main_v15)) r q).trans (by unfold runFirst.sl.dma0_23; exact from_device (Memref.whole main_v15) (V m c main_v15) (V m c main_v15) (fun _ => rfl) 3 _ _ _ r q)) fun r q k hk =>
      host_v15 m c 3 r q (col 1 k) (by show 1 * 1024 + k.val = 3 / 2 * 1024 + (3 % 2 * 512 + (256 + r.val)); omega)
  · exact copied (V m c main_v15) (whole2 m c) (raise (runFirst.sl.dma0_21 c (V m c main_v15))) 2 1 256 inb_S4x1024x1024_S1x256x1024_1_256_0 (fun r q => (raise_apply (runFirst.sl.dma0_21 c (V m c main_v15)) r q).trans (by unfold runFirst.sl.dma0_21; exact from_device (Memref.whole main_v15) (V m c main_v15) (V m c main_v15) (fun _ => rfl) 2 _ _ _ r q)) fun r q k hk =>
      host_v15 m c 2 r q (col 1 k) (by show 1 * 1024 + k.val = 2 / 2 * 1024 + (2 % 2 * 512 + (256 + r.val)); omega)
  · exact copied (V m c main_v15) (whole2 m c) (raise (runFirst.sl.dma0_19 c (V m c main_v15))) 1 0 768 inb_S4x1024x1024_S1x256x1024_0_768_0 (fun r q => (raise_apply (runFirst.sl.dma0_19 c (V m c main_v15)) r q).trans (by unfold runFirst.sl.dma0_19; exact from_device (Memref.whole main_v15) (V m c main_v15) (V m c main_v15) (fun _ => rfl) 1 _ _ _ r q)) fun r q k hk =>
      host_v15 m c 1 r q (col 0 k) (by show 0 * 1024 + k.val = 1 / 2 * 1024 + (1 % 2 * 512 + (256 + r.val)); omega)
  · exact copied (V m c main_v15) (whole2 m c) (raise (runFirst.sl.dma0_17 c (V m c main_v15))) 0 0 256 inb_S4x1024x1024_S1x256x1024_0_256_0 (fun r q => (raise_apply (runFirst.sl.dma0_17 c (V m c main_v15)) r q).trans (by unfold runFirst.sl.dma0_17; exact from_device (Memref.whole main_v15) (V m c main_v15) (V m c main_v15) (fun _ => rfl) 0 _ _ _ r q)) fun r q k hk =>
      host_v15 m c 0 r q (col 0 k) (by show 0 * 1024 + k.val = 0 / 2 * 1024 + (0 % 2 * 512 + (256 + r.val)); omega)
  · exact copied (V m c main_v13) (whole2 m c) (raise (runFirst.sl.dma0_15 c (V m c main_v13))) 7 3 512 inb_S4x1024x1024_S1x256x1024_3_512_0 (fun r q => (raise_apply (runFirst.sl.dma0_15 c (V m c main_v13)) r q).trans (by unfold runFirst.sl.dma0_15; exact from_device (Memref.whole main_v13) (V m c main_v13) (V m c main_v13) (fun _ => rfl) 7 _ _ _ r q)) fun r q k hk =>
      host_v13 m c 7 r q (col 3 k) (by show 3 * 1024 + k.val = 7 / 2 * 1024 + (7 % 2 * 512 + (r.val)); omega)
  · exact copied (V m c main_v13) (whole2 m c) (raise (runFirst.sl.dma0_13 c (V m c main_v13))) 6 3 0 inb_S4x1024x1024_S1x256x1024_3_0_0 (fun r q => (raise_apply (runFirst.sl.dma0_13 c (V m c main_v13)) r q).trans (by unfold runFirst.sl.dma0_13; exact from_device (Memref.whole main_v13) (V m c main_v13) (V m c main_v13) (fun _ => rfl) 6 _ _ _ r q)) fun r q k hk =>
      host_v13 m c 6 r q (col 3 k) (by show 3 * 1024 + k.val = 6 / 2 * 1024 + (6 % 2 * 512 + (r.val)); omega)
  · exact copied (V m c main_v13) (whole2 m c) (raise (runFirst.sl.dma0_11 c (V m c main_v13))) 5 2 512 inb_S4x1024x1024_S1x256x1024_2_512_0 (fun r q => (raise_apply (runFirst.sl.dma0_11 c (V m c main_v13)) r q).trans (by unfold runFirst.sl.dma0_11; exact from_device (Memref.whole main_v13) (V m c main_v13) (V m c main_v13) (fun _ => rfl) 5 _ _ _ r q)) fun r q k hk =>
      host_v13 m c 5 r q (col 2 k) (by show 2 * 1024 + k.val = 5 / 2 * 1024 + (5 % 2 * 512 + (r.val)); omega)
  · exact copied (V m c main_v13) (whole2 m c) (raise (runFirst.sl.dma0_9 c (V m c main_v13))) 4 2 0 inb_S4x1024x1024_S1x256x1024_2_0_0 (fun r q => (raise_apply (runFirst.sl.dma0_9 c (V m c main_v13)) r q).trans (by unfold runFirst.sl.dma0_9; exact from_device (Memref.whole main_v13) (V m c main_v13) (V m c main_v13) (fun _ => rfl) 4 _ _ _ r q)) fun r q k hk =>
      host_v13 m c 4 r q (col 2 k) (by show 2 * 1024 + k.val = 4 / 2 * 1024 + (4 % 2 * 512 + (r.val)); omega)
  · exact copied (V m c main_v13) (whole2 m c) (raise (runFirst.sl.dma0_7 c (V m c main_v13))) 3 1 512 inb_S4x1024x1024_S1x256x1024_1_512_0 (fun r q => (raise_apply (runFirst.sl.dma0_7 c (V m c main_v13)) r q).trans (by unfold runFirst.sl.dma0_7; exact from_device (Memref.whole main_v13) (V m c main_v13) (V m c main_v13) (fun _ => rfl) 3 _ _ _ r q)) fun r q k hk =>
      host_v13 m c 3 r q (col 1 k) (by show 1 * 1024 + k.val = 3 / 2 * 1024 + (3 % 2 * 512 + (r.val)); omega)
  · exact copied (V m c main_v13) (whole2 m c) (raise (runFirst.sl.dma0_5 c (V m c main_v13))) 2 1 0 inb_S4x1024x1024_S1x256x1024_1_0_0 (fun r q => (raise_apply (runFirst.sl.dma0_5 c (V m c main_v13)) r q).trans (by unfold runFirst.sl.dma0_5; exact from_device (Memref.whole main_v13) (V m c main_v13) (V m c main_v13) (fun _ => rfl) 2 _ _ _ r q)) fun r q k hk =>
      host_v13 m c 2 r q (col 1 k) (by show 1 * 1024 + k.val = 2 / 2 * 1024 + (2 % 2 * 512 + (r.val)); omega)
  · exact copied (V m c main_v13) (whole2 m c) (raise (runFirst.sl.dma0_3 c (V m c main_v13))) 1 0 512 inb_S4x1024x1024_S1x256x1024_0_512_0 (fun r q => (raise_apply (runFirst.sl.dma0_3 c (V m c main_v13)) r q).trans (by unfold runFirst.sl.dma0_3; exact from_device (Memref.whole main_v13) (V m c main_v13) (V m c main_v13) (fun _ => rfl) 1 _ _ _ r q)) fun r q k hk =>
      host_v13 m c 1 r q (col 0 k) (by show 0 * 1024 + k.val = 1 / 2 * 1024 + (1 % 2 * 512 + (r.val)); omega)
  · exact copied (V m c main_v13) (whole2 m c) (raise (runFirst.sl.dma0_1 c (V m c main_v13))) 0 0 0 inb_S4x1024x1024_S1x256x1024_0_0_0 (fun r q => (raise_apply (runFirst.sl.dma0_1 c (V m c main_v13)) r q).trans (by unfold runFirst.sl.dma0_1; exact from_device (Memref.whole main_v13) (V m c main_v13) (V m c main_v13) (fun _ => rfl) 0 _ _ _ r q)) fun r q k hk =>
      host_v13 m c 0 r q (col 0 k) (by show 0 * 1024 + k.val = 0 / 2 * 1024 + (0 % 2 * 512 + (r.val)); omega)

end Cert.Mlp

end
-- ==== Proof.MlpMid.lean ====
/-
  The writes of the squared-ReLU pass's middle points, in terms of the inputs' blocks and the two matrices.
-/
module

public import proofs.«01_k».proof.Proof.MlpWords
public import proofs.«01_k».proof.Proof.MlpRunMid
public import Idealize.ShloMosaic.Lib.Pipeline.ReadBack

@[expose] public section

set_option maxRecDepth 16384

noncomputable section

namespace Cert.Mlp

open Cert.Kernel2Ideal Cert.Kernel2Ideal.Gen
open Idealize.ShloMosaic Idealize.ShloMosaic.TcCoe Idealize.ShloMosaic.Tactic

namespace Mid

variable {F : FTy → Type} [FloatOps F]

variable (c : Dev nD) (M : Bufs) (X : Ins F) (P : Outs F)

theorem word_x1 : runMid.sl.r c M X = X.x1 := by
  unfold runMid.sl.r; simp only [View.readAt_eq_ld, M.hx1.read_unread]; exact View.ld_unit_zero zeros2 _ _
theorem word_n2g : runMid.sl.r_1 c M X = X.n2g := by
  unfold runMid.sl.r_1; simp only [View.readAt_eq_ld, M.hn2g.read_unread]; exact View.ld_unit_zero zeros2 _ _
theorem word_sc2 : runMid.sl.r_2 c M X = X.sc2 := by
  unfold runMid.sl.r_2; simp only [View.readAt_eq_ld, M.hsc2.read_unread]; exact View.ld_unit_zero zeros2 _ _
theorem word_g2 : runMid.sl.r_3 c M X = X.g2 := by
  unfold runMid.sl.r_3; simp only [View.readAt_eq_ld, M.hg2.read_unread]; exact View.ld_unit_zero zeros2 _ _
theorem word_fg : runMid.sl.r_4 c M X = X.fg := by
  unfold runMid.sl.r_4; simp only [View.readAt_eq_ld, M.hfg.read_unread]; exact View.ld_unit_zero zeros2 _ _
theorem word_h : runMid.sl.r_5 c M X = Words.h X := by
  unfold runMid.sl.r_5; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_6 : runMid.sl.r_6 c M P = k0_pay13 (q0 P.w1s) := by
  unfold runMid.sl.r_6; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_8 : runMid.sl.r_8 c M P = k0_pay21 (q2 P.w1s) := by
  unfold runMid.sl.r_8; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_half : runMid.sl.r_7 c M X P = Words.half X P.w1s P.w2s := by
  unfold runMid.sl.r_7; simp only [word_h, word_6, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_out : runMid.sl.r_9 c M X P = Words.out X P.w1s P.w2s := by
  unfold runMid.sl.r_9; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_x2 : runMid.sl.r_10 c M X P = Words.x2 X P.w1s P.w2s := by
  unfold runMid.sl.r_10; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_sq : runMid.sl.r_11 c M X P = Words.sq X P.w1s P.w2s := by
  unfold runMid.sl.r_11; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dx2 : runMid.sl.r_12 c M X P = Words.dx2 X P.w1s P.w2s := by
  unfold runMid.sl.r_12; simp only [word_fg, word_x2, word_sq, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dm : runMid.sl.r_13 c M X P = Words.dm X P.w1s P.w2s := by
  unfold runMid.sl.r_13; simp only [word_g2, word_dx2]; rfl
theorem word_rs : runMid.sl.Hrs_4 c M X P = quarters (Words.r0 X P.w1s) (Words.r1 X P.w1s) (Words.r2 X P.w1s) (Words.r3 X P.w1s) := by
  unfold runMid.sl.Hrs_4; simp only [word_h, word_6, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_r0 : runMid.sl.v150 c M X P = Words.r0 X P.w1s := by
  unfold runMid.sl.v150; rw [word_rs]; exact quarter0 _ _ _ _ _
theorem word_r1 : runMid.sl.v163 c M X P = Words.r1 X P.w1s := by
  unfold runMid.sl.v163; rw [word_rs]; exact quarter1 _ _ _ _ _
theorem word_r2 : runMid.sl.v176 c M X P = Words.r2 X P.w1s := by
  unfold runMid.sl.v176; rw [word_rs]; exact quarter2 _ _ _ _ _
theorem word_r3 : runMid.sl.v189 c M X P = Words.r3 X P.w1s := by
  unfold runMid.sl.v189; rw [word_rs]; exact quarter3 _ _ _ _ _
theorem word_b0 : runMid.sl.r_14 c M X P = Words.b0 X P.w1s P.w2s := by
  unfold runMid.sl.r_14; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_15 : runMid.sl.r_15 c M X P = k0_pay42 X.g2 (Words.dx2 X P.w1s P.w2s) (q1 P.w2s) := by
  unfold runMid.sl.r_15; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_b2 : runMid.sl.r_16 c M X P = Words.b2 X P.w1s P.w2s := by
  unfold runMid.sl.r_16; simp only [word_b0, word_15, word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_d3 : runMid.sl.r_17 c M X P = Words.d3 X P.w1s P.w2s := by
  unfold runMid.sl.r_17; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_gain : runMid.sl.r_18 c M X P = Words.gain X P.w1s P.w2s := by
  unfold runMid.sl.r_18; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_shift : runMid.sl.r_19 c M X P = Words.shift X P.w1s P.w2s := by
  unfold runMid.sl.r_19; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_scl : runMid.sl.r_20 c M X P = Words.scl X P.w1s P.w2s := by
  unfold runMid.sl.r_20; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl

variable (i : grid0.Coords) (h0 : ¬cond0_0 i) (h1 : ¬cond0_1 i) (w1 w2 : Vec F S4x1024x1024 .bf16)

theorem dx1 : ((runMid c i M h0 h1 X P).1.read w1 w2).dx1 = Words.dx1 X P.w1s P.w2s := by
  unfold Pieces.read; dsimp only; rw [View.read_writes_eq_canon _ _ (runMid c i M h0 h1 X P).1.dx1 (View.cover_of_tiledL (runMid c i M h0 h1 X P).1.dx1 S256x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem h2b : ((runMid c i M h0 h1 X P).1.read w1 w2).h2b = Words.h X := by
  unfold Pieces.read; dsimp only; rw [View.read_writes_eq_canon _ _ (runMid c i M h0 h1 X P).1.h2b (View.cover_of_tiledL (runMid c i M h0 h1 X P).1.h2b S256x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem ab : ((runMid c i M h0 h1 X P).1.read w1 w2).ab = laid (Words.a0 X P.w1s) (Words.a1 X P.w1s) (Words.a2 X P.w1s) (Words.a3 X P.w1s) := by
  unfold Pieces.read; dsimp only; rw [View.read_writes_eq_canon _ _ (runMid c i M h0 h1 X P).1.ab (View.cover_of_tiledL (runMid c i M h0 h1 X P).1.ab S256x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dub : ((runMid c i M h0 h1 X P).1.read w1 w2).dub = laid (Words.d0 X P.w1s P.w2s) (Words.d1 X P.w1s P.w2s) (Words.d2 X P.w1s P.w2s) (Words.d3 X P.w1s P.w2s) := by
  unfold Pieces.read; dsimp only; rw [View.read_writes_eq_canon _ _ (runMid c i M h0 h1 X P).1.dub (View.cover_of_tiledL (runMid c i M h0 h1 X P).1.dub S256x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dmb : ((runMid c i M h0 h1 X P).1.read w1 w2).dmb = Words.dm X P.w1s P.w2s := by
  unfold Pieces.read; dsimp only; rw [View.read_writes_eq_canon _ _ (runMid c i M h0 h1 X P).1.dmb (View.cover_of_tiledL (runMid c i M h0 h1 X P).1.dmb S256x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsc : ((runMid c i M h0 h1 X P).1.read w1 w2).dsc = k0_pay3 (Words.scl X P.w1s P.w2s) P.dsc := by
  unfold Pieces.read; dsimp only; rw [View.read_writes_eq_canon _ _ (runMid c i M h0 h1 X P).1.dsc (View.cover_of_tiledL (runMid c i M h0 h1 X P).1.dsc S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsh : ((runMid c i M h0 h1 X P).1.read w1 w2).dsh = k0_pay2 (Words.shift X P.w1s P.w2s) P.dsh := by
  unfold Pieces.read; dsimp only; rw [View.read_writes_eq_canon _ _ (runMid c i M h0 h1 X P).1.dsh (View.cover_of_tiledL (runMid c i M h0 h1 X P).1.dsh S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dg2 : ((runMid c i M h0 h1 X P).1.read w1 w2).dg2 = Words.gate X P.w1s P.w2s P.dg2 := by
  unfold Pieces.read; dsimp only; rw [View.read_writes_eq_canon _ _ (runMid c i M h0 h1 X P).1.dg2 (View.cover_of_tiledL (runMid c i M h0 h1 X P).1.dg2 S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dn2 : ((runMid c i M h0 h1 X P).1.read w1 w2).dn2 = k0_pay1 (Words.gain X P.w1s P.w2s) P.dn2 := by
  unfold Pieces.read; dsimp only; rw [View.read_writes_eq_canon _ _ (runMid c i M h0 h1 X P).1.dn2 (View.cover_of_tiledL (runMid c i M h0 h1 X P).1.dn2 S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dfg : ((runMid c i M h0 h1 X P).1.read w1 w2).dfg = Words.last X P.w1s P.w2s P.dfg := by
  unfold Pieces.read; dsimp only; rw [View.read_writes_eq_canon _ _ (runMid c i M h0 h1 X P).1.dfg (View.cover_of_tiledL (runMid c i M h0 h1 X P).1.dfg S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem loss : ((runMid c i M h0 h1 X P).1.read w1 w2).loss = Words.loss X P.w1s P.w2s P.loss := by
  unfold Pieces.read; dsimp only; rw [View.read_writes_eq_canon _ _ (runMid c i M h0 h1 X P).1.loss (View.cover_of_tiledL (runMid c i M h0 h1 X P).1.loss S1x1024.size (by sl_kernel_rfl))]; unfold runMid; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _

end Mid

end Cert.Mlp

end
-- ==== Proof.MlpLast.lean ====
/-
  The writes of the squared-ReLU pass's last point, in terms of the inputs' blocks and the two matrices.
-/
module

public import proofs.«01_k».proof.Proof.MlpWords
public import proofs.«01_k».proof.Proof.MlpRunLast
public import Idealize.ShloMosaic.Lib.Pipeline.ReadBack

@[expose] public section

set_option maxRecDepth 16384

noncomputable section

namespace Cert.Mlp

open Cert.Kernel2Ideal Cert.Kernel2Ideal.Gen
open Idealize.ShloMosaic Idealize.ShloMosaic.TcCoe Idealize.ShloMosaic.Tactic

namespace Last

variable {F : FTy → Type} [FloatOps F]

variable (c : Dev nD) (M : Bufs) (X : Ins F) (P : Outs F)

theorem word_x1 : runLast.sl.r c M X = X.x1 := by
  unfold runLast.sl.r; simp only [View.readAt_eq_ld, M.hx1.read_unread]; exact View.ld_unit_zero zeros2 _ _
theorem word_n2g : runLast.sl.r_1 c M X = X.n2g := by
  unfold runLast.sl.r_1; simp only [View.readAt_eq_ld, M.hn2g.read_unread]; exact View.ld_unit_zero zeros2 _ _
theorem word_sc2 : runLast.sl.r_2 c M X = X.sc2 := by
  unfold runLast.sl.r_2; simp only [View.readAt_eq_ld, M.hsc2.read_unread]; exact View.ld_unit_zero zeros2 _ _
theorem word_g2 : runLast.sl.r_3 c M X = X.g2 := by
  unfold runLast.sl.r_3; simp only [View.readAt_eq_ld, M.hg2.read_unread]; exact View.ld_unit_zero zeros2 _ _
theorem word_fg : runLast.sl.r_4 c M X = X.fg := by
  unfold runLast.sl.r_4; simp only [View.readAt_eq_ld, M.hfg.read_unread]; exact View.ld_unit_zero zeros2 _ _
theorem word_h : runLast.sl.r_5 c M X = Words.h X := by
  unfold runLast.sl.r_5; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_6 : runLast.sl.r_6 c M P = k0_pay13 (q0 P.w1s) := by
  unfold runLast.sl.r_6; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_8 : runLast.sl.r_8 c M P = k0_pay21 (q2 P.w1s) := by
  unfold runLast.sl.r_8; simp only [View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_half : runLast.sl.r_7 c M X P = Words.half X P.w1s P.w2s := by
  unfold runLast.sl.r_7; simp only [word_h, word_6, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_out : runLast.sl.r_9 c M X P = Words.out X P.w1s P.w2s := by
  unfold runLast.sl.r_9; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_x2 : runLast.sl.r_10 c M X P = Words.x2 X P.w1s P.w2s := by
  unfold runLast.sl.r_10; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_sq : runLast.sl.r_11 c M X P = Words.sq X P.w1s P.w2s := by
  unfold runLast.sl.r_11; simp only [word_x1, word_g2, word_h, word_half, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dx2 : runLast.sl.r_12 c M X P = Words.dx2 X P.w1s P.w2s := by
  unfold runLast.sl.r_12; simp only [word_fg, word_x2, word_sq, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_dm : runLast.sl.r_13 c M X P = Words.dm X P.w1s P.w2s := by
  unfold runLast.sl.r_13; simp only [word_g2, word_dx2]; rfl
theorem word_rs : runLast.sl.Hrs_4 c M X P = quarters (Words.r0 X P.w1s) (Words.r1 X P.w1s) (Words.r2 X P.w1s) (Words.r3 X P.w1s) := by
  unfold runLast.sl.Hrs_4; simp only [word_h, word_6, word_8, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_r0 : runLast.sl.v150 c M X P = Words.r0 X P.w1s := by
  unfold runLast.sl.v150; rw [word_rs]; exact quarter0 _ _ _ _ _
theorem word_r1 : runLast.sl.v163 c M X P = Words.r1 X P.w1s := by
  unfold runLast.sl.v163; rw [word_rs]; exact quarter1 _ _ _ _ _
theorem word_r2 : runLast.sl.v176 c M X P = Words.r2 X P.w1s := by
  unfold runLast.sl.v176; rw [word_rs]; exact quarter2 _ _ _ _ _
theorem word_r3 : runLast.sl.v189 c M X P = Words.r3 X P.w1s := by
  unfold runLast.sl.v189; rw [word_rs]; exact quarter3 _ _ _ _ _
theorem word_b0 : runLast.sl.r_14 c M X P = Words.b0 X P.w1s P.w2s := by
  unfold runLast.sl.r_14; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_15 : runLast.sl.r_15 c M X P = k0_pay42 X.g2 (Words.dx2 X P.w1s P.w2s) (q1 P.w2s) := by
  unfold runLast.sl.r_15; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]
theorem word_b2 : runLast.sl.r_16 c M X P = Words.b2 X P.w1s P.w2s := by
  unfold runLast.sl.r_16; simp only [word_b0, word_15, word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_d3 : runLast.sl.r_17 c M X P = Words.d3 X P.w1s P.w2s := by
  unfold runLast.sl.r_17; simp only [word_r0, word_r1, word_r2, word_r3, word_g2, word_dx2, word_dm, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_gain : runLast.sl.r_18 c M X P = Words.gain X P.w1s P.w2s := by
  unfold runLast.sl.r_18; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_shift : runLast.sl.r_19 c M X P = Words.shift X P.w1s P.w2s := by
  unfold runLast.sl.r_19; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem word_scl : runLast.sl.r_20 c M X P = Words.scl X P.w1s P.w2s := by
  unfold runLast.sl.r_20; simp only [word_x1, word_n2g, word_sc2, word_b2, word_d3, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl

variable (i : grid0.Coords) (h0 : ¬cond0_0 i) (h1 : cond0_1 i) (w1 w2 : Vec F S4x1024x1024 .bf16)

theorem dx1 : ((runLast c i M h0 h1 X P).1.read w1 w2).dx1 = Words.dx1 X P.w1s P.w2s := by
  unfold Pieces.read; dsimp only; rw [View.read_writes_eq_canon _ _ (runLast c i M h0 h1 X P).1.dx1 (View.cover_of_tiledL (runLast c i M h0 h1 X P).1.dx1 S256x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem h2b : ((runLast c i M h0 h1 X P).1.read w1 w2).h2b = Words.h X := by
  unfold Pieces.read; dsimp only; rw [View.read_writes_eq_canon _ _ (runLast c i M h0 h1 X P).1.h2b (View.cover_of_tiledL (runLast c i M h0 h1 X P).1.h2b S256x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem ab : ((runLast c i M h0 h1 X P).1.read w1 w2).ab = laid (Words.a0 X P.w1s) (Words.a1 X P.w1s) (Words.a2 X P.w1s) (Words.a3 X P.w1s) := by
  unfold Pieces.read; dsimp only; rw [View.read_writes_eq_canon _ _ (runLast c i M h0 h1 X P).1.ab (View.cover_of_tiledL (runLast c i M h0 h1 X P).1.ab S256x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dub : ((runLast c i M h0 h1 X P).1.read w1 w2).dub = laid (Words.d0 X P.w1s P.w2s) (Words.d1 X P.w1s P.w2s) (Words.d2 X P.w1s P.w2s) (Words.d3 X P.w1s P.w2s) := by
  unfold Pieces.read; dsimp only; rw [View.read_writes_eq_canon _ _ (runLast c i M h0 h1 X P).1.dub (View.cover_of_tiledL (runLast c i M h0 h1 X P).1.dub S256x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; rfl
theorem dmb : ((runLast c i M h0 h1 X P).1.read w1 w2).dmb = Words.dm X P.w1s P.w2s := by
  unfold Pieces.read; dsimp only; rw [View.read_writes_eq_canon _ _ (runLast c i M h0 h1 X P).1.dmb (View.cover_of_tiledL (runLast c i M h0 h1 X P).1.dmb S256x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsc : ((runLast c i M h0 h1 X P).1.read w1 w2).dsc = k0_pay3 (Words.scl X P.w1s P.w2s) P.dsc := by
  unfold Pieces.read; dsimp only; rw [View.read_writes_eq_canon _ _ (runLast c i M h0 h1 X P).1.dsc (View.cover_of_tiledL (runLast c i M h0 h1 X P).1.dsc S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dsh : ((runLast c i M h0 h1 X P).1.read w1 w2).dsh = k0_pay2 (Words.shift X P.w1s P.w2s) P.dsh := by
  unfold Pieces.read; dsimp only; rw [View.read_writes_eq_canon _ _ (runLast c i M h0 h1 X P).1.dsh (View.cover_of_tiledL (runLast c i M h0 h1 X P).1.dsh S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dg2 : ((runLast c i M h0 h1 X P).1.read w1 w2).dg2 = Words.gate X P.w1s P.w2s P.dg2 := by
  unfold Pieces.read; dsimp only; rw [View.read_writes_eq_canon _ _ (runLast c i M h0 h1 X P).1.dg2 (View.cover_of_tiledL (runLast c i M h0 h1 X P).1.dg2 S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dn2 : ((runLast c i M h0 h1 X P).1.read w1 w2).dn2 = k0_pay1 (Words.gain X P.w1s P.w2s) P.dn2 := by
  unfold Pieces.read; dsimp only; rw [View.read_writes_eq_canon _ _ (runLast c i M h0 h1 X P).1.dn2 (View.cover_of_tiledL (runLast c i M h0 h1 X P).1.dn2 S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem dfg : ((runLast c i M h0 h1 X P).1.read w1 w2).dfg = Words.last X P.w1s P.w2s P.dfg := by
  unfold Pieces.read; dsimp only; rw [View.read_writes_eq_canon _ _ (runLast c i M h0 h1 X P).1.dfg (View.cover_of_tiledL (runLast c i M h0 h1 X P).1.dfg S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _
theorem word_loss : runLast.sl.v252 c M X P = Words.loss X P.w1s P.w2s P.loss := by
  unfold runLast.sl.v252 runLast.sl.Hloss_1; simp only [word_x1, word_n2g, word_sc2, word_g2, word_fg, word_h, word_6, word_8, word_out, word_x2, word_sq, word_dx2, word_dm, word_r0, word_r1, word_r2, word_r3, word_15, word_b2, word_d3, word_gain, word_shift, word_scl, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.readCov_cons_toLoadRect _ _ _ _
theorem loss : ((runLast c i M h0 h1 X P).1.read w1 w2).loss = k0_pay4 (Words.loss X P.w1s P.w2s P.loss) := by
  unfold Pieces.read; dsimp only; rw [View.read_writes_eq_canon _ _ (runLast c i M h0 h1 X P).1.loss (View.cover_of_tiledL (runLast c i M h0 h1 X P).1.loss S1x1024.size (by sl_kernel_rfl))]; unfold runLast; dsimp only
  simp only [word_x1, word_n2g, word_sc2, word_g2, word_fg, word_h, word_6, word_8, word_out, word_x2, word_sq, word_dx2, word_dm, word_r0, word_r1, word_r2, word_r3, word_15, word_b2, word_d3, word_gain, word_shift, word_scl, word_loss, View.readAt_eq_ld, M.hx1.read_unread, M.hn2g.read_unread, M.hsc2.read_unread, M.hsh2.read_unread, M.htgt.read_unread, M.hw1s.read_unread, M.hw2s.read_unread, M.hdsc.read_unread, M.hdsh.read_unread, M.hdg2.read_unread, M.hdn2.read_unread, M.hdfg.read_unread, M.hloss.read_unread, View.ld_unit_zero (S := S256x1024) zeros2, View.ld_unit_zero (S := S1x1024) zeros2]; exact View.canon_cons_unit_zero zeros2 _ _ _

end Last

end Cert.Mlp

end
-- ==== Proof.MlpWordsValue.lean ====
/-
  The words of a point, read on the rows of its block.
-/
module

public import proofs.«01_k».proof.Proof.MlpWords

@[expose] public section

noncomputable section

namespace Cert.Mlp

open Cert.Kernel2Ideal Cert.Kernel2Ideal.Gen Idealize.ShloMosaic Idealize.ShloMosaic.TcCoe

/-- The inputs' blocks and the two matrices hold what the rows `R` say. -/
structure Holds (R : Fin 256 → Row) (X : Ins Ideal) (w1 w2 : Vec Ideal S4x1024x1024 .bf16) : Prop where
  x : Rows (f := .f32) X.x1 fun p => (R p).x
  n2g : Shared X.n2g fun p => (R p).n2g
  sh2 : Shared X.sh2 fun p => (R p).sh2
  sc2 : Shared X.sc2 fun p => (R p).sc2
  g2 : Shared X.g2 fun p => (R p).g2
  fg : Shared X.fg fun p => (R p).fg
  tgt : Rows (f := .f32) X.tgt fun p => (R p).tgt
  w1 : ∀ (p : Fin 256) (j : Fin 4) (k q : Fin 1024), w1 (ix3 j k q) = (R p).w1 k (col j q)
  w2 : ∀ (p : Fin 256) (j : Fin 4) (k q : Fin 1024), w2 (ix3 j k q) = (R p).w2 (col j k) q

/-- A quarter of a matrix, entry by entry. -/
theorem quarter_apply (W : Vec Ideal S4x1024x1024 .bf16) (j : Fin 4) (inb : ∀ a, (![j.val, 0, 0] : Fin 3 → Nat) a + S1x1024x1024.size a ≤ S4x1024x1024.size a)
    (k q : Fin 1024) : View.ld W (Rect.unit (s := S4x1024x1024) ![j.val, 0, 0] S1x1024x1024.size inb) (ix3 0 k q) = W (ix3 j k q) := by
  refine congrArg W (funext fun a => Fin.ext ?_)
  fin_cases a
  · show j.val + 1 * 0 = j.val; omega
  · show 0 + 1 * k.val = k.val; omega
  · show 0 + 1 * q.val = q.val; omega

namespace Words

variable {R : Fin 256 → Row} {X : Ins Ideal} {w1 w2 : Vec Ideal S4x1024x1024 .bf16} (H : Holds R X w1 w2)
include H

theorem in0 : In R 0 (q0 w1) := fun p k q => (quarter_apply w1 0 _ k q).trans (H.w1 p 0 k q)
theorem in1 : In R 1 (q1 w1) := fun p k q => (quarter_apply w1 1 _ k q).trans (H.w1 p 1 k q)
theorem in2 : In R 2 (q2 w1) := fun p k q => (quarter_apply w1 2 _ k q).trans (H.w1 p 2 k q)
theorem in3 : In R 3 (q3 w1) := fun p k q => (quarter_apply w1 3 _ k q).trans (H.w1 p 3 k q)
theorem out0 : Out R 0 (q0 w2) := fun p k q => (quarter_apply w2 0 _ k q).trans (H.w2 p 0 k q)
theorem out1 : Out R 1 (q1 w2) := fun p k q => (quarter_apply w2 1 _ k q).trans (H.w2 p 1 k q)
theorem out2 : Out R 2 (q2 w2) := fun p k q => (quarter_apply w2 2 _ k q).trans (H.w2 p 2 k q)
theorem out3 : Out R 3 (q3 w2) := fun p k q => (quarter_apply w2 3 _ k q).trans (H.w2 p 3 k q)

theorem h_rows : Rows (f := .bf16) (h X) fun p => (R p).h := entering H.x H.n2g H.sc2 H.sh2
theorem half_rows : Rows (f := .f32) (half X w1 w2) fun p q => part (R p) 0 q + part (R p) 1 q :=
  Mlp.half (h_rows H) (in0 H) (out0 H) (in1 H) (out1 H)
theorem out_rows : Rows (f := .f32) (out X w1 w2) fun p => (R p).out := output (h_rows H) (half_rows H) (in2 H) (out2 H) (in3 H) (out3 H)
theorem x2_rows : Rows (f := .f32) (x2 X w1 w2) fun p => (R p).x2 := leaving H.x H.g2 (out_rows H)
theorem sq_rows (p : Fin 256) : sq X w1 w2 (ix1 p) = ∑ q, (R p).x2 q * (R p).x2 q := squares (x2_rows H) p
theorem dx2_rows : Rows (f := .f32) (dx2 X w1 w2) fun p => (R p).dx2 := back (x2_rows H) (sq_rows H) H.fg H.tgt
theorem dm_rows : Rows (f := .bf16) (dm X w1 w2) fun p => (R p).dm := gated H.g2 (dx2_rows H)

theorem r0_rows : Rows (f := .f32) (r0 X w1) fun p q => (R p).relu (col 0 q) := fun p q => by
  unfold r0; pointwise [k0_pay15]; exact relu0 (h_rows H) (in0 H) p q
theorem r1_rows : Rows (f := .f32) (r1 X w1) fun p q => (R p).relu (col 1 q) := fun p q => by
  unfold r1; pointwise [k0_pay18]; exact relu1 (h_rows H) (in1 H) p q
theorem r2_rows : Rows (f := .f32) (r2 X w1) fun p q => (R p).relu (col 2 q) := fun p q => by
  unfold r2; pointwise [k0_pay23]; exact relu0 (h_rows H) (in2 H) p q
theorem r3_rows : Rows (f := .f32) (r3 X w1) fun p q => (R p).relu (col 3 q) := fun p q => by
  unfold r3; pointwise [k0_pay26]; exact relu1 (h_rows H) (in3 H) p q

theorem a0_rows : Rows (f := .bf16) (a0 X w1) fun p q => (R p).act (col 0 q) := act0 (h_rows H) (in0 H)
theorem a1_rows : Rows (f := .bf16) (a1 X w1) fun p q => (R p).act (col 1 q) := act1 (h_rows H) (in1 H)
theorem a2_rows : Rows (f := .bf16) (a2 X w1) fun p q => (R p).act (col 2 q) := act2 (h_rows H) (in2 H)
theorem a3_rows : Rows (f := .bf16) (a3 X w1) fun p q => (R p).act (col 3 q) := act3 (h_rows H) (in3 H)

theorem d0_rows : Rows (f := .bf16) (d0 X w1 w2) fun p q => (R p).du (col 0 q) := du0 (dm_rows H) (out0 H) (r0_rows H)
theorem d1_rows : Rows (f := .bf16) (d1 X w1 w2) fun p q => (R p).du (col 1 q) := du1 (dm_rows H) (out1 H) (r1_rows H)
theorem d2_rows : Rows (f := .bf16) (d2 X w1 w2) fun p q => (R p).du (col 2 q) := du2 (dm_rows H) (out2 H) (r2_rows H)
theorem d3_rows : Rows (f := .bf16) (d3 X w1 w2) fun p q => (R p).du (col 3 q) := du3_ (dm_rows H) (out3 H) (r3_rows H)

theorem b0_rows : Rows (f := .f32) (b0 X w1 w2) fun p => backPart (R p) 0 := back0 (d0_rows H) (in0 H)
theorem b2_rows : Rows (f := .f32) (b2 X w1 w2) fun p q => backPart (R p) 0 q + backPart (R p) 1 q + backPart (R p) 2 q :=
  back012 (b0_rows H) (d1_rows H) (d2_rows H) (in1 H) (in2 H)
theorem dh_rows : Rows (f := .f32) (k0_pay48 (F := Ideal) (b2 X w1 w2) (d3 X w1 w2) (q3 w1)) fun p => (R p).dh := entered (b2_rows H) (d3_rows H) (in3 H)

theorem dx1_rows : Rows (f := .f32) (dx1 X w1 w2) fun p => (R p).dx1 := entrance H.x H.n2g H.sc2 (dh_rows H) (dx2_rows H)

theorem gain_sum (q : Fin 1024) : gain X w1 w2 (ix2 0 q) = ∑ p, (R p).dhn q * (R p).xh q := gainSum H.x H.sc2 (dh_rows H) q
theorem shift_sum (q : Fin 1024) : shift X w1 w2 (ix2 0 q) = ∑ p, (R p).dh q := shiftSum (dh_rows H) q
theorem scl_sum (q : Fin 1024) : scl X w1 w2 (ix2 0 q) = ∑ p, (R p).dh q * (R p).hn q := scaleSum H.x H.n2g (dh_rows H) q
theorem gate_sum (old : Vec Ideal S1x1024 .f32) (q : Fin 1024) :
    gate X w1 w2 old (ix2 0 q) = old (ix2 0 q) + ∑ p, (R p).dx2 q * (R p).out q := gateSum (out_rows H) (dx2_rows H) q
theorem last_sum (old : Vec Ideal S1x1024 .f32) (q : Fin 1024) :
    last X w1 w2 old (ix2 0 q) = old (ix2 0 q) + ∑ p, (R p).dout q * (R p).x2h q := fgSum (x2_rows H) (sq_rows H) H.fg H.tgt q
theorem loss_sum (old : Vec Ideal S1x1024 .f32) (q : Fin 1024) :
    loss X w1 w2 old (ix2 0 q) = old (ix2 0 q) + ∑ p, (R p).err q * (R p).err q := lossSum (x2_rows H) (sq_rows H) H.fg H.tgt q

end Words

end Cert.Mlp

end
-- ==== Proof.MlpNorm.lean ====
/-
  The way back through a norm, over the extended reals: the derivative as the kernel factors it is the derivative term by term.
-/
module

public import proofs.«01_k».proof.Proof.MlpRow
public import Idealize.ShloMosaic.Lib.IdealHost

@[expose] public section

noncomputable section

namespace Cert.Mlp

open Idealize.ShloMosaic

/-! ## The float words, as reals -/

theorem word_width : width = ((1024 : ℝ) : EReal) := by
  simp [width, Ideal.ofBits, Ideal.ieee, -EReal.coe_mul, -EReal.coe_neg]; norm_num
theorem word_small : small = ((8796093 * 2 ^ (-43 : ℤ) : ℝ) : EReal) := by
  simp [small, Ideal.ofBits, Ideal.ieee, -EReal.coe_mul, -EReal.coe_neg]
theorem word_neg_half : Ideal.ofBits .f32 3204448256#32 = ((-(1 / 2) : ℝ) : EReal) := by
  simp [Ideal.ofBits, Ideal.ieee, -EReal.coe_mul, -EReal.coe_neg]; norm_num
theorem word_half : Ideal.ofBits .f32 1056964608#32 = ((1 / 2 : ℝ) : EReal) := by
  simp [Ideal.ofBits, Ideal.ieee, -EReal.coe_mul, -EReal.coe_neg]; norm_num
theorem word_two : Ideal.ofBits .f32 1073741824#32 = ((2 : ℝ) : EReal) := by
  simp [Ideal.ofBits, Ideal.ieee, -EReal.coe_mul, -EReal.coe_neg]; norm_num
theorem word_back : Ideal.ofBits .f32 981467136#32 = ((1 / 1024 : ℝ) : EReal) := by
  simp [Ideal.ofBits, Ideal.ieee, -EReal.coe_mul, -EReal.coe_neg]; norm_num
theorem word_mean : Ideal.ofBits .f32 973078528#32 = ((1 / 2048 : ℝ) : EReal) := by
  simp [Ideal.ofBits, Ideal.ieee, -EReal.coe_mul, -EReal.coe_neg]; norm_num

/-! ## Extended reals -/

/-- A square is not negative. -/
theorem square_nonneg (x : EReal) : 0 ≤ x * x := by
  induction x with
  | bot => simp
  | top => simp
  | coe r => exact_mod_cast mul_self_nonneg r

/-- A factor that is a nonnegative real goes into a sum. -/
theorem sum_mul_real {n : Nat} (f : Fin n → EReal) {k : ℝ} (hk : 0 ≤ k) : (∑ i, f i) * (k : EReal) = ∑ i, f i * (k : EReal) := by
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hk) (EReal.coe_ne_top _) _ _

/-- Two halves of an opposite are the opposite. -/
theorem two_halves (z : EReal) {k : ℝ} (hk : 0 ≤ k) : z * ((-(k / 2) : ℝ) : EReal) + z * ((-(k / 2) : ℝ) : EReal) = -(z * (k : EReal)) := by
  have hn : ∀ y : EReal, -y + -y = -(y + y) := fun y => by
    induction y with
    | bot => simp
    | top => simp
    | coe r => norm_cast; ring
  rw [EReal.coe_neg, mul_neg, hn, ← EReal.left_distrib_of_nonneg (by exact_mod_cast (by positivity : (0 : ℝ) ≤ k / 2)) (by exact_mod_cast (by positivity : (0 : ℝ) ≤ k / 2)),
    ← EReal.coe_add, add_halves]

/-- A mean square and the small constant: either infinite, or a positive real. -/
theorem mean_cases (x : Fin 1024 → EReal) :
    Ideal.div (∑ q, x q * x q) width + small = ⊤ ∨ ∃ v : ℝ, 0 < v ∧ Ideal.div (∑ q, x q * x q) width + small = (v : EReal) := by
  have hs : 0 ≤ ∑ q, x q * x q := Finset.sum_nonneg fun q _ => square_nonneg _
  rw [word_width, Ideal.div_coe (by norm_num), word_small]
  generalize ∑ q, x q * x q = s at hs
  induction s with
  | bot => simp at hs
  | top =>
    left
    rw [EReal.top_mul_of_pos (by exact_mod_cast (by norm_num : (0 : ℝ) < 1 / 1024))]
    exact EReal.top_add_coe _
  | coe r =>
    right
    have hr : 0 ≤ r := by exact_mod_cast hs
    exact ⟨r * (1 / 1024) + 8796093 * 2 ^ (-43 : ℤ), by positivity, by push_cast; rfl⟩

/-- The reciprocal root is zero where the mean square is infinite, else a positive real. -/
theorem scale_cases (x : Fin 1024 → EReal) :
    (scale x = 0 ∧ Ideal.div (scale x) (Ideal.div (∑ q, x q * x q) width + small) = 0)
      ∨ ∃ r t : ℝ, 0 < r ∧ 0 < t ∧ scale x = (r : EReal) ∧ t = r * r * r ∧ Ideal.div (scale x) (Ideal.div (∑ q, x q * x q) width + small) = (t : EReal) := by
  unfold scale
  rcases mean_cases x with h | ⟨v, hv, h⟩
  · left
    rw [h, Ideal.rsqrt_top]
    exact ⟨rfl, by unfold Ideal.div; rw [if_neg EReal.top_ne_zero, zero_mul]⟩
  · right
    have hr : Ideal.rsqrt (v : EReal) = (((Real.sqrt v)⁻¹ : ℝ) : EReal) := by rw [Ideal.rsqrt_coe, if_neg (by linarith), if_neg hv.ne']
    have hq : 0 < Real.sqrt v := Real.sqrt_pos.mpr hv
    refine ⟨(Real.sqrt v)⁻¹, (Real.sqrt v)⁻¹ * (1 / v), by positivity, by positivity, by rw [h, hr], ?_, ?_⟩
    · have := Real.mul_self_sqrt hv.le
      rw [mul_assoc, ← mul_inv, this, one_div]
    · rw [h, hr, Ideal.div_coe hv.ne']; push_cast; rfl

/-- The derivative of a norm's factor, spread over a row: what the derivative term by term adds to each entry, twice. -/
def spread (x d : Fin 1024 → EReal) : EReal :=
  Ideal.div ((∑ q, x q * d q) * (Ideal.ofBits .f32 3204448256#32 * Ideal.div (scale x) (Ideal.div (∑ q, x q * x q) width + small))) width

/-- The derivative as the kernel factors it is the derivative term by term. -/
theorem normBack_eq (x d : Fin 1024 → EReal) (q : Fin 1024) :
    normBack x d q = d q * scale x + (x q * spread x d + spread x d * x q) := by
  unfold normBack spread
  rcases scale_cases x with ⟨h, h'⟩ | ⟨r, t, hr, ht, h, e, h'⟩
  · rw [h', h, word_width, Ideal.div_coe (by norm_num), Ideal.div_coe (by norm_num)]; simp
  · rw [h', h, word_width, word_neg_half, Ideal.div_coe (by norm_num), Ideal.div_coe (by norm_num)]
    have hD : (∑ p, d p * (x p * (r : EReal))) = (∑ p, x p * d p) * (r : EReal) := by
      rw [sum_mul_real _ hr.le]
      exact Finset.sum_congr rfl fun p _ => by rw [← mul_assoc, mul_comm (d p)]
    rw [hD]
    generalize (∑ p, x p * d p) = D
    have hz : ∀ y : EReal, y * (D * (((-(1 / 2) : ℝ) : EReal) * (t : EReal)) * ((1 / 1024 : ℝ) : EReal)) = (y * D) * ((-((t / 1024) / 2) : ℝ) : EReal) := fun y => by
      rw [mul_assoc D, ← EReal.coe_mul, ← EReal.coe_mul, ← mul_assoc]
      congr 2; ring
    rw [mul_comm (D * _ * _) (x q), hz, two_halves _ (by positivity), sub_eq_add_neg,
      EReal.left_distrib_of_nonneg_of_ne_top (by exact_mod_cast hr.le) (EReal.coe_ne_top _), mul_neg, mul_comm (r : EReal) (d q)]
    congr 2
    have : (r : EReal) * (x q * (r : EReal) * (D * (r : EReal) * ((1 / 1024 : ℝ) : EReal))) = (x q * D) * ((r : EReal) * ((r : EReal) * ((r : EReal) * ((1 / 1024 : ℝ) : EReal)))) := by ac_rfl
    rw [this, ← EReal.coe_mul, ← EReal.coe_mul, ← EReal.coe_mul, e]
    congr 2; ring

end Cert.Mlp

end
-- ==== Proof.MlpReference.lean ====
/-
  What the reference computes, row by row: its results are the derivative term by term, in the words of a row.
-/
module

public import proofs.«01_k».proof.Proof.MlpNorm
public import proofs.«01_k».proof.Proof.Gen.Reference2Ideal.Read
public import Idealize.ShloMosaic.Lib.Pointwise

@[expose] public section

noncomputable section

namespace Cert.Mlp

open Cert.Reference2Ideal Cert.Reference2Ideal.Read Idealize.ShloMosaic Idealize.ShloMosaic.TcCoe

/-- Row `l` of the sequence, from the nine arguments. -/
abbrev rowOf (x0 : Vec Ideal S4096x1024 .f32) (x1 x2 x3 x4 x5 : Vec Ideal S1x1024 .f32) (x6 : Vec Ideal S1024x4096 .f32) (x7 x8 : Vec Ideal S4096x1024 .f32) (l : Fin 4096) : Row :=
  ⟨fun q => x0 (ix2 l q), fun q => x1 (ix2 0 q), fun q => x2 (ix2 0 q), fun q => x3 (ix2 0 q), fun q => x4 (ix2 0 q), fun q => x5 (ix2 0 q), fun q => x8 (ix2 l q),
    fun k n => x6 (ix2 k n), fun n q => x7 (ix2 n q)⟩

namespace Ref

variable (x0 : Vec Ideal S4096x1024 .f32) (x1 x2 x3 x4 x5 : Vec Ideal S1x1024 .f32) (x6 : Vec Ideal S1024x4096 .f32) (x7 x8 : Vec Ideal S4096x1024 .f32)

/-- The reciprocal root of a row. -/
theorem scale_at (l : Fin 4096) : (val_main_v9 (F := Ideal) x0 : Vec Ideal S4096x1 .f32) (ix2 l 0) = scale (rowOf x0 x1 x2 x3 x4 x5 x6 x7 x8 l).x := by
  pointwise [val_main_v9, val_main_v8, val_main_v7, val_main_v6, val_main_v5, val_main_v4, val_main_v3, val_main_v2, val_main_cst_1, val_main_cst_2, val_main_cst_3]
  rfl

/-- Its derivative. -/
theorem slope_at (l : Fin 4096) : (val_main_v12 (F := Ideal) x0 : Vec Ideal S4096x1 .f32) (ix2 l 0) = Ideal.ofBits .f32 3204448256#32 * Ideal.div (scale (rowOf x0 x1 x2 x3 x4 x5 x6 x7 x8 l).x) (Ideal.div (∑ q, (rowOf x0 x1 x2 x3 x4 x5 x6 x7 x8 l).x q * (rowOf x0 x1 x2 x3 x4 x5 x6 x7 x8 l).x q) width + small) := by
  pointwise [val_main_v12, val_main_v11, val_main_v10, val_main_v8, val_main_v7, val_main_v6, val_main_v5, val_main_v4, val_main_v3, val_main_v2, val_main_cst_1, val_main_cst_2, val_main_cst_3, val_main_cst_4]
  simp only [scale_at x0 x1 x2 x3 x4 x5 x6 x7 x8]

/-- The normed row. -/
theorem xh_at (l : Fin 4096) (q : Fin 1024) : (val_main_v14 (F := Ideal) x0 : Vec Ideal S4096x1024 .f32) (ix2 l q) = (rowOf x0 x1 x2 x3 x4 x5 x6 x7 x8 l).xh q := by
  pointwise [val_main_v14, val_main_v13]
  simp only [scale_at x0 x1 x2 x3 x4 x5 x6 x7 x8]
  rfl

/-- With the gain. -/
theorem hn_at (l : Fin 4096) (q : Fin 1024) : (val_main_v16 (F := Ideal) x0 x1 : Vec Ideal S4096x1024 .f32) (ix2 l q) = (rowOf x0 x1 x2 x3 x4 x5 x6 x7 x8 l).hn q := by
  pointwise [val_main_v16, val_main_v15]
  simp only [xh_at x0 x1 x2 x3 x4 x5 x6 x7 x8]
  rfl

/-- Modulated. -/
theorem h_at (l : Fin 4096) (q : Fin 1024) : (val_main_v22 (F := Ideal) x0 x1 x2 x3 : Vec Ideal S4096x1024 .f32) (ix2 l q) = (rowOf x0 x1 x2 x3 x4 x5 x6 x7 x8 l).h q := by
  pointwise [val_main_v22, val_main_v21, val_main_v20, val_main_v19, val_main_v18, val_main_v17, val_main_cst_5]
  simp only [hn_at x0 x1 x2 x3 x4 x5 x6 x7 x8]
  rfl

/-- The product into the hidden layer. -/
theorem u_at (l n : Fin 4096) : (val_main_v24 (F := Ideal) x0 x1 x2 x3 x6 : Vec Ideal S4096x4096 .f32) (ix2 l n) = (rowOf x0 x1 x2 x3 x4 x5 x6 x7 x8 l).u n := by
  pointwise [val_main_v24, val_main_v23, val_main_v0, val_main_cst]
  simp only [h_at x0 x1 x2 x3 x4 x5 x6 x7 x8]
  rfl

/-- Its positive part. -/
theorem relu_at (l n : Fin 4096) : (val_main_v25 (F := Ideal) x0 x1 x2 x3 x6 : Vec Ideal S4096x4096 .f32) (ix2 l n) = (rowOf x0 x1 x2 x3 x4 x5 x6 x7 x8 l).relu n := by
  pointwise [val_main_v25, val_main_call0_v0, val_main_call0_cst]
  simp only [u_at x0 x1 x2 x3 x4 x5 x6 x7 x8]
  rfl

/-- Squared. -/
theorem act_at (l n : Fin 4096) : (val_main_v29 (F := Ideal) x0 x1 x2 x3 x6 : Vec Ideal S4096x4096 .f32) (ix2 l n) = (rowOf x0 x1 x2 x3 x4 x5 x6 x7 x8 l).act n := by
  pointwise [val_main_v29]
  simp only [relu_at x0 x1 x2 x3 x4 x5 x6 x7 x8]
  rfl

/-- The product out of the hidden layer. -/
theorem out_at (l : Fin 4096) (q : Fin 1024) : (val_main_v33 (F := Ideal) x0 x1 x2 x3 x6 x7 : Vec Ideal S4096x1024 .f32) (ix2 l q) = (rowOf x0 x1 x2 x3 x4 x5 x6 x7 x8 l).out q := by
  pointwise [val_main_v33, val_main_v32, val_main_v1, val_main_cst_0]
  simp only [act_at x0 x1 x2 x3 x4 x5 x6 x7 x8]
  rfl

/-- The row leaving the layer. -/
theorem x2_at (l : Fin 4096) (q : Fin 1024) : (val_main_v36 (F := Ideal) x0 x1 x2 x3 x4 x6 x7 : Vec Ideal S4096x1024 .f32) (ix2 l q) = (rowOf x0 x1 x2 x3 x4 x5 x6 x7 x8 l).x2 q := by
  pointwise [val_main_v36, val_main_v35, val_main_v34]
  simp only [out_at x0 x1 x2 x3 x4 x5 x6 x7 x8]
  rfl

/-- The reciprocal root of the row leaving the layer. -/
theorem scale2_at (l : Fin 4096) : (val_main_v44 (F := Ideal) x0 x1 x2 x3 x4 x6 x7 : Vec Ideal S4096x1 .f32) (ix2 l 0) = scale (rowOf x0 x1 x2 x3 x4 x5 x6 x7 x8 l).x2 := by
  pointwise [val_main_v44, val_main_v43, val_main_v42, val_main_v41, val_main_v40, val_main_v39, val_main_v38, val_main_v37, val_main_cst_9, val_main_cst_10, val_main_cst_11]
  simp only [x2_at x0 x1 x2 x3 x4 x5 x6 x7 x8]
  rfl

/-- Its derivative. -/
theorem slope2_at (l : Fin 4096) : (val_main_v47 (F := Ideal) x0 x1 x2 x3 x4 x6 x7 : Vec Ideal S4096x1 .f32) (ix2 l 0) = Ideal.ofBits .f32 3204448256#32 * Ideal.div (scale (rowOf x0 x1 x2 x3 x4 x5 x6 x7 x8 l).x2) (Ideal.div (∑ q, (rowOf x0 x1 x2 x3 x4 x5 x6 x7 x8 l).x2 q * (rowOf x0 x1 x2 x3 x4 x5 x6 x7 x8 l).x2 q) width + small) := by
  pointwise [val_main_v47, val_main_v46, val_main_v45, val_main_v43, val_main_v42, val_main_v41, val_main_v40, val_main_v39, val_main_v38, val_main_v37, val_main_cst_9, val_main_cst_10, val_main_cst_11, val_main_cst_12]
  simp only [scale2_at x0 x1 x2 x3 x4 x5 x6 x7 x8, x2_at x0 x1 x2 x3 x4 x5 x6 x7 x8]

/-- Normed. -/
theorem x2h_at (l : Fin 4096) (q : Fin 1024) : (val_main_v49 (F := Ideal) x0 x1 x2 x3 x4 x6 x7 : Vec Ideal S4096x1024 .f32) (ix2 l q) = (rowOf x0 x1 x2 x3 x4 x5 x6 x7 x8 l).x2h q := by
  pointwise [val_main_v49, val_main_v48]
  simp only [scale2_at x0 x1 x2 x3 x4 x5 x6 x7 x8, x2_at x0 x1 x2 x3 x4 x5 x6 x7 x8]
  rfl

/-- The difference from the target. -/
theorem err_at (l : Fin 4096) (q : Fin 1024) : (val_main_v52 (F := Ideal) x0 x1 x2 x3 x4 x5 x6 x7 x8 : Vec Ideal S4096x1024 .f32) (ix2 l q) = (rowOf x0 x1 x2 x3 x4 x5 x6 x7 x8 l).err q := by
  pointwise [val_main_v52, val_main_v51, val_main_v50]
  simp only [x2h_at x0 x1 x2 x3 x4 x5 x6 x7 x8]
  rfl

/-- The loss's gradient at the output. -/
theorem dout_at (l : Fin 4096) (q : Fin 1024) : (val_main_v66 (F := Ideal) x0 x1 x2 x3 x4 x5 x6 x7 x8 : Vec Ideal S4096x1024 .f32) (ix2 l q) = (rowOf x0 x1 x2 x3 x4 x5 x6 x7 x8 l).dout q := by
  pointwise [val_main_v66, val_main_v65, val_main_v64, val_main_v63, val_main_v62, val_main_v61, val_main_v55, val_main_v54, val_main_cst_13, val_main_cst_18, val_main_cst_19, val_main_cst_20]
  simp only [err_at x0 x1 x2 x3 x4 x5 x6 x7 x8]
  unfold Row.dout
  rw [word_half, word_two, show Ideal.ofBits .f32 1149239296#32 = _ from word_width, word_back, Ideal.div_coe (by norm_num), ← mul_assoc, ← EReal.coe_mul, ← EReal.coe_mul, mul_comm]
  congr 2; norm_num

/-- At the last norm. -/
theorem d2_at (l : Fin 4096) (q : Fin 1024) : (val_main_v71 (F := Ideal) x0 x1 x2 x3 x4 x5 x6 x7 x8 : Vec Ideal S4096x1024 .f32) (ix2 l q) = (rowOf x0 x1 x2 x3 x4 x5 x6 x7 x8 l).d2 q := by
  pointwise [val_main_v71, val_main_v70]
  simp only [dout_at x0 x1 x2 x3 x4 x5 x6 x7 x8]
  rfl

/-- What the norm's factor adds. -/
theorem spread2_at (l : Fin 4096) (q : Fin 1024) : (val_main_v81 (F := Ideal) x0 x1 x2 x3 x4 x5 x6 x7 x8 : Vec Ideal S4096x1024 .f32) (ix2 l q) = spread (rowOf x0 x1 x2 x3 x4 x5 x6 x7 x8 l).x2 (rowOf x0 x1 x2 x3 x4 x5 x6 x7 x8 l).d2 := by
  pointwise [val_main_v81, val_main_v80, val_main_v79, val_main_v78, val_main_v77, val_main_v74, val_main_v73, val_main_v72, val_main_cst_22, val_main_cst_23, val_main_cst_24]
  simp only [slope2_at x0 x1 x2 x3 x4 x5 x6 x7 x8, x2_at x0 x1 x2 x3 x4 x5 x6 x7 x8, d2_at x0 x1 x2 x3 x4 x5 x6 x7 x8]
  rw [Fin.sum_univ_one, slope2_at x0 x1 x2 x3 x4 x5 x6 x7 x8]; rfl

/-- At the row leaving the layer. -/
theorem dx2_at (l : Fin 4096) (q : Fin 1024) : (val_main_v85 (F := Ideal) x0 x1 x2 x3 x4 x5 x6 x7 x8 : Vec Ideal S4096x1024 .f32) (ix2 l q) = (rowOf x0 x1 x2 x3 x4 x5 x6 x7 x8 l).dx2 q := by
  pointwise [val_main_v85, val_main_v84, val_main_v83, val_main_v82, val_main_v76, val_main_v75]
  simp only [spread2_at x0 x1 x2 x3 x4 x5 x6 x7 x8, x2_at x0 x1 x2 x3 x4 x5 x6 x7 x8, d2_at x0 x1 x2 x3 x4 x5 x6 x7 x8, scale2_at x0 x1 x2 x3 x4 x5 x6 x7 x8]
  exact (add_assoc _ _ _).trans (normBack_eq _ _ _).symm

/-- At the layer's output before the gate. -/
theorem dm_at (l : Fin 4096) (q : Fin 1024) : (val_main_v87 (F := Ideal) x0 x1 x2 x3 x4 x5 x6 x7 x8 : Vec Ideal S4096x1024 .f32) (ix2 l q) = (rowOf x0 x1 x2 x3 x4 x5 x6 x7 x8 l).dm q := by
  pointwise [val_main_v87, val_main_v86]
  simp only [dx2_at x0 x1 x2 x3 x4 x5 x6 x7 x8]
  rfl

/-- At the hidden layer's product. -/
theorem du_at (l n : Fin 4096) : (val_main_v94 (F := Ideal) x0 x1 x2 x3 x4 x5 x6 x7 x8 : Vec Ideal S4096x4096 .f32) (ix2 l n) = (rowOf x0 x1 x2 x3 x4 x5 x6 x7 x8 l).du n := by
  pointwise [val_main_v94, val_main_v93, val_main_v92, val_main_v91, val_main_v31, val_main_v30, val_main_v27, val_main_v26, val_main_cst_6, val_main_cst_8, val_main_cst_26]
  simp only [dm_at x0 x1 x2 x3 x4 x5 x6 x7 x8, relu_at x0 x1 x2 x3 x4 x5 x6 x7 x8, u_at x0 x1 x2 x3 x4 x5 x6 x7 x8]
  by_cases h : 0 < (rowOf x0 x1 x2 x3 x4 x5 x6 x7 x8 l).u n
  · rw [if_pos h]; rfl
  · rw [if_neg h]; unfold Row.du Row.relu; rw [max_eq_right (not_lt.mp h), mul_zero, mul_zero]

/-- At what enters the hidden layer. -/
theorem dh_at (l : Fin 4096) (q : Fin 1024) : (val_main_v95 (F := Ideal) x0 x1 x2 x3 x4 x5 x6 x7 x8 : Vec Ideal S4096x1024 .f32) (ix2 l q) = (rowOf x0 x1 x2 x3 x4 x5 x6 x7 x8 l).dh q := by
  pointwise [val_main_v95]
  simp only [du_at x0 x1 x2 x3 x4 x5 x6 x7 x8]
  rfl

/-- Before the modulation. -/
theorem dhn_at (l : Fin 4096) (q : Fin 1024) : (val_main_v102 (F := Ideal) x0 x1 x2 x3 x4 x5 x6 x7 x8 : Vec Ideal S4096x1024 .f32) (ix2 l q) = (rowOf x0 x1 x2 x3 x4 x5 x6 x7 x8 l).dhn q := by
  pointwise [val_main_v102, val_main_v101, val_main_v18, val_main_v17, val_main_cst_5]
  simp only [dh_at x0 x1 x2 x3 x4 x5 x6 x7 x8]
  rfl

/-- At the normed row. -/
theorem d1_at (l : Fin 4096) (q : Fin 1024) : (val_main_v107 (F := Ideal) x0 x1 x2 x3 x4 x5 x6 x7 x8 : Vec Ideal S4096x1024 .f32) (ix2 l q) = (rowOf x0 x1 x2 x3 x4 x5 x6 x7 x8 l).d1 q := by
  pointwise [val_main_v107, val_main_v106]
  simp only [dhn_at x0 x1 x2 x3 x4 x5 x6 x7 x8]
  rfl

/-- What the norm's factor adds. -/
theorem spread_at (l : Fin 4096) (q : Fin 1024) : (val_main_v118 (F := Ideal) x0 x1 x2 x3 x4 x5 x6 x7 x8 : Vec Ideal S4096x1024 .f32) (ix2 l q) = spread (rowOf x0 x1 x2 x3 x4 x5 x6 x7 x8 l).x (rowOf x0 x1 x2 x3 x4 x5 x6 x7 x8 l).d1 := by
  pointwise [val_main_v118, val_main_v117, val_main_v116, val_main_v115, val_main_v114, val_main_v110, val_main_v109, val_main_v108, val_main_cst_30, val_main_cst_31, val_main_cst_32]
  simp only [slope_at x0 x1 x2 x3 x4 x5 x6 x7 x8, d1_at x0 x1 x2 x3 x4 x5 x6 x7 x8]
  rw [Fin.sum_univ_one, slope_at x0 x1 x2 x3 x4 x5 x6 x7 x8]; rfl

/-- At the row entering the layer. -/
theorem dx1_at (l : Fin 4096) (q : Fin 1024) : (val_main_v122 (F := Ideal) x0 x1 x2 x3 x4 x5 x6 x7 x8 : Vec Ideal S4096x1024 .f32) (ix2 l q) = (rowOf x0 x1 x2 x3 x4 x5 x6 x7 x8 l).dx1 q := by
  pointwise [val_main_v122, val_main_v121, val_main_v120, val_main_v119, val_main_v113, val_main_v112, val_main_v111]
  simp only [spread_at x0 x1 x2 x3 x4 x5 x6 x7 x8, d1_at x0 x1 x2 x3 x4 x5 x6 x7 x8, scale_at x0 x1 x2 x3 x4 x5 x6 x7 x8, dx2_at x0 x1 x2 x3 x4 x5 x6 x7 x8]
  unfold Row.dx1; rw [normBack_eq]; simp only [add_assoc]

/-- What enters the hidden layer, as a result. -/
theorem h2b_at (l : Fin 4096) (q : Fin 1024) : (val_main_v123 (F := Ideal) x0 x1 x2 x3 : Vec Ideal S4096x1024 .bf16) (ix2 l q) = (rowOf x0 x1 x2 x3 x4 x5 x6 x7 x8 l).h q := by
  pointwise [val_main_v123]
  simp only [h_at x0 x1 x2 x3 x4 x5 x6 x7 x8]

/-- The hidden layer, as a result. -/
theorem ab_at (l n : Fin 4096) : (val_main_v124 (F := Ideal) x0 x1 x2 x3 x6 : Vec Ideal S4096x4096 .bf16) (ix2 l n) = (rowOf x0 x1 x2 x3 x4 x5 x6 x7 x8 l).act n := by
  pointwise [val_main_v124]
  simp only [act_at x0 x1 x2 x3 x4 x5 x6 x7 x8]

/-- The gradient at the hidden layer's product, as a result. -/
theorem dub_at (l n : Fin 4096) : (val_main_v125 (F := Ideal) x0 x1 x2 x3 x4 x5 x6 x7 x8 : Vec Ideal S4096x4096 .bf16) (ix2 l n) = (rowOf x0 x1 x2 x3 x4 x5 x6 x7 x8 l).du n := by
  pointwise [val_main_v125]
  simp only [du_at x0 x1 x2 x3 x4 x5 x6 x7 x8]

/-- The gradient at the output before the gate, as a result. -/
theorem dmb_at (l : Fin 4096) (q : Fin 1024) : (val_main_v126 (F := Ideal) x0 x1 x2 x3 x4 x5 x6 x7 x8 : Vec Ideal S4096x1024 .bf16) (ix2 l q) = (rowOf x0 x1 x2 x3 x4 x5 x6 x7 x8 l).dm q := by
  pointwise [val_main_v126]
  simp only [dm_at x0 x1 x2 x3 x4 x5 x6 x7 x8]

/-- The scale's gradient. -/
theorem dsc_at (q : Fin 1024) : (val_main_v100 (F := Ideal) x0 x1 x2 x3 x4 x5 x6 x7 x8 : Vec Ideal S1x1024 .f32) (ix2 0 q) = ∑ l, (rowOf x0 x1 x2 x3 x4 x5 x6 x7 x8 l).dh q * (rowOf x0 x1 x2 x3 x4 x5 x6 x7 x8 l).hn q := by
  pointwise [val_main_v100, val_main_v99, val_main_v98, val_main_cst_28]
  simp only [dh_at x0 x1 x2 x3 x4 x5 x6 x7 x8, hn_at x0 x1 x2 x3 x4 x5 x6 x7 x8]
  exact Finset.sum_congr rfl fun _ _ => mul_comm _ _

/-- The shift's gradient. -/
theorem dsh_at (q : Fin 1024) : (val_main_v97 (F := Ideal) x0 x1 x2 x3 x4 x5 x6 x7 x8 : Vec Ideal S1x1024 .f32) (ix2 0 q) = ∑ l, (rowOf x0 x1 x2 x3 x4 x5 x6 x7 x8 l).dh q := by
  pointwise [val_main_v97, val_main_v96, val_main_cst_27]
  simp only [dh_at x0 x1 x2 x3 x4 x5 x6 x7 x8]

/-- The gate's gradient. -/
theorem dg2_at (q : Fin 1024) : (val_main_v90 (F := Ideal) x0 x1 x2 x3 x4 x5 x6 x7 x8 : Vec Ideal S1x1024 .f32) (ix2 0 q) = ∑ l, (rowOf x0 x1 x2 x3 x4 x5 x6 x7 x8 l).dx2 q * (rowOf x0 x1 x2 x3 x4 x5 x6 x7 x8 l).out q := by
  pointwise [val_main_v90, val_main_v89, val_main_v88, val_main_cst_25]
  simp only [dx2_at x0 x1 x2 x3 x4 x5 x6 x7 x8, out_at x0 x1 x2 x3 x4 x5 x6 x7 x8]

/-- The gain's gradient. -/
theorem dn2_at (q : Fin 1024) : (val_main_v105 (F := Ideal) x0 x1 x2 x3 x4 x5 x6 x7 x8 : Vec Ideal S1x1024 .f32) (ix2 0 q) = ∑ l, (rowOf x0 x1 x2 x3 x4 x5 x6 x7 x8 l).dhn q * (rowOf x0 x1 x2 x3 x4 x5 x6 x7 x8 l).xh q := by
  pointwise [val_main_v105, val_main_v104, val_main_v103, val_main_cst_29]
  simp only [dhn_at x0 x1 x2 x3 x4 x5 x6 x7 x8, xh_at x0 x1 x2 x3 x4 x5 x6 x7 x8]
  exact Finset.sum_congr rfl fun _ _ => mul_comm _ _

/-- The last gain's gradient. -/
theorem dfg_at (q : Fin 1024) : (val_main_v69 (F := Ideal) x0 x1 x2 x3 x4 x5 x6 x7 x8 : Vec Ideal S1x1024 .f32) (ix2 0 q) = ∑ l, (rowOf x0 x1 x2 x3 x4 x5 x6 x7 x8 l).dout q * (rowOf x0 x1 x2 x3 x4 x5 x6 x7 x8 l).x2h q := by
  pointwise [val_main_v69, val_main_v68, val_main_v67, val_main_cst_21]
  simp only [dout_at x0 x1 x2 x3 x4 x5 x6 x7 x8, x2h_at x0 x1 x2 x3 x4 x5 x6 x7 x8]
  exact Finset.sum_congr rfl fun _ _ => mul_comm _ _

/-- The loss. -/
theorem loss_at (q : Fin 1024) : (val_main_v127 (F := Ideal) x0 x1 x2 x3 x4 x5 x6 x7 x8 : Vec Ideal S1x1024 .f32) (ix2 0 q) = (∑ p, ∑ l, (rowOf x0 x1 x2 x3 x4 x5 x6 x7 x8 l).err p * (rowOf x0 x1 x2 x3 x4 x5 x6 x7 x8 l).err p) * Ideal.ofBits .f32 973078528#32 := by
  pointwise [val_main_v127, val_main_v60, val_main_v59, val_main_v58, val_main_v57, val_main_v56, val_main_v53, val_main_cst_14, val_main_cst_15, val_main_cst_16, val_main_cst_17]
  simp only [err_at x0 x1 x2 x3 x4 x5 x6 x7 x8]
  rw [word_half, word_mean, show Ideal.ofBits .f32 1149239296#32 = _ from word_width]
  simp only [Ideal.div_coe (by norm_num : (1024 : ℝ) ≠ 0)]
  rw [← sum_mul_real _ (by norm_num), Finset.sum_comm, mul_comm, mul_assoc, ← EReal.coe_mul]
  congr 2; norm_num

end Ref

end Cert.Mlp

end
-- ==== Proof.MlpSteps.lean ====
/-
  What each point of the squared-ReLU pass leaves, in the words of the rows of its tile, and what the column sums have come to after the last.
-/
module

public import proofs.«01_k».proof.Proof.MlpWeights
public import proofs.«01_k».proof.Proof.MlpMid
public import proofs.«01_k».proof.Proof.MlpLast
public import proofs.«01_k».proof.Proof.MlpWordsValue
public import proofs.«01_k».proof.Proof.MlpReference

@[expose] public section

set_option maxRecDepth 16384

noncomputable section

namespace Cert.Mlp

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- Row `l` of the sequence, from the arguments of the kernel. -/
abbrev seqRow (l : Fin 4096) : Row :=
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) l

/-- Row `p` of tile `t`. -/
abbrev rowAt (t : Fin 16) (p : Fin 256) : Fin 4096 := ⟨t.val * 256 + p.val, by omega⟩

/-- Row `p` of tile `t`, with everything the layer takes. -/
abbrev tile (t : Fin 16) (p : Fin 256) : Row := seqRow m c (rowAt t p)

/-- The point of tile `t`. -/
abbrev pt (t : Fin 16) : Fin cfg0.N := ⟨t.val, lt_of_lt_of_eq t.isLt N_0.symm⟩

theorem block_x (t : Fin 16) (p : Fin 256) (q : Fin 1024) :
    (iblk m c 0 (pt t) : Vec Ideal S256x1024 .f32) (ix2 p q) = (m ((c : Thread nD τ).loc main_arg0) : Vec Ideal S4096x1024 .f32) (ix2 (rowAt t p) q) := by
  refine Eq.trans ?_ (congrFun (V_main_arg0 m c) _)
  refine congrArg (V m c main_arg0) (funext fun a => Fin.ext ?_)
  have hi : ∀ t : Fin 16, win0_0.index (pt t) 0 = t.val ∧ win0_0.index (pt t) 1 = 0 := by decide +kernel
  obtain ⟨h0, h1⟩ := hi t
  match a with
  | ⟨0, _⟩ => show win0_0.index (pt t) 0 * 256 + 1 * p.val = t.val * 256 + p.val; omega
  | ⟨1, _⟩ => show win0_0.index (pt t) 1 * 1024 + 1 * q.val = q.val; omega

theorem block_tgt (t : Fin 16) (p : Fin 256) (q : Fin 1024) :
    (iblk m c 6 (pt t) : Vec Ideal S256x1024 .f32) (ix2 p q) = (m ((c : Thread nD τ).loc main_arg8) : Vec Ideal S4096x1024 .f32) (ix2 (rowAt t p) q) := by
  refine Eq.trans ?_ (congrFun (V_main_arg8 m c) _)
  refine congrArg (V m c main_arg8) (funext fun a => Fin.ext ?_)
  have hi : ∀ t : Fin 16, win0_6.index (pt t) 0 = t.val ∧ win0_6.index (pt t) 1 = 0 := by decide +kernel
  obtain ⟨h0, h1⟩ := hi t
  match a with
  | ⟨0, _⟩ => show win0_6.index (pt t) 0 * 256 + 1 * p.val = t.val * 256 + p.val; omega
  | ⟨1, _⟩ => show win0_6.index (pt t) 1 * 1024 + 1 * q.val = q.val; omega

theorem block_n2g (t : Fin 16) (q : Fin 1024) :
    (iblk m c 1 (pt t) : Vec Ideal S1x1024 .f32) (ix2 0 q) = (m ((c : Thread nD τ).loc main_arg1) : Vec Ideal S1x1024 .f32) (ix2 0 q) := by
  refine Eq.trans ?_ (congrFun (V_main_arg1 m c) _)
  refine congrArg (V m c main_arg1) (funext fun a => Fin.ext ?_)
  have hi : ∀ t : Fin 16, win0_1.index (pt t) 0 = 0 ∧ win0_1.index (pt t) 1 = 0 := by decide +kernel
  obtain ⟨h0, h1⟩ := hi t
  match a with
  | ⟨0, _⟩ => show win0_1.index (pt t) 0 * 1 + 1 * 0 = 0; omega
  | ⟨1, _⟩ => show win0_1.index (pt t) 1 * 1024 + 1 * q.val = q.val; omega

theorem block_sh2 (t : Fin 16) (q : Fin 1024) :
    (iblk m c 2 (pt t) : Vec Ideal S1x1024 .f32) (ix2 0 q) = (m ((c : Thread nD τ).loc main_arg2) : Vec Ideal S1x1024 .f32) (ix2 0 q) := by
  refine Eq.trans ?_ (congrFun (V_main_arg2 m c) _)
  refine congrArg (V m c main_arg2) (funext fun a => Fin.ext ?_)
  have hi : ∀ t : Fin 16, win0_2.index (pt t) 0 = 0 ∧ win0_2.index (pt t) 1 = 0 := by decide +kernel
  obtain ⟨h0, h1⟩ := hi t
  match a with
  | ⟨0, _⟩ => show win0_2.index (pt t) 0 * 1 + 1 * 0 = 0; omega
  | ⟨1, _⟩ => show win0_2.index (pt t) 1 * 1024 + 1 * q.val = q.val; omega

theorem block_sc2 (t : Fin 16) (q : Fin 1024) :
    (iblk m c 3 (pt t) : Vec Ideal S1x1024 .f32) (ix2 0 q) = (m ((c : Thread nD τ).loc main_arg3) : Vec Ideal S1x1024 .f32) (ix2 0 q) := by
  refine Eq.trans ?_ (congrFun (V_main_arg3 m c) _)
  refine congrArg (V m c main_arg3) (funext fun a => Fin.ext ?_)
  have hi : ∀ t : Fin 16, win0_3.index (pt t) 0 = 0 ∧ win0_3.index (pt t) 1 = 0 := by decide +kernel
  obtain ⟨h0, h1⟩ := hi t
  match a with
  | ⟨0, _⟩ => show win0_3.index (pt t) 0 * 1 + 1 * 0 = 0; omega
  | ⟨1, _⟩ => show win0_3.index (pt t) 1 * 1024 + 1 * q.val = q.val; omega

theorem block_g2 (t : Fin 16) (q : Fin 1024) :
    (iblk m c 4 (pt t) : Vec Ideal S1x1024 .f32) (ix2 0 q) = (m ((c : Thread nD τ).loc main_arg4) : Vec Ideal S1x1024 .f32) (ix2 0 q) := by
  refine Eq.trans ?_ (congrFun (V_main_arg4 m c) _)
  refine congrArg (V m c main_arg4) (funext fun a => Fin.ext ?_)
  have hi : ∀ t : Fin 16, win0_4.index (pt t) 0 = 0 ∧ win0_4.index (pt t) 1 = 0 := by decide +kernel
  obtain ⟨h0, h1⟩ := hi t
  match a with
  | ⟨0, _⟩ => show win0_4.index (pt t) 0 * 1 + 1 * 0 = 0; omega
  | ⟨1, _⟩ => show win0_4.index (pt t) 1 * 1024 + 1 * q.val = q.val; omega

theorem block_fg (t : Fin 16) (q : Fin 1024) :
    (iblk m c 5 (pt t) : Vec Ideal S1x1024 .f32) (ix2 0 q) = (m ((c : Thread nD τ).loc main_arg5) : Vec Ideal S1x1024 .f32) (ix2 0 q) := by
  refine Eq.trans ?_ (congrFun (V_main_arg5 m c) _)
  refine congrArg (V m c main_arg5) (funext fun a => Fin.ext ?_)
  have hi : ∀ t : Fin 16, win0_5.index (pt t) 0 = 0 ∧ win0_5.index (pt t) 1 = 0 := by decide +kernel
  obtain ⟨h0, h1⟩ := hi t
  match a with
  | ⟨0, _⟩ => show win0_5.index (pt t) 0 * 1 + 1 * 0 = 0; omega
  | ⟨1, _⟩ => show win0_5.index (pt t) 1 * 1024 + 1 * q.val = q.val; omega

/-- The blocks of point `t` and the two matrices are those of tile `t`'s rows. -/
theorem held (t : Fin 16) : Holds (tile m c t) (blocks m c (pt t)) (whole1 m c) (whole2 m c) where
  x := fun p q => block_x m c t p q
  n2g := fun _ q => block_n2g m c t q
  sh2 := fun _ q => block_sh2 m c t q
  sc2 := fun _ q => block_sc2 m c t q
  g2 := fun _ q => block_g2 m c t q
  fg := fun _ q => block_fg m c t q
  tgt := fun p q => block_tgt m c t p q
  w1 := fun _ _ _ _ => rfl
  w2 := fun _ _ _ _ => rfl

theorem read_w1s (L : Pieces Ideal) (w1 w2 : Vec Ideal S4x1024x1024 .bf16) : (L.read w1 w2).w1s = w1 := rfl

theorem read_w2s (L : Pieces Ideal) (w1 w2 : Vec Ideal S4x1024x1024 .bf16) : (L.read w1 w2).w2s = w2 := rfl

/-- The first point's copies put the two matrices together. -/
theorem first_filled1 (t : Fin cfg0.N) (h0 : t.val % 16 = 0) : (firstRun m c t h0).1.w1 = whole1 m c :=
  (First.filled1 c (bufs t) (blocks m c t) (V m c main_v9) (V m c main_v11) (V m c main_v13) (V m c main_v15) (grid0.coords t) _ _).trans (gathered1 m c)

theorem first_filled2 (t : Fin cfg0.N) (h0 : t.val % 16 = 0) : (firstRun m c t h0).1.w2 = whole2 m c :=
  (First.filled2 c (bufs t) (blocks m c t) (V m c main_v9) (V m c main_v11) (V m c main_v13) (V m c main_v15) (grid0.coords t) _ _).trans (gathered2 m c)

/-- The two matrices stay what the first point copied together. -/
theorem carried : ∀ (n : ℕ) (hn : n < cfg0.N), (outsAt m c n hn).w1s = whole1 m c ∧ (outsAt m c n hn).w2s = whole2 m c
  | 0, hn => by
    have e := outsAt_first m c ⟨0, hn⟩ rfl
    exact ⟨(congrArg Outs.w1s e).trans ((read_w1s ..).trans (first_filled1 m c _ _)), (congrArg Outs.w2s e).trans ((read_w2s ..).trans (first_filled2 m c _ _))⟩
  | n + 1, hn => by
    have hN : n + 1 < 16 := lt_of_lt_of_eq hn N_0
    have ih := carried n (Nat.lt_of_succ_lt hn)
    by_cases h1 : (n + 1) % 16 = 15
    · have e := outsAt_last m c ⟨n + 1, hn⟩ (by show (n + 1) % 16 ≠ 0; omega) h1
      exact ⟨(congrArg Outs.w1s e).trans ((read_w1s ..).trans ih.1), (congrArg Outs.w2s e).trans ((read_w2s ..).trans ih.2)⟩
    · have e := outsAt_mid m c ⟨n + 1, hn⟩ (by show (n + 1) % 16 ≠ 0; omega) h1
      exact ⟨(congrArg Outs.w1s e).trans ((read_w1s ..).trans ih.1), (congrArg Outs.w2s e).trans ((read_w2s ..).trans ih.2)⟩

/-- What a point leaves but for the loss, from the sums it found. -/
structure Leaves (O : Outs Ideal) (X : Ins Ideal) (w1 w2 : Vec Ideal S4x1024x1024 .bf16) (dsc dsh dg2 dn2 dfg : Vec Ideal S1x1024 .f32) : Prop where
  dx1 : O.dx1 = Words.dx1 X w1 w2
  h2b : O.h2b = Words.h X
  ab : O.ab = laid (Words.a0 X w1) (Words.a1 X w1) (Words.a2 X w1) (Words.a3 X w1)
  dub : O.dub = laid (Words.d0 X w1 w2) (Words.d1 X w1 w2) (Words.d2 X w1 w2) (Words.d3 X w1 w2)
  dmb : O.dmb = Words.dm X w1 w2
  dsc : O.dsc = k0_pay3 (F := Ideal) (Words.scl X w1 w2) dsc
  dsh : O.dsh = k0_pay2 (F := Ideal) (Words.shift X w1 w2) dsh
  dg2 : O.dg2 = Words.gate X w1 w2 dg2
  dn2 : O.dn2 = k0_pay1 (F := Ideal) (Words.gain X w1 w2) dn2
  dfg : O.dfg = Words.last X w1 w2 dfg

/-- The first point, -/
theorem leaves_first : Leaves (outsAt m c 0 (pt 0).isLt) (blocks m c (pt 0)) (whole1 m c) (whole2 m c) (k0_pay5 (F := Ideal)) (k0_pay6 (F := Ideal)) (k0_pay7 (F := Ideal)) (k0_pay8 (F := Ideal)) (k0_pay9 (F := Ideal)) := by
  rw [show outsAt m c 0 (pt 0).isLt = _ from outsAt_first m c (pt 0) rfl, ← gathered1, ← gathered2]
  exact ⟨First.dx1 .., First.h2b .., First.ab .., First.dub .., First.dmb .., First.dsc .., First.dsh .., First.dg2 .., First.dn2 .., First.dfg ..⟩

/-- the points between, -/
theorem leaves_mid (n : ℕ) (hn : n + 1 < cfg0.N) (h1 : (n + 1) % 16 ≠ 15) (P : Outs Ideal) (hP : P = outsAt m c n (Nat.lt_of_succ_lt hn)) :
    Leaves (outsAt m c (n + 1) hn) (blocks m c ⟨n + 1, hn⟩) (whole1 m c) (whole2 m c) P.dsc P.dsh P.dg2 P.dn2 P.dfg := by
  have hN : n + 1 < 16 := lt_of_lt_of_eq hn N_0
  subst hP
  rw [show outsAt m c (n + 1) hn = _ from outsAt_mid m c ⟨n + 1, hn⟩ (by show (n + 1) % 16 ≠ 0; omega) h1, ← (carried m c n (Nat.lt_of_succ_lt hn)).1, ← (carried m c n (Nat.lt_of_succ_lt hn)).2]
  exact ⟨Mid.dx1 .., Mid.h2b .., Mid.ab .., Mid.dub .., Mid.dmb .., Mid.dsc .., Mid.dsh .., Mid.dg2 .., Mid.dn2 .., Mid.dfg ..⟩

/-- the last. -/
theorem leaves_last (n : ℕ) (hn : n + 1 < cfg0.N) (h1 : (n + 1) % 16 = 15) (P : Outs Ideal) (hP : P = outsAt m c n (Nat.lt_of_succ_lt hn)) :
    Leaves (outsAt m c (n + 1) hn) (blocks m c ⟨n + 1, hn⟩) (whole1 m c) (whole2 m c) P.dsc P.dsh P.dg2 P.dn2 P.dfg := by
  have hN : n + 1 < 16 := lt_of_lt_of_eq hn N_0
  subst hP
  rw [show outsAt m c (n + 1) hn = _ from outsAt_last m c ⟨n + 1, hn⟩ (by show (n + 1) % 16 ≠ 0; omega) h1, ← (carried m c n (Nat.lt_of_succ_lt hn)).1, ← (carried m c n (Nat.lt_of_succ_lt hn)).2]
  exact ⟨Last.dx1 .., Last.h2b .., Last.ab .., Last.dub .., Last.dmb .., Last.dsc .., Last.dsh .., Last.dg2 .., Last.dn2 .., Last.dfg ..⟩

/-- A point after the first. -/
theorem leaves_later (n : ℕ) (hn : n + 1 < cfg0.N) :
    Leaves (outsAt m c (n + 1) hn) (blocks m c ⟨n + 1, hn⟩) (whole1 m c) (whole2 m c) (outsAt m c n (Nat.lt_of_succ_lt hn)).dsc (outsAt m c n (Nat.lt_of_succ_lt hn)).dsh (outsAt m c n (Nat.lt_of_succ_lt hn)).dg2 (outsAt m c n (Nat.lt_of_succ_lt hn)).dn2 (outsAt m c n (Nat.lt_of_succ_lt hn)).dfg := by
  by_cases h1 : (n + 1) % 16 = 15
  · exact leaves_last m c n hn h1 _ rfl
  · exact leaves_mid m c n hn h1 _ rfl

/-- Some sums were found at every point. -/
theorem leaves (t : Fin 16) : ∃ a b d e f, Leaves (outsAt m c (pt t).val (pt t).isLt) (blocks m c (pt t)) (whole1 m c) (whole2 m c) a b d e f := by
  obtain ⟨n, hn⟩ := t
  cases n with
  | zero => exact ⟨_, _, _, _, _, leaves_first m c⟩
  | succ n => exact ⟨_, _, _, _, _, leaves_later m c n (lt_of_lt_of_eq hn N_0.symm)⟩

/-! ## The five blocks -/

/-- The gradient at the rows entering the layer. -/
theorem dx1_block (t : Fin 16) : Rows (f := .f32) (outsAt m c (pt t).val (pt t).isLt).dx1 fun p => (tile m c t p).dx1 := by
  obtain ⟨_, _, _, _, _, h⟩ := leaves m c t
  rw [h.dx1]
  exact Words.dx1_rows (held m c t)

/-- What enters the hidden layer. -/
theorem h2b_block (t : Fin 16) : Rows (f := .bf16) (outsAt m c (pt t).val (pt t).isLt).h2b fun p => (tile m c t p).h := by
  obtain ⟨_, _, _, _, _, h⟩ := leaves m c t
  rw [h.h2b]
  exact Words.h_rows (held m c t)

/-- The gradient at the layer's output before the gate. -/
theorem dmb_block (t : Fin 16) : Rows (f := .bf16) (outsAt m c (pt t).val (pt t).isLt).dmb fun p => (tile m c t p).dm := by
  obtain ⟨_, _, _, _, _, h⟩ := leaves m c t
  rw [h.dmb]
  exact Words.dm_rows (held m c t)

/-- Every column of the hidden layer lies in a quarter. -/
theorem exists_col (n : Fin 4096) : ∃ (j : Fin 4) (q : Fin 1024), n = col j q :=
  ⟨⟨n.val / 1024, by omega⟩, ⟨n.val % 1024, by omega⟩, Fin.ext (by show n.val = n.val / 1024 * 1024 + n.val % 1024; omega)⟩

/-- The hidden layer. -/
theorem ab_block (t : Fin 16) (p : Fin 256) (n : Fin 4096) : (outsAt m c (pt t).val (pt t).isLt).ab (ix2 p n) = (tile m c t p).act n := by
  obtain ⟨_, _, _, _, _, h⟩ := leaves m c t
  rw [h.ab]
  obtain ⟨j, q, rfl⟩ := exists_col n
  match j with
  | 0 => exact (laid0 ..).trans (Words.a0_rows (held m c t) p q)
  | 1 => exact (laid1 ..).trans (Words.a1_rows (held m c t) p q)
  | 2 => exact (laid2 ..).trans (Words.a2_rows (held m c t) p q)
  | 3 => exact (laid3 ..).trans (Words.a3_rows (held m c t) p q)

/-- The gradient at the hidden layer's product. -/
theorem dub_block (t : Fin 16) (p : Fin 256) (n : Fin 4096) : (outsAt m c (pt t).val (pt t).isLt).dub (ix2 p n) = (tile m c t p).du n := by
  obtain ⟨_, _, _, _, _, h⟩ := leaves m c t
  rw [h.dub]
  obtain ⟨j, q, rfl⟩ := exists_col n
  match j with
  | 0 => exact (laid0 ..).trans (Words.d0_rows (held m c t) p q)
  | 1 => exact (laid1 ..).trans (Words.d1_rows (held m c t) p q)
  | 2 => exact (laid2 ..).trans (Words.d2_rows (held m c t) p q)
  | 3 => exact (laid3 ..).trans (Words.d3_rows (held m c t) p q)

/-! ## The sums -/

/-- A running sum, after its last term. -/
theorem running {N : ℕ} (f : Fin (N + 1) → EReal) (s : (n : ℕ) → n < N + 1 → EReal) (h0 : ∀ h, s 0 h = f ⟨0, h⟩)
    (hs : ∀ (n : ℕ) (h : n + 1 < N + 1), s (n + 1) h = s n (Nat.lt_of_succ_lt h) + f ⟨n + 1, h⟩) : s N (Nat.lt_succ_self N) = ∑ t, f t := by
  have key : ∀ (n : ℕ) (h : n < N + 1), s n h = ∑ i : Fin (n + 1), f ⟨i.val, by omega⟩ := by
    intro n
    induction n with
    | zero => intro h; rw [h0, Fin.sum_univ_one]; rfl
    | succ n ih => intro h; rw [hs, ih, Fin.sum_univ_castSucc (n := n + 1)]; rfl
  exact key N _

/-- A sum over the rows, tile by tile. -/
theorem sum_tiles (f : Fin 4096 → EReal) : ∑ t : Fin 16, ∑ p : Fin 256, f (rowAt t p) = ∑ l, f l := by
  have e : ∀ g : Fin (16 * 256) → EReal, ∑ l, g l = ∑ t : Fin 16, ∑ p : Fin 256, g (finProdFinEquiv (t, p)) := fun g => by
    rw [← finProdFinEquiv.sum_comp, Fintype.sum_prod_type]
  refine Eq.trans ?_ (e f).symm
  refine Finset.sum_congr rfl fun t _ => Finset.sum_congr rfl fun p _ => congrArg f (Fin.ext ?_)
  show t.val * 256 + p.val = p.val + 256 * t.val
  omega

/-- The last point. -/
abbrev done : Fin 16 := 15

theorem add_dsc (v old : FVec Ideal S1x1024 .f32) (q : Fin 1024) : k0_pay3 (F := Ideal) v old (ix2 0 q) = old (ix2 0 q) + v (ix2 0 q) := by
  pointwise [k0_pay3]
theorem zero_dsc (q : Fin 1024) : k0_pay5 (F := Ideal) (ix2 0 q) = 0 := by
  pointwise [k0_pay5]

theorem dsc_sum (q : Fin 1024) : (outsAt m c (pt done).val (pt done).isLt).dsc (ix2 0 q) = ∑ l, (fun R : Row => R.dh q * R.hn q) (seqRow m c l) := by
  rw [← sum_tiles fun l => (fun R : Row => R.dh q * R.hn q) (seqRow m c l)]
  refine running (N := 15) (fun t => ∑ p, (fun R : Row => R.dh q * R.hn q) (tile m c t p)) (fun n h => (outsAt m c n (lt_of_lt_of_eq h N_0.symm)).dsc (ix2 0 q)) (fun h => ?_) fun n h => ?_
  · show (outsAt m c 0 (pt 0).isLt).dsc (ix2 0 q) = _
    rw [(leaves_first m c).dsc]
    refine ((add_dsc _ _ q).trans (congrArg (fun e : EReal => k0_pay5 (F := Ideal) (ix2 0 q) + e) (Words.scl_sum (held m c 0) q))).trans ?_
    rw [zero_dsc, zero_add]; rfl
  · have hn : n + 1 < cfg0.N := lt_of_lt_of_eq h N_0.symm
    show (outsAt m c (n + 1) hn).dsc (ix2 0 q) = _
    rw [(leaves_later m c n hn).dsc]
    exact (add_dsc _ _ q).trans (congrArg (fun e : EReal => (outsAt m c n (Nat.lt_of_succ_lt hn)).dsc (ix2 0 q) + e) (Words.scl_sum (held m c ⟨n + 1, h⟩) q))

theorem add_dsh (v old : FVec Ideal S1x1024 .f32) (q : Fin 1024) : k0_pay2 (F := Ideal) v old (ix2 0 q) = old (ix2 0 q) + v (ix2 0 q) := by
  pointwise [k0_pay2]
theorem zero_dsh (q : Fin 1024) : k0_pay6 (F := Ideal) (ix2 0 q) = 0 := by
  pointwise [k0_pay6]

theorem dsh_sum (q : Fin 1024) : (outsAt m c (pt done).val (pt done).isLt).dsh (ix2 0 q) = ∑ l, (fun R : Row => R.dh q) (seqRow m c l) := by
  rw [← sum_tiles fun l => (fun R : Row => R.dh q) (seqRow m c l)]
  refine running (N := 15) (fun t => ∑ p, (fun R : Row => R.dh q) (tile m c t p)) (fun n h => (outsAt m c n (lt_of_lt_of_eq h N_0.symm)).dsh (ix2 0 q)) (fun h => ?_) fun n h => ?_
  · show (outsAt m c 0 (pt 0).isLt).dsh (ix2 0 q) = _
    rw [(leaves_first m c).dsh]
    refine ((add_dsh _ _ q).trans (congrArg (fun e : EReal => k0_pay6 (F := Ideal) (ix2 0 q) + e) (Words.shift_sum (held m c 0) q))).trans ?_
    rw [zero_dsh, zero_add]; rfl
  · have hn : n + 1 < cfg0.N := lt_of_lt_of_eq h N_0.symm
    show (outsAt m c (n + 1) hn).dsh (ix2 0 q) = _
    rw [(leaves_later m c n hn).dsh]
    exact (add_dsh _ _ q).trans (congrArg (fun e : EReal => (outsAt m c n (Nat.lt_of_succ_lt hn)).dsh (ix2 0 q) + e) (Words.shift_sum (held m c ⟨n + 1, h⟩) q))

theorem zero_dg2 (q : Fin 1024) : k0_pay7 (F := Ideal) (ix2 0 q) = 0 := by
  pointwise [k0_pay7]

theorem dg2_sum (q : Fin 1024) : (outsAt m c (pt done).val (pt done).isLt).dg2 (ix2 0 q) = ∑ l, (fun R : Row => R.dx2 q * R.out q) (seqRow m c l) := by
  rw [← sum_tiles fun l => (fun R : Row => R.dx2 q * R.out q) (seqRow m c l)]
  refine running (N := 15) (fun t => ∑ p, (fun R : Row => R.dx2 q * R.out q) (tile m c t p)) (fun n h => (outsAt m c n (lt_of_lt_of_eq h N_0.symm)).dg2 (ix2 0 q)) (fun h => ?_) fun n h => ?_
  · show (outsAt m c 0 (pt 0).isLt).dg2 (ix2 0 q) = _
    rw [(leaves_first m c).dg2]
    refine (Words.gate_sum (held m c 0) _ q).trans ?_
    rw [zero_dg2, zero_add]; rfl
  · have hn : n + 1 < cfg0.N := lt_of_lt_of_eq h N_0.symm
    show (outsAt m c (n + 1) hn).dg2 (ix2 0 q) = _
    rw [(leaves_later m c n hn).dg2]
    exact Words.gate_sum (held m c ⟨n + 1, h⟩) _ q

theorem add_dn2 (v old : FVec Ideal S1x1024 .f32) (q : Fin 1024) : k0_pay1 (F := Ideal) v old (ix2 0 q) = old (ix2 0 q) + v (ix2 0 q) := by
  pointwise [k0_pay1]
theorem zero_dn2 (q : Fin 1024) : k0_pay8 (F := Ideal) (ix2 0 q) = 0 := by
  pointwise [k0_pay8]

theorem dn2_sum (q : Fin 1024) : (outsAt m c (pt done).val (pt done).isLt).dn2 (ix2 0 q) = ∑ l, (fun R : Row => R.dhn q * R.xh q) (seqRow m c l) := by
  rw [← sum_tiles fun l => (fun R : Row => R.dhn q * R.xh q) (seqRow m c l)]
  refine running (N := 15) (fun t => ∑ p, (fun R : Row => R.dhn q * R.xh q) (tile m c t p)) (fun n h => (outsAt m c n (lt_of_lt_of_eq h N_0.symm)).dn2 (ix2 0 q)) (fun h => ?_) fun n h => ?_
  · show (outsAt m c 0 (pt 0).isLt).dn2 (ix2 0 q) = _
    rw [(leaves_first m c).dn2]
    refine ((add_dn2 _ _ q).trans (congrArg (fun e : EReal => k0_pay8 (F := Ideal) (ix2 0 q) + e) (Words.gain_sum (held m c 0) q))).trans ?_
    rw [zero_dn2, zero_add]; rfl
  · have hn : n + 1 < cfg0.N := lt_of_lt_of_eq h N_0.symm
    show (outsAt m c (n + 1) hn).dn2 (ix2 0 q) = _
    rw [(leaves_later m c n hn).dn2]
    exact (add_dn2 _ _ q).trans (congrArg (fun e : EReal => (outsAt m c n (Nat.lt_of_succ_lt hn)).dn2 (ix2 0 q) + e) (Words.gain_sum (held m c ⟨n + 1, h⟩) q))

theorem zero_dfg (q : Fin 1024) : k0_pay9 (F := Ideal) (ix2 0 q) = 0 := by
  pointwise [k0_pay9]

theorem dfg_sum (q : Fin 1024) : (outsAt m c (pt done).val (pt done).isLt).dfg (ix2 0 q) = ∑ l, (fun R : Row => R.dout q * R.x2h q) (seqRow m c l) := by
  rw [← sum_tiles fun l => (fun R : Row => R.dout q * R.x2h q) (seqRow m c l)]
  refine running (N := 15) (fun t => ∑ p, (fun R : Row => R.dout q * R.x2h q) (tile m c t p)) (fun n h => (outsAt m c n (lt_of_lt_of_eq h N_0.symm)).dfg (ix2 0 q)) (fun h => ?_) fun n h => ?_
  · show (outsAt m c 0 (pt 0).isLt).dfg (ix2 0 q) = _
    rw [(leaves_first m c).dfg]
    refine (Words.last_sum (held m c 0) _ q).trans ?_
    rw [zero_dfg, zero_add]; rfl
  · have hn : n + 1 < cfg0.N := lt_of_lt_of_eq h N_0.symm
    show (outsAt m c (n + 1) hn).dfg (ix2 0 q) = _
    rw [(leaves_later m c n hn).dfg]
    exact Words.last_sum (held m c ⟨n + 1, h⟩) _ q

theorem zero_loss (q : Fin 1024) : k0_pay10 (F := Ideal) (ix2 0 q) = 0 := by
  pointwise [k0_pay10]

/-- A point but the last adds its squares to the loss's column sums. -/
theorem loss_before (q : Fin 1024) : (outsAt m c 14 (lt_of_lt_of_eq (by omega) N_0.symm)).loss (ix2 0 q) = ∑ t : Fin 15, ∑ p, (tile m c t.castSucc p).err q * (tile m c t.castSucc p).err q := by
  refine running (N := 14) (fun t => ∑ p, (tile m c t.castSucc p).err q * (tile m c t.castSucc p).err q)
    (fun n h => (outsAt m c n (lt_of_lt_of_eq (by omega) N_0.symm)).loss (ix2 0 q)) (fun h => ?_) fun n h => ?_
  · show (outsAt m c 0 (pt 0).isLt).loss (ix2 0 q) = _
    rw [show outsAt m c 0 (pt 0).isLt = _ from outsAt_first m c (pt 0) rfl, First.loss, gathered1, gathered2]
    refine (Words.loss_sum (held m c 0) _ q).trans ?_
    rw [zero_loss, zero_add]; rfl
  · have hn : n + 1 < cfg0.N := lt_of_lt_of_eq (by omega) N_0.symm
    show (outsAt m c (n + 1) hn).loss (ix2 0 q) = _
    rw [show outsAt m c (n + 1) hn = _ from outsAt_mid m c ⟨n + 1, hn⟩ (by show (n + 1) % 16 ≠ 0; omega) (by show (n + 1) % 16 ≠ 15; omega), Mid.loss,
      show (prior m c ⟨n + 1, hn⟩).w1s = _ from (carried m c n (Nat.lt_of_succ_lt hn)).1, show (prior m c ⟨n + 1, hn⟩).w2s = _ from (carried m c n (Nat.lt_of_succ_lt hn)).2]
    exact Words.loss_sum (held m c ⟨n + 1, by omega⟩) _ q

/-- The last point sums the columns and takes half the mean. -/
theorem loss_last (n : ℕ) (h : n + 1 < 16) (hn : n + 1 < cfg0.N) (h1 : (n + 1) % 16 = 15) (q : Fin 1024) : (outsAt m c (n + 1) hn).loss (ix2 0 q)
    = (∑ x, ((outsAt m c n (Nat.lt_of_succ_lt hn)).loss (ix2 0 x) + ∑ p, (tile m c ⟨n + 1, h⟩ p).err x * (tile m c ⟨n + 1, h⟩ p).err x)) * Ideal.ofBits .f32 973078528#32 := by
  rw [show outsAt m c (n + 1) hn = _ from outsAt_last m c ⟨n + 1, hn⟩ (by show (n + 1) % 16 ≠ 0; omega) h1, Last.loss,
    show (prior m c ⟨n + 1, hn⟩).w1s = _ from (carried m c n (Nat.lt_of_succ_lt hn)).1, show (prior m c ⟨n + 1, hn⟩).w2s = _ from (carried m c n (Nat.lt_of_succ_lt hn)).2]
  refine (lossLast q).trans (congrArg (fun e : EReal => e * Ideal.ofBits .f32 973078528#32) (Finset.sum_congr rfl fun x _ => ?_))
  exact Words.loss_sum (held m c ⟨n + 1, h⟩) _ x

/-- The loss after the last point. -/
theorem loss_sum (q : Fin 1024) : (outsAt m c (pt done).val (pt done).isLt).loss (ix2 0 q)
    = (∑ x, ∑ l, (seqRow m c l).err x * (seqRow m c l).err x) * Ideal.ofBits .f32 973078528#32 := by
  refine (loss_last m c 14 (by omega) (pt done).isLt rfl q).trans (congrArg (fun e : EReal => e * Ideal.ofBits .f32 973078528#32) (Finset.sum_congr rfl fun x _ => ?_))
  rw [← sum_tiles fun l => (seqRow m c l).err x * (seqRow m c l).err x, Fin.sum_univ_castSucc (n := 15), loss_before]
  rfl

end Cert.Mlp

end
-- ==== Proof.MlpArrays.lean ====
/-
  What the arrays of the squared-ReLU pass hold when it has run.
-/
module

public import proofs.«01_k».proof.Proof.MlpSteps
public import proofs.«01_k».proof.Proof.MlpFrame

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- What `dx1` holds. -/
def whole_dx1 : Buf (Elt Ideal) ((c : Thread nD τ).loc main_v16_0) := fun i => (seqRow m c (i 0)).dx1 (i 1)

theorem flushed_dx1 (t : Fin cfg0.N) : (dats m 0 c).flushed 7 t = ((cfg0.win 7).blk t).view.read (Elt Ideal) (whole_dx1 m c) := by
  show (cfg0.win 7).cut (grid0.coords t) ((dats m 0 c).after 7 t) = _
  rw [after_dx1]
  have hi : ∀ t : Fin cfg0.N, win0_7.index t (0 : Fin 2) = t.val ∧ win0_7.index t (1 : Fin 2) = 0 := (by decide +kernel : ∀ t : Fin grid0.N, _)
  obtain ⟨e0, e1⟩ := hi t
  funext y
  obtain ⟨s, rfl⟩ : ∃ s : Fin 16, t = pt s := ⟨⟨t.val, lt_of_lt_of_eq t.isLt N_0⟩, rfl⟩
  have hy0 : (y 0).val < 256 := (y 0).isLt
  have hy1 : (y 1).val < 1024 := (y 1).isLt
  have hb0 : (((cfg0.win 7).blk (pt s)).view.emb y 0).val = win0_7.index (pt s) (0 : Fin 2) * 256 + 1 * (y 0).val := rfl
  have hb1 : (((cfg0.win 7).blk (pt s)).view.emb y 1).val = win0_7.index (pt s) (1 : Fin 2) * 1024 + 1 * (y 1).val := rfl
  have hx : (cfg0.win 7).xinj (grid0.coords (pt s)) y = (ix2 (⟨(y 0).val, hy0⟩ : Fin 256) (⟨(y 1).val, hy1⟩ : Fin 1024) : S256x1024.Idx) := by
    funext a; apply Fin.ext
    match a with
    | ⟨0, _⟩ => rfl
    | ⟨1, _⟩ => rfl
  refine (congrArg (outsAt m c (pt s).val (pt s).isLt).dx1 hx).trans ((dx1_block m c s ⟨(y 0).val, hy0⟩ ⟨(y 1).val, hy1⟩).trans ?_)
  exact congrArg₂ (fun (l : Fin 4096) (q : Fin 1024) => (seqRow m c l).dx1 q) (Fin.ext (by rw [hb0, e0]; show s.val * 256 + (y 0).val = s.val * 256 + 1 * (y 0).val; omega)) (Fin.ext (by rw [hb1, e1]; show (y 1).val = _; omega))

theorem covered_dx1 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hi : ∀ t : Fin cfg0.N, win0_7.index t (0 : Fin 2) = t.val ∧ win0_7.index t (1 : Fin 2) = 0 := (by decide +kernel : ∀ t : Fin grid0.N, _)
  obtain ⟨t, ht⟩ : ∃ t : Fin 16, t.val = (i 0).val / 256 := ⟨⟨(i 0).val / 256, by omega⟩, rfl⟩
  obtain ⟨e0, e1⟩ := hi (pt t)
  have e0' : win0_7.index (pt t) (0 : Fin 2) = t.val := e0
  refine ⟨pt t, flush0_7 _, ?_⟩
  show i ∈ ((View.whole main_v16_0).slice (win0_7.rect (pt t))).set
  rw [View.set_slice_whole, Rect.mem_set_unit]
  intro a
  match a with
  | ⟨0, _⟩ => show win0_7.index _ (0 : Fin 2) * 256 ≤ (i 0).val ∧ (i 0).val < win0_7.index _ (0 : Fin 2) * 256 + 256; omega
  | ⟨1, _⟩ => show win0_7.index _ (1 : Fin 2) * 1024 ≤ (i 1).val ∧ (i 1).val < win0_7.index _ (1 : Fin 2) * 1024 + 1024; omega

/-- After the run, `dx1` is whole. -/
theorem final_dx1 : (dats m 0 c).arrAt 7 cfg0.N = whole_dx1 m c :=
  (dats m 0 c).arrAt_eq_of_cover 7 _ (fun t _ => flushed_dx1 m c t) covered_dx1

/-- What `h2b` holds. -/
def whole_h2b : Buf (Elt Ideal) ((c : Thread nD τ).loc main_v16_1) := fun i => (seqRow m c (i 0)).h (i 1)

theorem flushed_h2b (t : Fin cfg0.N) : (dats m 0 c).flushed 8 t = ((cfg0.win 8).blk t).view.read (Elt Ideal) (whole_h2b m c) := by
  show (cfg0.win 8).cut (grid0.coords t) ((dats m 0 c).after 8 t) = _
  rw [after_h2b]
  have hi : ∀ t : Fin cfg0.N, win0_8.index t (0 : Fin 2) = t.val ∧ win0_8.index t (1 : Fin 2) = 0 := (by decide +kernel : ∀ t : Fin grid0.N, _)
  obtain ⟨e0, e1⟩ := hi t
  funext y
  obtain ⟨s, rfl⟩ : ∃ s : Fin 16, t = pt s := ⟨⟨t.val, lt_of_lt_of_eq t.isLt N_0⟩, rfl⟩
  have hy0 : (y 0).val < 256 := (y 0).isLt
  have hy1 : (y 1).val < 1024 := (y 1).isLt
  have hb0 : (((cfg0.win 8).blk (pt s)).view.emb y 0).val = win0_8.index (pt s) (0 : Fin 2) * 256 + 1 * (y 0).val := rfl
  have hb1 : (((cfg0.win 8).blk (pt s)).view.emb y 1).val = win0_8.index (pt s) (1 : Fin 2) * 1024 + 1 * (y 1).val := rfl
  have hx : (cfg0.win 8).xinj (grid0.coords (pt s)) y = (ix2 (⟨(y 0).val, hy0⟩ : Fin 256) (⟨(y 1).val, hy1⟩ : Fin 1024) : S256x1024.Idx) := by
    funext a; apply Fin.ext
    match a with
    | ⟨0, _⟩ => rfl
    | ⟨1, _⟩ => rfl
  refine (congrArg (outsAt m c (pt s).val (pt s).isLt).h2b hx).trans ((h2b_block m c s ⟨(y 0).val, hy0⟩ ⟨(y 1).val, hy1⟩).trans ?_)
  exact congrArg₂ (fun (l : Fin 4096) (q : Fin 1024) => (seqRow m c l).h q) (Fin.ext (by rw [hb0, e0]; show s.val * 256 + (y 0).val = s.val * 256 + 1 * (y 0).val; omega)) (Fin.ext (by rw [hb1, e1]; show (y 1).val = _; omega))

theorem covered_h2b (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hi : ∀ t : Fin cfg0.N, win0_8.index t (0 : Fin 2) = t.val ∧ win0_8.index t (1 : Fin 2) = 0 := (by decide +kernel : ∀ t : Fin grid0.N, _)
  obtain ⟨t, ht⟩ : ∃ t : Fin 16, t.val = (i 0).val / 256 := ⟨⟨(i 0).val / 256, by omega⟩, rfl⟩
  obtain ⟨e0, e1⟩ := hi (pt t)
  have e0' : win0_8.index (pt t) (0 : Fin 2) = t.val := e0
  refine ⟨pt t, flush0_8 _, ?_⟩
  show i ∈ ((View.whole main_v16_1).slice (win0_8.rect (pt t))).set
  rw [View.set_slice_whole, Rect.mem_set_unit]
  intro a
  match a with
  | ⟨0, _⟩ => show win0_8.index _ (0 : Fin 2) * 256 ≤ (i 0).val ∧ (i 0).val < win0_8.index _ (0 : Fin 2) * 256 + 256; omega
  | ⟨1, _⟩ => show win0_8.index _ (1 : Fin 2) * 1024 ≤ (i 1).val ∧ (i 1).val < win0_8.index _ (1 : Fin 2) * 1024 + 1024; omega

/-- After the run, `h2b` is whole. -/
theorem final_h2b : (dats m 0 c).arrAt 8 cfg0.N = whole_h2b m c :=
  (dats m 0 c).arrAt_eq_of_cover 8 _ (fun t _ => flushed_h2b m c t) covered_h2b

/-- What `ab` holds. -/
def whole_ab : Buf (Elt Ideal) ((c : Thread nD τ).loc main_v16_2) := fun i => (seqRow m c (i 0)).act (i 1)

theorem flushed_ab (t : Fin cfg0.N) : (dats m 0 c).flushed 9 t = ((cfg0.win 9).blk t).view.read (Elt Ideal) (whole_ab m c) := by
  show (cfg0.win 9).cut (grid0.coords t) ((dats m 0 c).after 9 t) = _
  rw [after_ab]
  have hi : ∀ t : Fin cfg0.N, win0_9.index t (0 : Fin 2) = t.val ∧ win0_9.index t (1 : Fin 2) = 0 := (by decide +kernel : ∀ t : Fin grid0.N, _)
  obtain ⟨e0, e1⟩ := hi t
  funext y
  obtain ⟨s, rfl⟩ : ∃ s : Fin 16, t = pt s := ⟨⟨t.val, lt_of_lt_of_eq t.isLt N_0⟩, rfl⟩
  have hy0 : (y 0).val < 256 := (y 0).isLt
  have hy1 : (y 1).val < 4096 := (y 1).isLt
  have hb0 : (((cfg0.win 9).blk (pt s)).view.emb y 0).val = win0_9.index (pt s) (0 : Fin 2) * 256 + 1 * (y 0).val := rfl
  have hb1 : (((cfg0.win 9).blk (pt s)).view.emb y 1).val = win0_9.index (pt s) (1 : Fin 2) * 4096 + 1 * (y 1).val := rfl
  have hx : (cfg0.win 9).xinj (grid0.coords (pt s)) y = (ix2 (⟨(y 0).val, hy0⟩ : Fin 256) (⟨(y 1).val, hy1⟩ : Fin 4096) : S256x4096.Idx) := by
    funext a; apply Fin.ext
    match a with
    | ⟨0, _⟩ => rfl
    | ⟨1, _⟩ => rfl
  refine (congrArg (outsAt m c (pt s).val (pt s).isLt).ab hx).trans ((ab_block m c s ⟨(y 0).val, hy0⟩ ⟨(y 1).val, hy1⟩).trans ?_)
  exact congrArg₂ (fun (l : Fin 4096) (q : Fin 4096) => (seqRow m c l).act q) (Fin.ext (by rw [hb0, e0]; show s.val * 256 + (y 0).val = s.val * 256 + 1 * (y 0).val; omega)) (Fin.ext (by rw [hb1, e1]; show (y 1).val = _; omega))

theorem covered_ab (i : S4096x4096.Idx) : ∃ t : Fin cfg0.N, (cfg0.win 9).flush t = true ∧ i ∈ ((cfg0.win 9).blk t).view.set := by
  have h0 : (i 0).val < 4096 := (i 0).isLt
  have h1 : (i 1).val < 4096 := (i 1).isLt
  have hi : ∀ t : Fin cfg0.N, win0_9.index t (0 : Fin 2) = t.val ∧ win0_9.index t (1 : Fin 2) = 0 := (by decide +kernel : ∀ t : Fin grid0.N, _)
  obtain ⟨t, ht⟩ : ∃ t : Fin 16, t.val = (i 0).val / 256 := ⟨⟨(i 0).val / 256, by omega⟩, rfl⟩
  obtain ⟨e0, e1⟩ := hi (pt t)
  have e0' : win0_9.index (pt t) (0 : Fin 2) = t.val := e0
  refine ⟨pt t, flush0_9 _, ?_⟩
  show i ∈ ((View.whole main_v16_2).slice (win0_9.rect (pt t))).set
  rw [View.set_slice_whole, Rect.mem_set_unit]
  intro a
  match a with
  | ⟨0, _⟩ => show win0_9.index _ (0 : Fin 2) * 256 ≤ (i 0).val ∧ (i 0).val < win0_9.index _ (0 : Fin 2) * 256 + 256; omega
  | ⟨1, _⟩ => show win0_9.index _ (1 : Fin 2) * 4096 ≤ (i 1).val ∧ (i 1).val < win0_9.index _ (1 : Fin 2) * 4096 + 4096; omega

/-- After the run, `ab` is whole. -/
theorem final_ab : (dats m 0 c).arrAt 9 cfg0.N = whole_ab m c :=
  (dats m 0 c).arrAt_eq_of_cover 9 _ (fun t _ => flushed_ab m c t) covered_ab

/-- What `dub` holds. -/
def whole_dub : Buf (Elt Ideal) ((c : Thread nD τ).loc main_v16_3) := fun i => (seqRow m c (i 0)).du (i 1)

theorem flushed_dub (t : Fin cfg0.N) : (dats m 0 c).flushed 10 t = ((cfg0.win 10).blk t).view.read (Elt Ideal) (whole_dub m c) := by
  show (cfg0.win 10).cut (grid0.coords t) ((dats m 0 c).after 10 t) = _
  rw [after_dub]
  have hi : ∀ t : Fin cfg0.N, win0_10.index t (0 : Fin 2) = t.val ∧ win0_10.index t (1 : Fin 2) = 0 := (by decide +kernel : ∀ t : Fin grid0.N, _)
  obtain ⟨e0, e1⟩ := hi t
  funext y
  obtain ⟨s, rfl⟩ : ∃ s : Fin 16, t = pt s := ⟨⟨t.val, lt_of_lt_of_eq t.isLt N_0⟩, rfl⟩
  have hy0 : (y 0).val < 256 := (y 0).isLt
  have hy1 : (y 1).val < 4096 := (y 1).isLt
  have hb0 : (((cfg0.win 10).blk (pt s)).view.emb y 0).val = win0_10.index (pt s) (0 : Fin 2) * 256 + 1 * (y 0).val := rfl
  have hb1 : (((cfg0.win 10).blk (pt s)).view.emb y 1).val = win0_10.index (pt s) (1 : Fin 2) * 4096 + 1 * (y 1).val := rfl
  have hx : (cfg0.win 10).xinj (grid0.coords (pt s)) y = (ix2 (⟨(y 0).val, hy0⟩ : Fin 256) (⟨(y 1).val, hy1⟩ : Fin 4096) : S256x4096.Idx) := by
    funext a; apply Fin.ext
    match a with
    | ⟨0, _⟩ => rfl
    | ⟨1, _⟩ => rfl
  refine (congrArg (outsAt m c (pt s).val (pt s).isLt).dub hx).trans ((dub_block m c s ⟨(y 0).val, hy0⟩ ⟨(y 1).val, hy1⟩).trans ?_)
  exact congrArg₂ (fun (l : Fin 4096) (q : Fin 4096) => (seqRow m c l).du q) (Fin.ext (by rw [hb0, e0]; show s.val * 256 + (y 0).val = s.val * 256 + 1 * (y 0).val; omega)) (Fin.ext (by rw [hb1, e1]; show (y 1).val = _; omega))

theorem covered_dub (i : S4096x4096.Idx) : ∃ t : Fin cfg0.N, (cfg0.win 10).flush t = true ∧ i ∈ ((cfg0.win 10).blk t).view.set := by
  have h0 : (i 0).val < 4096 := (i 0).isLt
  have h1 : (i 1).val < 4096 := (i 1).isLt
  have hi : ∀ t : Fin cfg0.N, win0_10.index t (0 : Fin 2) = t.val ∧ win0_10.index t (1 : Fin 2) = 0 := (by decide +kernel : ∀ t : Fin grid0.N, _)
  obtain ⟨t, ht⟩ : ∃ t : Fin 16, t.val = (i 0).val / 256 := ⟨⟨(i 0).val / 256, by omega⟩, rfl⟩
  obtain ⟨e0, e1⟩ := hi (pt t)
  have e0' : win0_10.index (pt t) (0 : Fin 2) = t.val := e0
  refine ⟨pt t, flush0_10 _, ?_⟩
  show i ∈ ((View.whole main_v16_3).slice (win0_10.rect (pt t))).set
  rw [View.set_slice_whole, Rect.mem_set_unit]
  intro a
  match a with
  | ⟨0, _⟩ => show win0_10.index _ (0 : Fin 2) * 256 ≤ (i 0).val ∧ (i 0).val < win0_10.index _ (0 : Fin 2) * 256 + 256; omega
  | ⟨1, _⟩ => show win0_10.index _ (1 : Fin 2) * 4096 ≤ (i 1).val ∧ (i 1).val < win0_10.index _ (1 : Fin 2) * 4096 + 4096; omega

/-- After the run, `dub` is whole. -/
theorem final_dub : (dats m 0 c).arrAt 10 cfg0.N = whole_dub m c :=
  (dats m 0 c).arrAt_eq_of_cover 10 _ (fun t _ => flushed_dub m c t) covered_dub

/-- What `dmb` holds. -/
def whole_dmb : Buf (Elt Ideal) ((c : Thread nD τ).loc main_v16_4) := fun i => (seqRow m c (i 0)).dm (i 1)

theorem flushed_dmb (t : Fin cfg0.N) : (dats m 0 c).flushed 11 t = ((cfg0.win 11).blk t).view.read (Elt Ideal) (whole_dmb m c) := by
  show (cfg0.win 11).cut (grid0.coords t) ((dats m 0 c).after 11 t) = _
  rw [after_dmb]
  have hi : ∀ t : Fin cfg0.N, win0_11.index t (0 : Fin 2) = t.val ∧ win0_11.index t (1 : Fin 2) = 0 := (by decide +kernel : ∀ t : Fin grid0.N, _)
  obtain ⟨e0, e1⟩ := hi t
  funext y
  obtain ⟨s, rfl⟩ : ∃ s : Fin 16, t = pt s := ⟨⟨t.val, lt_of_lt_of_eq t.isLt N_0⟩, rfl⟩
  have hy0 : (y 0).val < 256 := (y 0).isLt
  have hy1 : (y 1).val < 1024 := (y 1).isLt
  have hb0 : (((cfg0.win 11).blk (pt s)).view.emb y 0).val = win0_11.index (pt s) (0 : Fin 2) * 256 + 1 * (y 0).val := rfl
  have hb1 : (((cfg0.win 11).blk (pt s)).view.emb y 1).val = win0_11.index (pt s) (1 : Fin 2) * 1024 + 1 * (y 1).val := rfl
  have hx : (cfg0.win 11).xinj (grid0.coords (pt s)) y = (ix2 (⟨(y 0).val, hy0⟩ : Fin 256) (⟨(y 1).val, hy1⟩ : Fin 1024) : S256x1024.Idx) := by
    funext a; apply Fin.ext
    match a with
    | ⟨0, _⟩ => rfl
    | ⟨1, _⟩ => rfl
  refine (congrArg (outsAt m c (pt s).val (pt s).isLt).dmb hx).trans ((dmb_block m c s ⟨(y 0).val, hy0⟩ ⟨(y 1).val, hy1⟩).trans ?_)
  exact congrArg₂ (fun (l : Fin 4096) (q : Fin 1024) => (seqRow m c l).dm q) (Fin.ext (by rw [hb0, e0]; show s.val * 256 + (y 0).val = s.val * 256 + 1 * (y 0).val; omega)) (Fin.ext (by rw [hb1, e1]; show (y 1).val = _; omega))

theorem covered_dmb (i : S4096x1024.Idx) : ∃ t : Fin cfg0.N, (cfg0.win 11).flush t = true ∧ i ∈ ((cfg0.win 11).blk t).view.set := by
  have h0 : (i 0).val < 4096 := (i 0).isLt
  have h1 : (i 1).val < 1024 := (i 1).isLt
  have hi : ∀ t : Fin cfg0.N, win0_11.index t (0 : Fin 2) = t.val ∧ win0_11.index t (1 : Fin 2) = 0 := (by decide +kernel : ∀ t : Fin grid0.N, _)
  obtain ⟨t, ht⟩ : ∃ t : Fin 16, t.val = (i 0).val / 256 := ⟨⟨(i 0).val / 256, by omega⟩, rfl⟩
  obtain ⟨e0, e1⟩ := hi (pt t)
  have e0' : win0_11.index (pt t) (0 : Fin 2) = t.val := e0
  refine ⟨pt t, flush0_11 _, ?_⟩
  show i ∈ ((View.whole main_v16_4).slice (win0_11.rect (pt t))).set
  rw [View.set_slice_whole, Rect.mem_set_unit]
  intro a
  match a with
  | ⟨0, _⟩ => show win0_11.index _ (0 : Fin 2) * 256 ≤ (i 0).val ∧ (i 0).val < win0_11.index _ (0 : Fin 2) * 256 + 256; omega
  | ⟨1, _⟩ => show win0_11.index _ (1 : Fin 2) * 1024 ≤ (i 1).val ∧ (i 1).val < win0_11.index _ (1 : Fin 2) * 1024 + 1024; omega

/-- After the run, `dmb` is whole. -/
theorem final_dmb : (dats m 0 c).arrAt 11 cfg0.N = whole_dmb m c :=
  (dats m 0 c).arrAt_eq_of_cover 11 _ (fun t _ => flushed_dmb m c t) covered_dmb

/-- What `dsc` holds. -/
def whole_dsc : Buf (Elt Ideal) ((c : Thread nD τ).loc main_v16_5) := fun i => (∑ l, (seqRow m c l).dh (i 1) * (seqRow m c l).hn (i 1) : EReal)

theorem flushed_dsc (t : Fin cfg0.N) (hf : (cfg0.win 12).flush t = true) : (dats m 0 c).flushed 12 t = ((cfg0.win 12).blk t).view.read (Elt Ideal) (whole_dsc m c) := by
  show (cfg0.win 12).cut (grid0.coords t) ((dats m 0 c).after 12 t) = _
  rw [after_dsc]
  have hi : ∀ t : Fin cfg0.N, win0_12.index t (0 : Fin 2) = 0 ∧ win0_12.index t (1 : Fin 2) = 0 := (by decide +kernel : ∀ t : Fin grid0.N, _)
  have ht : t.val = 15 := by have := (flush0_12 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 12).blk (pt done)).view.emb y 1).val = win0_12.index (pt done) (1 : Fin 2) * 1024 + 1 * (y 1).val := rfl
  have hx : (cfg0.win 12).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 12).blk (pt done)).view.emb y 1 := Fin.ext (by rw [hb1, e1]; show (y 1).val = _; omega)
  refine (congrArg (outsAt m c (pt done).val (pt done).isLt).dsc hx).trans ((dsc_sum m c ⟨(y 1).val, hy1⟩).trans ?_)
  rw [hz]; rfl

theorem covered_dsc (i : S1x1024.Idx) : ∃ t : Fin cfg0.N, (cfg0.win 12).flush t = true ∧ i ∈ ((cfg0.win 12).blk t).view.set := by
  have h0 : (i 0).val < 1 := (i 0).isLt
  have h1 : (i 1).val < 1024 := (i 1).isLt
  have hi : ∀ t : Fin cfg0.N, win0_12.index t (0 : Fin 2) = 0 ∧ win0_12.index t (1 : Fin 2) = 0 := (by decide +kernel : ∀ t : Fin grid0.N, _)
  obtain ⟨e0, e1⟩ := hi (pt done)
  refine ⟨pt done, (flush0_12 _).mpr rfl, ?_⟩
  show i ∈ ((View.whole main_v16_5).slice (win0_12.rect (pt done))).set
  rw [View.set_slice_whole, Rect.mem_set_unit]
  intro a
  match a with
  | ⟨0, _⟩ => show win0_12.index _ (0 : Fin 2) * 1 ≤ (i 0).val ∧ (i 0).val < win0_12.index _ (0 : Fin 2) * 1 + 1; omega
  | ⟨1, _⟩ => show win0_12.index _ (1 : Fin 2) * 1024 ≤ (i 1).val ∧ (i 1).val < win0_12.index _ (1 : Fin 2) * 1024 + 1024; omega

/-- After the run, `dsc` is whole. -/
theorem final_dsc : (dats m 0 c).arrAt 12 cfg0.N = whole_dsc m c :=
  (dats m 0 c).arrAt_eq_of_cover 12 _ (flushed_dsc m c) covered_dsc

/-- What `dsh` holds. -/
def whole_dsh : Buf (Elt Ideal) ((c : Thread nD τ).loc main_v16_6) := fun i => (∑ l, (seqRow m c l).dh (i 1) : EReal)

theorem flushed_dsh (t : Fin cfg0.N) (hf : (cfg0.win 13).flush t = true) : (dats m 0 c).flushed 13 t = ((cfg0.win 13).blk t).view.read (Elt Ideal) (whole_dsh m c) := by
  show (cfg0.win 13).cut (grid0.coords t) ((dats m 0 c).after 13 t) = _
  rw [after_dsh]
  have hi : ∀ t : Fin cfg0.N, win0_13.index t (0 : Fin 2) = 0 ∧ win0_13.index t (1 : Fin 2) = 0 := (by decide +kernel : ∀ t : Fin grid0.N, _)
  have ht : t.val = 15 := by have := (flush0_13 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 13).blk (pt done)).view.emb y 1).val = win0_13.index (pt done) (1 : Fin 2) * 1024 + 1 * (y 1).val := rfl
  have hx : (cfg0.win 13).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 13).blk (pt done)).view.emb y 1 := Fin.ext (by rw [hb1, e1]; show (y 1).val = _; omega)
  refine (congrArg (outsAt m c (pt done).val (pt done).isLt).dsh hx).trans ((dsh_sum m c ⟨(y 1).val, hy1⟩).trans ?_)
  rw [hz]; rfl

theorem covered_dsh (i : S1x1024.Idx) : ∃ t : Fin cfg0.N, (cfg0.win 13).flush t = true ∧ i ∈ ((cfg0.win 13).blk t).view.set := by
  have h0 : (i 0).val < 1 := (i 0).isLt
  have h1 : (i 1).val < 1024 := (i 1).isLt
  have hi : ∀ t : Fin cfg0.N, win0_13.index t (0 : Fin 2) = 0 ∧ win0_13.index t (1 : Fin 2) = 0 := (by decide +kernel : ∀ t : Fin grid0.N, _)
  obtain ⟨e0, e1⟩ := hi (pt done)
  refine ⟨pt done, (flush0_13 _).mpr rfl, ?_⟩
  show i ∈ ((View.whole main_v16_6).slice (win0_13.rect (pt done))).set
  rw [View.set_slice_whole, Rect.mem_set_unit]
  intro a
  match a with
  | ⟨0, _⟩ => show win0_13.index _ (0 : Fin 2) * 1 ≤ (i 0).val ∧ (i 0).val < win0_13.index _ (0 : Fin 2) * 1 + 1; omega
  | ⟨1, _⟩ => show win0_13.index _ (1 : Fin 2) * 1024 ≤ (i 1).val ∧ (i 1).val < win0_13.index _ (1 : Fin 2) * 1024 + 1024; omega

/-- After the run, `dsh` is whole. -/
theorem final_dsh : (dats m 0 c).arrAt 13 cfg0.N = whole_dsh m c :=
  (dats m 0 c).arrAt_eq_of_cover 13 _ (flushed_dsh m c) covered_dsh

/-- What `dg2` holds. -/
def whole_dg2 : Buf (Elt Ideal) ((c : Thread nD τ).loc main_v16_7) := fun i => (∑ l, (seqRow m c l).dx2 (i 1) * (seqRow m c l).out (i 1) : EReal)

theorem flushed_dg2 (t : Fin cfg0.N) (hf : (cfg0.win 14).flush t = true) : (dats m 0 c).flushed 14 t = ((cfg0.win 14).blk t).view.read (Elt Ideal) (whole_dg2 m c) := by
  show (cfg0.win 14).cut (grid0.coords t) ((dats m 0 c).after 14 t) = _
  rw [after_dg2]
  have hi : ∀ t : Fin cfg0.N, win0_14.index t (0 : Fin 2) = 0 ∧ win0_14.index t (1 : Fin 2) = 0 := (by decide +kernel : ∀ t : Fin grid0.N, _)
  have ht : t.val = 15 := by have := (flush0_14 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 14).blk (pt done)).view.emb y 1).val = win0_14.index (pt done) (1 : Fin 2) * 1024 + 1 * (y 1).val := rfl
  have hx : (cfg0.win 14).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 14).blk (pt done)).view.emb y 1 := Fin.ext (by rw [hb1, e1]; show (y 1).val = _; omega)
  refine (congrArg (outsAt m c (pt done).val (pt done).isLt).dg2 hx).trans ((dg2_sum m c ⟨(y 1).val, hy1⟩).trans ?_)
  rw [hz]; rfl

theorem covered_dg2 (i : S1x1024.Idx) : ∃ t : Fin cfg0.N, (cfg0.win 14).flush t = true ∧ i ∈ ((cfg0.win 14).blk t).view.set := by
  have h0 : (i 0).val < 1 := (i 0).isLt
  have h1 : (i 1).val < 1024 := (i 1).isLt
  have hi : ∀ t : Fin cfg0.N, win0_14.index t (0 : Fin 2) = 0 ∧ win0_14.index t (1 : Fin 2) = 0 := (by decide +kernel : ∀ t : Fin grid0.N, _)
  obtain ⟨e0, e1⟩ := hi (pt done)
  refine ⟨pt done, (flush0_14 _).mpr rfl, ?_⟩
  show i ∈ ((View.whole main_v16_7).slice (win0_14.rect (pt done))).set
  rw [View.set_slice_whole, Rect.mem_set_unit]
  intro a
  match a with
  | ⟨0, _⟩ => show win0_14.index _ (0 : Fin 2) * 1 ≤ (i 0).val ∧ (i 0).val < win0_14.index _ (0 : Fin 2) * 1 + 1; omega
  | ⟨1, _⟩ => show win0_14.index _ (1 : Fin 2) * 1024 ≤ (i 1).val ∧ (i 1).val < win0_14.index _ (1 : Fin 2) * 1024 + 1024; omega

/-- After the run, `dg2` is whole. -/
theorem final_dg2 : (dats m 0 c).arrAt 14 cfg0.N = whole_dg2 m c :=
  (dats m 0 c).arrAt_eq_of_cover 14 _ (flushed_dg2 m c) covered_dg2

/-- What `dn2` holds. -/
def whole_dn2 : Buf (Elt Ideal) ((c : Thread nD τ).loc main_v16_8) := fun i => (∑ l, (seqRow m c l).dhn (i 1) * (seqRow m c l).xh (i 1) : EReal)

theorem flushed_dn2 (t : Fin cfg0.N) (hf : (cfg0.win 15).flush t = true) : (dats m 0 c).flushed 15 t = ((cfg0.win 15).blk t).view.read (Elt Ideal) (whole_dn2 m c) := by
  show (cfg0.win 15).cut (grid0.coords t) ((dats m 0 c).after 15 t) = _
  rw [after_dn2]
  have hi : ∀ t : Fin cfg0.N, win0_15.index t (0 : Fin 2) = 0 ∧ win0_15.index t (1 : Fin 2) = 0 := (by decide +kernel : ∀ t : Fin grid0.N, _)
  have ht : t.val = 15 := by have := (flush0_15 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 15).blk (pt done)).view.emb y 1).val = win0_15.index (pt done) (1 : Fin 2) * 1024 + 1 * (y 1).val := rfl
  have hx : (cfg0.win 15).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 15).blk (pt done)).view.emb y 1 := Fin.ext (by rw [hb1, e1]; show (y 1).val = _; omega)
  refine (congrArg (outsAt m c (pt done).val (pt done).isLt).dn2 hx).trans ((dn2_sum m c ⟨(y 1).val, hy1⟩).trans ?_)
  rw [hz]; rfl

theorem covered_dn2 (i : S1x1024.Idx) : ∃ t : Fin cfg0.N, (cfg0.win 15).flush t = true ∧ i ∈ ((cfg0.win 15).blk t).view.set := by
  have h0 : (i 0).val < 1 := (i 0).isLt
  have h1 : (i 1).val < 1024 := (i 1).isLt
  have hi : ∀ t : Fin cfg0.N, win0_15.index t (0 : Fin 2) = 0 ∧ win0_15.index t (1 : Fin 2) = 0 := (by decide +kernel : ∀ t : Fin grid0.N, _)
  obtain ⟨e0, e1⟩ := hi (pt done)
  refine ⟨pt done, (flush0_15 _).mpr rfl, ?_⟩
  show i ∈ ((View.whole main_v16_8).slice (win0_15.rect (pt done))).set
  rw [View.set_slice_whole, Rect.mem_set_unit]
  intro a
  match a with
  | ⟨0, _⟩ => show win0_15.index _ (0 : Fin 2) * 1 ≤ (i 0).val ∧ (i 0).val < win0_15.index _ (0 : Fin 2) * 1 + 1; omega
  | ⟨1, _⟩ => show win0_15.index _ (1 : Fin 2) * 1024 ≤ (i 1).val ∧ (i 1).val < win0_15.index _ (1 : Fin 2) * 1024 + 1024; omega

/-- After the run, `dn2` is whole. -/
theorem final_dn2 : (dats m 0 c).arrAt 15 cfg0.N = whole_dn2 m c :=
  (dats m 0 c).arrAt_eq_of_cover 15 _ (flushed_dn2 m c) covered_dn2

/-- What `dfg` holds. -/
def whole_dfg : Buf (Elt Ideal) ((c : Thread nD τ).loc main_v16_9) := fun i => (∑ l, (seqRow m c l).dout (i 1) * (seqRow m c l).x2h (i 1) : EReal)

theorem flushed_dfg (t : Fin cfg0.N) (hf : (cfg0.win 16).flush t = true) : (dats m 0 c).flushed 16 t = ((cfg0.win 16).blk t).view.read (Elt Ideal) (whole_dfg m c) := by
  show (cfg0.win 16).cut (grid0.coords t) ((dats m 0 c).after 16 t) = _
  rw [after_dfg]
  have hi : ∀ t : Fin cfg0.N, win0_16.index t (0 : Fin 2) = 0 ∧ win0_16.index t (1 : Fin 2) = 0 := (by decide +kernel : ∀ t : Fin grid0.N, _)
  have ht : t.val = 15 := by have := (flush0_16 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 16).blk (pt done)).view.emb y 1).val = win0_16.index (pt done) (1 : Fin 2) * 1024 + 1 * (y 1).val := rfl
  have hx : (cfg0.win 16).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 16).blk (pt done)).view.emb y 1 := Fin.ext (by rw [hb1, e1]; show (y 1).val = _; omega)
  refine (congrArg (outsAt m c (pt done).val (pt done).isLt).dfg hx).trans ((dfg_sum m c ⟨(y 1).val, hy1⟩).trans ?_)
  rw [hz]; rfl

theorem covered_dfg (i : S1x1024.Idx) : ∃ t : Fin cfg0.N, (cfg0.win 16).flush t = true ∧ i ∈ ((cfg0.win 16).blk t).view.set := by
  have h0 : (i 0).val < 1 := (i 0).isLt
  have h1 : (i 1).val < 1024 := (i 1).isLt
  have hi : ∀ t : Fin cfg0.N, win0_16.index t (0 : Fin 2) = 0 ∧ win0_16.index t (1 : Fin 2) = 0 := (by decide +kernel : ∀ t : Fin grid0.N, _)
  obtain ⟨e0, e1⟩ := hi (pt done)
  refine ⟨pt done, (flush0_16 _).mpr rfl, ?_⟩
  show i ∈ ((View.whole main_v16_9).slice (win0_16.rect (pt done))).set
  rw [View.set_slice_whole, Rect.mem_set_unit]
  intro a
  match a with
  | ⟨0, _⟩ => show win0_16.index _ (0 : Fin 2) * 1 ≤ (i 0).val ∧ (i 0).val < win0_16.index _ (0 : Fin 2) * 1 + 1; omega
  | ⟨1, _⟩ => show win0_16.index _ (1 : Fin 2) * 1024 ≤ (i 1).val ∧ (i 1).val < win0_16.index _ (1 : Fin 2) * 1024 + 1024; omega

/-- After the run, `dfg` is whole. -/
theorem final_dfg : (dats m 0 c).arrAt 16 cfg0.N = whole_dfg m c :=
  (dats m 0 c).arrAt_eq_of_cover 16 _ (flushed_dfg m c) covered_dfg

/-- What `loss` holds. -/
def whole_loss : Buf (Elt Ideal) ((c : Thread nD τ).loc main_v16_10) := fun i => ((∑ x, ∑ l, (seqRow m c l).err x * (seqRow m c l).err x) * Ideal.ofBits .f32 973078528#32 : EReal)

theorem flushed_loss (t : Fin cfg0.N) (hf : (cfg0.win 17).flush t = true) : (dats m 0 c).flushed 17 t = ((cfg0.win 17).blk t).view.read (Elt Ideal) (whole_loss m c) := by
  show (cfg0.win 17).cut (grid0.coords t) ((dats m 0 c).after 17 t) = _
  rw [after_loss]
  have hi : ∀ t : Fin cfg0.N, win0_17.index t (0 : Fin 2) = 0 ∧ win0_17.index t (1 : Fin 2) = 0 := (by decide +kernel : ∀ t : Fin grid0.N, _)
  have ht : t.val = 15 := by have := (flush0_17 t).mp hf; have : t.val < 16 := lt_of_lt_of_eq t.isLt N_0; omega
  obtain rfl : t = pt done := Fin.ext ht
  obtain ⟨e0, e1⟩ := hi (pt done)
  funext y
  have hy0 : (y 0).val < 1 := (y 0).isLt
  have hy1 : (y 1).val < 1024 := (y 1).isLt
  have hb1 : (((cfg0.win 17).blk (pt done)).view.emb y 1).val = win0_17.index (pt done) (1 : Fin 2) * 1024 + 1 * (y 1).val := rfl
  have hx : (cfg0.win 17).xinj (grid0.coords (pt done)) y = (ix2 (0 : Fin 1) (⟨(y 1).val, hy1⟩ : Fin 1024) : S1x1024.Idx) := by
    funext a; apply Fin.ext
    match a with
    | ⟨0, _⟩ => show (y 0).val = 0; omega
    | ⟨1, _⟩ => rfl
  have hz : (⟨(y 1).val, hy1⟩ : Fin 1024) = ((cfg0.win 17).blk (pt done)).view.emb y 1 := Fin.ext (by rw [hb1, e1]; show (y 1).val = _; omega)
  refine (congrArg (outsAt m c (pt done).val (pt done).isLt).loss hx).trans ((loss_sum m c ⟨(y 1).val, hy1⟩).trans ?_)
  rfl

theorem covered_loss (i : S1x1024.Idx) : ∃ t : Fin cfg0.N, (cfg0.win 17).flush t = true ∧ i ∈ ((cfg0.win 17).blk t).view.set := by
  have h0 : (i 0).val < 1 := (i 0).isLt
  have h1 : (i 1).val < 1024 := (i 1).isLt
  have hi : ∀ t : Fin cfg0.N, win0_17.index t (0 : Fin 2) = 0 ∧ win0_17.index t (1 : Fin 2) = 0 := (by decide +kernel : ∀ t : Fin grid0.N, _)
  obtain ⟨e0, e1⟩ := hi (pt done)
  refine ⟨pt done, (flush0_17 _).mpr rfl, ?_⟩
  show i ∈ ((View.whole main_v16_10).slice (win0_17.rect (pt done))).set
  rw [View.set_slice_whole, Rect.mem_set_unit]
  intro a
  match a with
  | ⟨0, _⟩ => show win0_17.index _ (0 : Fin 2) * 1 ≤ (i 0).val ∧ (i 0).val < win0_17.index _ (0 : Fin 2) * 1 + 1; omega
  | ⟨1, _⟩ => show win0_17.index _ (1 : Fin 2) * 1024 ≤ (i 1).val ∧ (i 1).val < win0_17.index _ (1 : Fin 2) * 1024 + 1024; omega

/-- After the run, `loss` is whole. -/
theorem final_loss : (dats m 0 c).arrAt 17 cfg0.N = whole_loss m c :=
  (dats m 0 c).arrAt_eq_of_cover 17 _ (flushed_loss m c) covered_loss

set_option maxHeartbeats 8000000 in
/-- The pass ends with the eleven arrays as named and its arguments as they were. -/
theorem run_whole : θ_run defs (onTc (τ := τ) (main (F := Ideal))) ⟨m, fun _ => 0, ρ⟩ fun r => ∀ c : Dev nD,
      r.2.mem ((c : Thread nD τ).loc main_v16_0) = whole_dx1 m c
      ∧ r.2.mem ((c : Thread nD τ).loc main_v16_1) = whole_h2b m c
      ∧ r.2.mem ((c : Thread nD τ).loc main_v16_2) = whole_ab m c
      ∧ r.2.mem ((c : Thread nD τ).loc main_v16_3) = whole_dub m c
      ∧ r.2.mem ((c : Thread nD τ).loc main_v16_4) = whole_dmb m c
      ∧ r.2.mem ((c : Thread nD τ).loc main_v16_5) = whole_dsc m c
      ∧ r.2.mem ((c : Thread nD τ).loc main_v16_6) = whole_dsh m c
      ∧ r.2.mem ((c : Thread nD τ).loc main_v16_7) = whole_dg2 m c
      ∧ r.2.mem ((c : Thread nD τ).loc main_v16_8) = whole_dn2 m c
      ∧ r.2.mem ((c : Thread nD τ).loc main_v16_9) = whole_dfg m c
      ∧ r.2.mem ((c : Thread nD τ).loc main_v16_10) = whole_loss m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 7).trans (final_dx1 m c),
      ((h c).1 8).trans (final_h2b m c),
      ((h c).1 9).trans (final_ab m c),
      ((h c).1 10).trans (final_dub m c),
      ((h c).1 11).trans (final_dmb m c),
      ((h c).1 12).trans (final_dsc m c),
      ((h c).1 13).trans (final_dsh m c),
      ((h c).1 14).trans (final_dg2 m c),
      ((h c).1 15).trans (final_dn2 m c),
      ((h c).1 16).trans (final_dfg m c),
      ((h c).1 17).trans (final_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 6).trans (((dats m 0 c).arrAt_in 6 rfl _).trans ((A_eq m c 6).trans (V_main_arg8 m c)))⟩)
    (run_ends m ρ)

end Cert.Mlp

end
-- ==== Proof.MlpValue.lean ====
/-
  The squared-ReLU pass and its reference hold the same: the new rows' gradient, the hidden layer and its gradients, the sums over the rows and the loss.
-/
module

public import proofs.«01_k».proof.Defs
public import proofs.«01_k».proof.Proof.MlpFrames
public import proofs.«01_k».proof.Proof.MlpArrays
public import proofs.«01_k».proof.Proof.Gen.Reference2Ideal.Run

@[expose] public section

set_option maxRecDepth 16384

noncomputable section

namespace Cert.Mlp

open Cert.Kernel2Ideal Cert.Kernel2Ideal.Gen Cert.Reference2Ideal.Read
open Idealize.ShloMosaic Idealize.ShloMosaic.TcCoe Idealize.SL.Sem

/-- The nine arguments, as the reference takes them. -/
structure Same (m : (ℓ : Loc nD τ sig) → Buf (Elt Ideal) ℓ) (c : Dev nD) (x0 : Vec Ideal S4096x1024 .f32) (x1 : Vec Ideal S1x1024 .f32) (x2 : Vec Ideal S1x1024 .f32) (x3 : Vec Ideal S1x1024 .f32) (x4 : Vec Ideal S1x1024 .f32) (x5 : Vec Ideal S1x1024 .f32) (x6 : Vec Ideal S1024x4096 .f32) (x7 : Vec Ideal S4096x1024 .f32) (x8 : Vec Ideal S4096x1024 .f32) : Prop where
  a0 : m ((c : Thread nD τ).loc main_arg0) = x0
  a1 : m ((c : Thread nD τ).loc main_arg1) = x1
  a2 : m ((c : Thread nD τ).loc main_arg2) = x2
  a3 : m ((c : Thread nD τ).loc main_arg3) = x3
  a4 : m ((c : Thread nD τ).loc main_arg4) = x4
  a5 : m ((c : Thread nD τ).loc main_arg5) = x5
  a6 : m ((c : Thread nD τ).loc main_arg6) = x6
  a7 : m ((c : Thread nD τ).loc main_arg7) = x7
  a8 : m ((c : Thread nD τ).loc main_arg8) = x8

variable {m : (ℓ : Loc nD τ sig) → Buf (Elt Ideal) ℓ} {c : Dev nD} {x0 : Vec Ideal S4096x1024 .f32} {x1 : Vec Ideal S1x1024 .f32} {x2 : Vec Ideal S1x1024 .f32} {x3 : Vec Ideal S1x1024 .f32} {x4 : Vec Ideal S1x1024 .f32} {x5 : Vec Ideal S1x1024 .f32} {x6 : Vec Ideal S1024x4096 .f32} {x7 : Vec Ideal S4096x1024 .f32} {x8 : Vec Ideal S4096x1024 .f32}

theorem same_dx1 (h : Same m c x0 x1 x2 x3 x4 x5 x6 x7 x8) : (val_main_v122 (F := Ideal) x0 x1 x2 x3 x4 x5 x6 x7 x8 : Vec Ideal S4096x1024 .f32) = whole_dx1 m c := by
  obtain ⟨rfl, rfl, rfl, rfl, rfl, rfl, rfl, rfl, rfl⟩ := h
  funext i
  obtain ⟨p, q, rfl⟩ : ∃ (p : Fin 4096) (q : Fin 1024), i = ix2 p q := ⟨i 0, i 1, funext fun a => match a with | ⟨0, _⟩ => rfl | ⟨1, _⟩ => rfl⟩
  exact Ref.dx1_at _ _ _ _ _ _ _ _ _ p q

theorem same_h2b (h : Same m c x0 x1 x2 x3 x4 x5 x6 x7 x8) : (val_main_v123 (F := Ideal) x0 x1 x2 x3 : Vec Ideal S4096x1024 .bf16) = whole_h2b m c := by
  obtain ⟨rfl, rfl, rfl, rfl, rfl, rfl, rfl, rfl, rfl⟩ := h
  funext i
  obtain ⟨p, q, rfl⟩ : ∃ (p : Fin 4096) (q : Fin 1024), i = ix2 p q := ⟨i 0, i 1, funext fun a => match a with | ⟨0, _⟩ => rfl | ⟨1, _⟩ => rfl⟩
  exact Ref.h2b_at _ _ _ _ _ _ _ _ _ p q

theorem same_ab (h : Same m c x0 x1 x2 x3 x4 x5 x6 x7 x8) : (val_main_v124 (F := Ideal) x0 x1 x2 x3 x6 : Vec Ideal S4096x4096 .bf16) = whole_ab m c := by
  obtain ⟨rfl, rfl, rfl, rfl, rfl, rfl, rfl, rfl, rfl⟩ := h
  funext i
  obtain ⟨p, q, rfl⟩ : ∃ (p : Fin 4096) (q : Fin 4096), i = ix2 p q := ⟨i 0, i 1, funext fun a => match a with | ⟨0, _⟩ => rfl | ⟨1, _⟩ => rfl⟩
  exact Ref.ab_at _ _ _ _ _ _ _ _ _ p q

theorem same_dub (h : Same m c x0 x1 x2 x3 x4 x5 x6 x7 x8) : (val_main_v125 (F := Ideal) x0 x1 x2 x3 x4 x5 x6 x7 x8 : Vec Ideal S4096x4096 .bf16) = whole_dub m c := by
  obtain ⟨rfl, rfl, rfl, rfl, rfl, rfl, rfl, rfl, rfl⟩ := h
  funext i
  obtain ⟨p, q, rfl⟩ : ∃ (p : Fin 4096) (q : Fin 4096), i = ix2 p q := ⟨i 0, i 1, funext fun a => match a with | ⟨0, _⟩ => rfl | ⟨1, _⟩ => rfl⟩
  exact Ref.dub_at _ _ _ _ _ _ _ _ _ p q

theorem same_dmb (h : Same m c x0 x1 x2 x3 x4 x5 x6 x7 x8) : (val_main_v126 (F := Ideal) x0 x1 x2 x3 x4 x5 x6 x7 x8 : Vec Ideal S4096x1024 .bf16) = whole_dmb m c := by
  obtain ⟨rfl, rfl, rfl, rfl, rfl, rfl, rfl, rfl, rfl⟩ := h
  funext i
  obtain ⟨p, q, rfl⟩ : ∃ (p : Fin 4096) (q : Fin 1024), i = ix2 p q := ⟨i 0, i 1, funext fun a => match a with | ⟨0, _⟩ => rfl | ⟨1, _⟩ => rfl⟩
  exact Ref.dmb_at _ _ _ _ _ _ _ _ _ p q

theorem same_dsc (h : Same m c x0 x1 x2 x3 x4 x5 x6 x7 x8) : (val_main_v100 (F := Ideal) x0 x1 x2 x3 x4 x5 x6 x7 x8 : Vec Ideal S1x1024 .f32) = whole_dsc m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.dsc_at _ _ _ _ _ _ _ _ _ q

theorem same_dsh (h : Same m c x0 x1 x2 x3 x4 x5 x6 x7 x8) : (val_main_v97 (F := Ideal) x0 x1 x2 x3 x4 x5 x6 x7 x8 : Vec Ideal S1x1024 .f32) = whole_dsh m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.dsh_at _ _ _ _ _ _ _ _ _ q

theorem same_dg2 (h : Same m c x0 x1 x2 x3 x4 x5 x6 x7 x8) : (val_main_v90 (F := Ideal) x0 x1 x2 x3 x4 x5 x6 x7 x8 : Vec Ideal S1x1024 .f32) = whole_dg2 m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.dg2_at _ _ _ _ _ _ _ _ _ q

theorem same_dn2 (h : Same m c x0 x1 x2 x3 x4 x5 x6 x7 x8) : (val_main_v105 (F := Ideal) x0 x1 x2 x3 x4 x5 x6 x7 x8 : Vec Ideal S1x1024 .f32) = whole_dn2 m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.dn2_at _ _ _ _ _ _ _ _ _ q

theorem same_dfg (h : Same m c x0 x1 x2 x3 x4 x5 x6 x7 x8) : (val_main_v69 (F := Ideal) x0 x1 x2 x3 x4 x5 x6 x7 x8 : Vec Ideal S1x1024 .f32) = whole_dfg m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.dfg_at _ _ _ _ _ _ _ _ _ q

theorem same_loss (h : Same m c x0 x1 x2 x3 x4 x5 x6 x7 x8) : (val_main_v127 (F := Ideal) x0 x1 x2 x3 x4 x5 x6 x7 x8 : Vec Ideal S1x1024 .f32) = whole_loss m c := by
  obtain ⟨rfl, rfl, rfl, rfl, rfl, rfl, rfl, rfl, rfl⟩ := h
  funext i
  obtain ⟨p, q, rfl⟩ : ∃ (p : Fin 1) (q : Fin 1024), i = ix2 p q := ⟨i 0, i 1, funext fun a => match a with | ⟨0, _⟩ => rfl | ⟨1, _⟩ => rfl⟩
  obtain rfl : p = 0 := Subsingleton.elim _ _
  exact Ref.loss_at _ _ _ _ _ _ _ _ _ q

set_option maxHeartbeats 8000000 in
/-- THE CLAIM: over the reals, the pass and the reference end with the same eleven results. -/
theorem value : Cert.algebraic_Kernel2Ideal_Reference2Ideal := by
  intro m ρ m' ρ' _ hagree
  refine ⟨fun c => whole_dx1 m c, fun c => whole_h2b m c, fun c => whole_ab m c, fun c => whole_dub m c, fun c => whole_dmb m c, fun c => whole_dsc m c, fun c => whole_dsh m c, fun c => whole_dg2 m c, fun c => whole_dn2 m c, fun c => whole_dfg m c, fun c => whole_loss m c, run_whole m ρ, ?_⟩
  refine (θ_run Cert.Reference2Ideal.defs _ _).mono (fun _ h c => ?_) (Cert.Reference2Ideal.Value.run (F := Ideal) m' ρ')
  obtain ⟨g0, g1, g2, g3, g4, g5, g6, g7, g8⟩ := hagree c
  have hs : Same m c _ _ _ _ _ _ _ _ _ := ⟨g0.symm, g1.symm, g2.symm, g3.symm, g4.symm, g5.symm, g6.symm, g7.symm, g8.symm⟩
  obtain ⟨h0, h1, h2, h3, h4, h5, h6, h7, h8, h9, h10, hk⟩ := h c
  exact ⟨h0.trans ((val_main_v122_eq _).trans (same_dx1 hs)),
    h1.trans ((val_main_v123_eq _).trans (same_h2b hs)),
    h2.trans ((val_main_v124_eq _).trans (same_ab hs)),
    h3.trans ((val_main_v125_eq _).trans (same_dub hs)),
    h4.trans ((val_main_v126_eq _).trans (same_dmb hs)),
    h5.trans ((val_main_v100_eq _).trans (same_dsc hs)),
    h6.trans ((val_main_v97_eq _).trans (same_dsh hs)),
    h7.trans ((val_main_v90_eq _).trans (same_dg2 hs)),
    h8.trans ((val_main_v105_eq _).trans (same_dn2 hs)),
    h9.trans ((val_main_v69_eq _).trans (same_dfg hs)),
    h10.trans ((val_main_v127_eq _).trans (same_loss hs)), hk⟩

end Cert.Mlp

end
-- ==== Proof.GradBlock3.lean ====
/-
  The gradient of the first matrix of the squared-ReLU layer: what the kernel's body leaves at its two kinds of point.
-/
module

public import proofs.«01_k».proof.Proof.Gen.Kernel3Ideal.Value
public import Idealize.ShloMosaic.Lib.Pointwise

@[expose] public section

noncomputable section

namespace Cert.Grad3

open Cert.Kernel3Ideal Cert.Kernel3Ideal.Gen Idealize.ShloMosaic Idealize.ShloMosaic.TcCoe

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first half of the rows: the accumulator starts again at their product. -/
theorem first_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : cond0_0 i) (hc1 : ¬cond0_1 i)
    (x0 x1 : Vec Ideal S2048x1024 .bf16) (p : Fin 1024) (q : Fin 1024) :
    (sout0_A_0 c i a2 h2 a3 h3 a4 h4 a5 h5 hc0 hc1 x0 x1 : Vec Ideal S1024x1024 .f32) (ix2 p q)
      = ∑ r : Fin 2048, x0 (ix2 r p) * x1 (ix2 r q) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero zeros2]
  simp only [View.readAt_eq_ld, h2.read_unread, h3.read_unread, View.ld_unit_zero (S := S2048x1024) zeros2,
    View.ld_unit_zero (S := S1024x1024) zeros2, View.readCov_unit_zero (S := S1024x1024) _ zeros2]
  pointwise [k0_pay1, k0_pay2]

/-- The second half: its product is added, and the sum is the block written. -/
theorem second_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : ¬cond0_0 i) (hc1 : cond0_1 i)
    (x0 x1 : Vec Ideal S2048x1024 .bf16) (acc : Vec Ideal S1024x1024 .f32) (p : Fin 1024) (q : Fin 1024) :
    (out0_B_2 c i a2 h2 a3 h3 a4 h4 a5 h5 hc0 hc1 x0 x1 acc : Vec Ideal S1x1024x1024 .f32) (ix3 0 p q)
      = acc (ix2 p q) + ∑ r : Fin 2048, x0 (ix2 r p) * x1 (ix2 r q) := by
  unfold out0_B_2
  rw [View.read_writes_eq_canon _ _ _ (cover0_B_2 c i a2 h2 a3 h3 a4 h4 a5 h5 hc0 hc1 x0 x1 acc)]
  unfold kernelRun0_B
  dsimp only
  sl_unfold_words
  rw [View.canon_cons_unit_zero zeros3]
  simp only [View.readAt_eq_ld, h2.read_unread, h3.read_unread, h5.read_unread, View.ld_unit_zero (S := S2048x1024) zeros2,
    View.ld_unit_zero (S := S1024x1024) zeros2, View.readCov_unit_zero (S := S1024x1024) _ zeros2]
  pointwise [k0_pay2, k0_pay3]

end Cert.Grad3

end
-- ==== Proof.GradValue3.lean ====
/-
  The gradient of the first matrix of the squared-ReLU layer, whole: the two halves of the rows together are the sum over
  all rows, which is what the derivative of the product by its matrix holds.
-/
module

public import proofs.«01_k».proof.Defs
public import proofs.«01_k».proof.Proof.GradBlock3
public import proofs.«01_k».proof.Proof.Gen.Kernel3.Frame
public import proofs.«01_k».proof.Proof.Gen.Reference3Ideal.Run
public import proofs.«01_k».proof.Proof.Gen.Reference3Ideal.Read
public import Idealize.ShloMosaic.Lib.Quiescent

@[expose] public section

noncomputable section

namespace Cert.Grad3

open Cert.Kernel3Ideal Cert.Kernel3Ideal.Gen Idealize.ShloMosaic Idealize.ShloMosaic.TcCoe Idealize.SL.Sem

/-- A sum over the 4096 rows, in two halves. -/
theorem sum_halves (f : Fin 4096 → EReal) :
    (∑ r : Fin 2048, f ⟨r.val, by omega⟩) + (∑ r : Fin 2048, f ⟨2048 + r.val, by omega⟩) = ∑ l : Fin 4096, f l :=
  (Fin.sum_univ_add (a := 2048) (b := 2048) f).symm

variable (m : (ℓ : Loc nD τ sig) → Buf (Elt Ideal) ℓ)

/-- The point of column block `j` and half `k` of the rows. -/
def pt (j : Fin 4) (k : Fin 2) : Fin cfg0.N := ⟨2 * j.val + k.val, lt_of_lt_of_eq (by omega) N_0.symm⟩

/-- The left operand's block at a point. -/
theorem left_at (c : Dev nD) (j : Fin 4) (k : Fin 2) (r : Fin 2048) (p : Fin 1024) (l : Fin 4096) (p' : Fin 1024)
    (hl : l.val = 2048 * k.val + r.val) (hp : p'.val = p.val) :
    (iblk m c 0 (pt j k) : Vec Ideal S2048x1024 .bf16) (ix2 r p) = (m ((c : Thread nD τ).loc main_arg0) : Vec Ideal S4096x1024 .bf16) (ix2 l p') := by
  refine Eq.trans ?_ (congrFun (V_main_arg0 m c) _)
  refine congrArg (V m c main_arg0) (funext fun a => Fin.ext ?_)
  have hi : ∀ (j : Fin 4) (k : Fin 2), win0_0.index (pt j k) 0 = k.val ∧ win0_0.index (pt j k) 1 = 0 := by decide +kernel
  obtain ⟨h0, h1⟩ := hi j k
  match a with
  | ⟨0, _⟩ => show win0_0.index (pt j k) 0 * 2048 + 1 * r.val = l.val; omega
  | ⟨1, _⟩ => show win0_0.index (pt j k) 1 * 1024 + 1 * p.val = p'.val; omega

/-- The right operand's block at a point. -/
theorem right_at (c : Dev nD) (j : Fin 4) (k : Fin 2) (r : Fin 2048) (q : Fin 1024) (l : Fin 4096) (q' : Fin 4096)
    (hl : l.val = 2048 * k.val + r.val) (hq : q'.val = 1024 * j.val + q.val) :
    (iblk m c 1 (pt j k) : Vec Ideal S2048x1024 .bf16) (ix2 r q) = (m ((c : Thread nD τ).loc main_arg1) : Vec Ideal S4096x4096 .bf16) (ix2 l q') := by
  refine Eq.trans ?_ (congrFun (V_main_arg1 m c) _)
  refine congrArg (V m c main_arg1) (funext fun a => Fin.ext ?_)
  have hi : ∀ (j : Fin 4) (k : Fin 2), win0_1.index (pt j k) 0 = k.val ∧ win0_1.index (pt j k) 1 = j.val := by decide +kernel
  obtain ⟨h0, h1⟩ := hi j k
  match a with
  | ⟨0, _⟩ => show win0_1.index (pt j k) 0 * 2048 + 1 * r.val = l.val; omega
  | ⟨1, _⟩ => show win0_1.index (pt j k) 1 * 1024 + 1 * q.val = q'.val; omega

/-- The two arguments, named. -/
structure Args (c : Dev nD) (x0 : Vec Ideal S4096x1024 .bf16) (x1 : Vec Ideal S4096x4096 .bf16) : Prop where
  left : m ((c : Thread nD τ).loc main_arg0) = x0
  right : m ((c : Thread nD τ).loc main_arg1) = x1

variable {m}

/-- What the block of column block `j` holds once both its points have run. -/
theorem block_at {c : Dev nD} {x0 : Vec Ideal S4096x1024 .bf16} {x1 : Vec Ideal S4096x4096 .bf16} (h : Args m c x0 x1) (j : Fin 4) (p q : Fin 1024) :
    ((outsAt0 m c (pt j 1).val (pt j 1).isLt).1 : Vec Ideal S1x1024x1024 .f32) (ix3 0 p q)
      = ∑ l : Fin 4096, x0 (ix2 l p) * x1 (ix2 l ⟨j.val * 1024 + q.val, by omega⟩) := by
  obtain ⟨rfl, rfl⟩ := h
  have e0 : (pt j 0).val % 2 = 0 := by show (2 * j.val + 0) % 2 = 0; omega
  have e1 : (pt j 1).val % 2 = 1 := by show (2 * j.val + 1) % 2 = 1; omega
  rw [outsAt0_B m c (pt j 1) (by omega) e1]
  have hp : outsAt0 m c ((pt j 1).val - 1) (Nat.lt_of_le_of_lt (Nat.sub_le _ _) (pt j 1).isLt) = outsAt0 m c (pt j 0).val (pt j 0).isLt := rfl
  rw [hp, outsAt0_A m c (pt j 0) e0 (by omega)]
  dsimp only
  refine (second_half ..).trans ?_
  refine Eq.trans ?_ (sum_halves _)
  refine congrArg₂ (fun a b : EReal => a + b) ((first_half ..).trans ?_) ?_ <;>
    refine Finset.sum_congr rfl fun r _ => congrArg₂ (fun a b : EReal => a * b) ?_ ?_
  · exact left_at m c j 0 r p _ _ (by show r.val = 2048 * 0 + r.val; omega) rfl
  · exact right_at m c j 0 r q _ _ (by show r.val = 2048 * 0 + r.val; omega) (by show j.val * 1024 + q.val = 1024 * j.val + q.val; omega)
  · exact left_at m c j 1 r p _ _ (by show 2048 + r.val = 2048 * 1 + r.val; omega) rfl
  · exact right_at m c j 1 r q _ _ (by show 2048 + r.val = 2048 * 1 + r.val; omega) (by show j.val * 1024 + q.val = 1024 * j.val + q.val; omega)

/-- The kernel's result at an index. -/
theorem kernel_at {c : Dev nD} {x0 : Vec Ideal S4096x1024 .bf16} {x1 : Vec Ideal S4096x4096 .bf16} (h : Args m c x0 x1) (j : Fin 4) (p q : Fin 1024) :
    (Value.G2 m c : Vec Ideal S4x1024x1024 .f32) (ix3 j p q)
      = ∑ l : Fin 4096, x0 (ix2 l p) * x1 (ix2 l ⟨j.val * 1024 + q.val, by omega⟩) := by
  have hr : Value.pt2Of (ix3 j p q) = (pt j 1).val := by
    show 2 * (1 * (j.val / 1 - 0) + 1 * (p.val / 1024 - 0) + 1 * (q.val / 1024 - 0)) + 1 = 2 * j.val + 1
    omega
  have hl : Value.loc2Of (ix3 j p q) = ix3 0 p q := by
    funext a; apply Fin.ext
    match a with
    | ⟨0, _⟩ => show j.val % 1 = 0; omega
    | ⟨1, _⟩ => show p.val % 1024 = p.val; omega
    | ⟨2, _⟩ => show q.val % 1024 = q.val; omega
  refine Eq.trans ?_ (block_at h j p q)
  show Value.G2 m c (ix3 j p q) = _
  unfold Value.G2
  rw [dif_pos (by rw [hr]; exact (pt j 1).isLt), hl, Value.outsAt0_sweep,
    Value.fold0_congr m c _ _ _ (by have := (pt j 1).isLt; omega) hr]

/-- The reference's result at an index. -/
theorem reference_at (x0 : Vec Ideal S4096x1024 .bf16) (x1 : Vec Ideal S4096x4096 .bf16) (j : Fin 4) (p q : Fin 1024) :
    (Cert.Reference3Ideal.Read.val_main_v7 (F := Ideal) x0 x1 : Vec Ideal S4x1024x1024 .f32) (ix3 j p q)
      = ∑ l : Fin 4096, x1 (ix2 l ⟨j.val * 1024 + q.val, by omega⟩) * x0 (ix2 l p) := by
  open Cert.Reference3Ideal.Read in
  pointwise [val_main_v7, val_main_v6, val_main_v5, val_main_v4, val_main_v3, val_main_v1]

/-- The two results are one array. -/
theorem eq {c : Dev nD} {x0 : Vec Ideal S4096x1024 .bf16} {x1 : Vec Ideal S4096x4096 .bf16} (h : Args m c x0 x1) :
    Value.G2 m c = Cert.Reference3Ideal.Read.val_main_v7 (F := Ideal) x0 x1 := by
  funext i
  obtain ⟨j, p, q, rfl⟩ : ∃ (j : Fin 4) (p q : Fin 1024), i = ix3 j p q :=
    ⟨i 0, i 1, i 2, funext fun a => match a with | ⟨0, _⟩ => rfl | ⟨1, _⟩ => rfl | ⟨2, _⟩ => rfl⟩
  exact (kernel_at h j p q).trans ((Finset.sum_congr rfl fun l _ => mul_comm _ _).trans (reference_at x0 x1 j p q).symm)

/-- The kernel runs, leaves its arguments and every semaphore as they were. -/
theorem frame_kernel : Cert.quiescent_Kernel3 := fun m ρ _ => Cert.Kernel3.Gen.frame m ρ

/-- The same of the kernel read over the extended reals. -/
theorem frame_ideal : Cert.quiescent_Kernel3Ideal := fun m ρ _ => Cert.Kernel3Ideal.Gen.frame m ρ

/-- The reference runs and leaves its arguments as they were; it has no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Over the extended reals the kernel's result is the derivative. -/
theorem value : Cert.algebraic_Kernel3Ideal_Reference3Ideal := by
  intro m ρ m' ρ' _ hagree
  refine ⟨fun c => Value.G2 m c, Value.run (F := Ideal) m ρ, ?_⟩
  refine (θ_run Cert.Reference3Ideal.defs _ _).mono (fun _ h c => ?_) (Cert.Reference3Ideal.Value.run (F := Ideal) m' ρ')
  refine ⟨(h c).1.trans ((Cert.Reference3Ideal.Read.val_main_v7_eq _ _).trans (eq ⟨?_, ?_⟩).symm), (h c).2⟩
  · exact (hagree c).1.symm
  · exact (hagree c).2.symm

end Cert.Grad3

end
-- ==== Proof.GradBlock4.lean ====
/-
  The gradient of the second matrix of the squared-ReLU layer: what the kernel's body leaves at its two kinds of point.
-/
module

public import proofs.«01_k».proof.Proof.Gen.Kernel4Ideal.Value
public import Idealize.ShloMosaic.Lib.Pointwise

@[expose] public section

noncomputable section

namespace Cert.Grad4

open Cert.Kernel4Ideal Cert.Kernel4Ideal.Gen Idealize.ShloMosaic Idealize.ShloMosaic.TcCoe

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first half of the rows: the accumulator starts again at their product. -/
theorem first_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : cond0_0 i) (hc1 : ¬cond0_1 i)
    (x0 x1 : Vec Ideal S2048x1024 .bf16) (p : Fin 1024) (q : Fin 1024) :
    (sout0_A_0 c i a2 h2 a3 h3 a4 h4 a5 h5 hc0 hc1 x0 x1 : Vec Ideal S1024x1024 .f32) (ix2 p q)
      = ∑ r : Fin 2048, x0 (ix2 r p) * x1 (ix2 r q) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero zeros2]
  simp only [View.readAt_eq_ld, h2.read_unread, h3.read_unread, View.ld_unit_zero (S := S2048x1024) zeros2,
    View.ld_unit_zero (S := S1024x1024) zeros2, View.readCov_unit_zero (S := S1024x1024) _ zeros2]
  pointwise [k0_pay1, k0_pay2]

/-- The second half: its product is added, and the sum is the block written. -/
theorem second_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : ¬cond0_0 i) (hc1 : cond0_1 i)
    (x0 x1 : Vec Ideal S2048x1024 .bf16) (acc : Vec Ideal S1024x1024 .f32) (p : Fin 1024) (q : Fin 1024) :
    (out0_B_2 c i a2 h2 a3 h3 a4 h4 a5 h5 hc0 hc1 x0 x1 acc : Vec Ideal S1x1024x1024 .f32) (ix3 0 p q)
      = acc (ix2 p q) + ∑ r : Fin 2048, x0 (ix2 r p) * x1 (ix2 r q) := by
  unfold out0_B_2
  rw [View.read_writes_eq_canon _ _ _ (cover0_B_2 c i a2 h2 a3 h3 a4 h4 a5 h5 hc0 hc1 x0 x1 acc)]
  unfold kernelRun0_B
  dsimp only
  sl_unfold_words
  rw [View.canon_cons_unit_zero zeros3]
  simp only [View.readAt_eq_ld, h2.read_unread, h3.read_unread, h5.read_unread, View.ld_unit_zero (S := S2048x1024) zeros2,
    View.ld_unit_zero (S := S1024x1024) zeros2, View.readCov_unit_zero (S := S1024x1024) _ zeros2]
  pointwise [k0_pay2, k0_pay3]

end Cert.Grad4

end
-- ==== Proof.GradValue4.lean ====
/-
  The gradient of the second matrix of the squared-ReLU layer, whole: the two halves of the rows together are the sum over
  all rows, which is what the derivative of the product by its matrix holds.
-/
module

public import proofs.«01_k».proof.Defs
public import proofs.«01_k».proof.Proof.GradBlock4
public import proofs.«01_k».proof.Proof.Gen.Kernel4.Frame
public import proofs.«01_k».proof.Proof.Gen.Reference4Ideal.Run
public import proofs.«01_k».proof.Proof.Gen.Reference4Ideal.Read
public import Idealize.ShloMosaic.Lib.Quiescent

@[expose] public section

noncomputable section

namespace Cert.Grad4

open Cert.Kernel4Ideal Cert.Kernel4Ideal.Gen Idealize.ShloMosaic Idealize.ShloMosaic.TcCoe Idealize.SL.Sem

/-- A sum over the 4096 rows, in two halves. -/
theorem sum_halves (f : Fin 4096 → EReal) :
    (∑ r : Fin 2048, f ⟨r.val, by omega⟩) + (∑ r : Fin 2048, f ⟨2048 + r.val, by omega⟩) = ∑ l : Fin 4096, f l :=
  (Fin.sum_univ_add (a := 2048) (b := 2048) f).symm

variable (m : (ℓ : Loc nD τ sig) → Buf (Elt Ideal) ℓ)

/-- The point of column block `j` and half `k` of the rows. -/
def pt (j : Fin 4) (k : Fin 2) : Fin cfg0.N := ⟨2 * j.val + k.val, lt_of_lt_of_eq (by omega) N_0.symm⟩

/-- The left operand's block at a point. -/
theorem left_at (c : Dev nD) (j : Fin 4) (k : Fin 2) (r : Fin 2048) (p : Fin 1024) (l : Fin 4096) (p' : Fin 4096)
    (hl : l.val = 2048 * k.val + r.val) (hp : p'.val = 1024 * j.val + p.val) :
    (iblk m c 0 (pt j k) : Vec Ideal S2048x1024 .bf16) (ix2 r p) = (m ((c : Thread nD τ).loc main_arg0) : Vec Ideal S4096x4096 .bf16) (ix2 l p') := by
  refine Eq.trans ?_ (congrFun (V_main_arg0 m c) _)
  refine congrArg (V m c main_arg0) (funext fun a => Fin.ext ?_)
  have hi : ∀ (j : Fin 4) (k : Fin 2), win0_0.index (pt j k) 0 = k.val ∧ win0_0.index (pt j k) 1 = j.val := by decide +kernel
  obtain ⟨h0, h1⟩ := hi j k
  match a with
  | ⟨0, _⟩ => show win0_0.index (pt j k) 0 * 2048 + 1 * r.val = l.val; omega
  | ⟨1, _⟩ => show win0_0.index (pt j k) 1 * 1024 + 1 * p.val = p'.val; omega

/-- The right operand's block at a point. -/
theorem right_at (c : Dev nD) (j : Fin 4) (k : Fin 2) (r : Fin 2048) (q : Fin 1024) (l : Fin 4096) (q' : Fin 1024)
    (hl : l.val = 2048 * k.val + r.val) (hq : q'.val = q.val) :
    (iblk m c 1 (pt j k) : Vec Ideal S2048x1024 .bf16) (ix2 r q) = (m ((c : Thread nD τ).loc main_arg1) : Vec Ideal S4096x1024 .bf16) (ix2 l q') := by
  refine Eq.trans ?_ (congrFun (V_main_arg1 m c) _)
  refine congrArg (V m c main_arg1) (funext fun a => Fin.ext ?_)
  have hi : ∀ (j : Fin 4) (k : Fin 2), win0_1.index (pt j k) 0 = k.val ∧ win0_1.index (pt j k) 1 = 0 := by decide +kernel
  obtain ⟨h0, h1⟩ := hi j k
  match a with
  | ⟨0, _⟩ => show win0_1.index (pt j k) 0 * 2048 + 1 * r.val = l.val; omega
  | ⟨1, _⟩ => show win0_1.index (pt j k) 1 * 1024 + 1 * q.val = q'.val; omega

/-- The two arguments, named. -/
structure Args (c : Dev nD) (x0 : Vec Ideal S4096x4096 .bf16) (x1 : Vec Ideal S4096x1024 .bf16) : Prop where
  left : m ((c : Thread nD τ).loc main_arg0) = x0
  right : m ((c : Thread nD τ).loc main_arg1) = x1

variable {m}

/-- What the block of column block `j` holds once both its points have run. -/
theorem block_at {c : Dev nD} {x0 : Vec Ideal S4096x4096 .bf16} {x1 : Vec Ideal S4096x1024 .bf16} (h : Args m c x0 x1) (j : Fin 4) (p q : Fin 1024) :
    ((outsAt0 m c (pt j 1).val (pt j 1).isLt).1 : Vec Ideal S1x1024x1024 .f32) (ix3 0 p q)
      = ∑ l : Fin 4096, x0 (ix2 l ⟨j.val * 1024 + p.val, by omega⟩) * x1 (ix2 l q) := by
  obtain ⟨rfl, rfl⟩ := h
  have e0 : (pt j 0).val % 2 = 0 := by show (2 * j.val + 0) % 2 = 0; omega
  have e1 : (pt j 1).val % 2 = 1 := by show (2 * j.val + 1) % 2 = 1; omega
  rw [outsAt0_B m c (pt j 1) (by omega) e1]
  have hp : outsAt0 m c ((pt j 1).val - 1) (Nat.lt_of_le_of_lt (Nat.sub_le _ _) (pt j 1).isLt) = outsAt0 m c (pt j 0).val (pt j 0).isLt := rfl
  rw [hp, outsAt0_A m c (pt j 0) e0 (by omega)]
  dsimp only
  refine (second_half ..).trans ?_
  refine Eq.trans ?_ (sum_halves _)
  refine congrArg₂ (fun a b : EReal => a + b) ((first_half ..).trans ?_) ?_ <;>
    refine Finset.sum_congr rfl fun r _ => congrArg₂ (fun a b : EReal => a * b) ?_ ?_
  · exact left_at m c j 0 r p _ _ (by show r.val = 2048 * 0 + r.val; omega) (by show j.val * 1024 + p.val = 1024 * j.val + p.val; omega)
  · exact right_at m c j 0 r q _ _ (by show r.val = 2048 * 0 + r.val; omega) rfl
  · exact left_at m c j 1 r p _ _ (by show 2048 + r.val = 2048 * 1 + r.val; omega) (by show j.val * 1024 + p.val = 1024 * j.val + p.val; omega)
  · exact right_at m c j 1 r q _ _ (by show 2048 + r.val = 2048 * 1 + r.val; omega) rfl

/-- The kernel's result at an index. -/
theorem kernel_at {c : Dev nD} {x0 : Vec Ideal S4096x4096 .bf16} {x1 : Vec Ideal S4096x1024 .bf16} (h : Args m c x0 x1) (j : Fin 4) (p q : Fin 1024) :
    (Value.G2 m c : Vec Ideal S4x1024x1024 .f32) (ix3 j p q)
      = ∑ l : Fin 4096, x0 (ix2 l ⟨j.val * 1024 + p.val, by omega⟩) * x1 (ix2 l q) := by
  have hr : Value.pt2Of (ix3 j p q) = (pt j 1).val := by
    show 2 * (1 * (j.val / 1 - 0) + 1 * (p.val / 1024 - 0) + 1 * (q.val / 1024 - 0)) + 1 = 2 * j.val + 1
    omega
  have hl : Value.loc2Of (ix3 j p q) = ix3 0 p q := by
    funext a; apply Fin.ext
    match a with
    | ⟨0, _⟩ => show j.val % 1 = 0; omega
    | ⟨1, _⟩ => show p.val % 1024 = p.val; omega
    | ⟨2, _⟩ => show q.val % 1024 = q.val; omega
  refine Eq.trans ?_ (block_at h j p q)
  show Value.G2 m c (ix3 j p q) = _
  unfold Value.G2
  rw [dif_pos (by rw [hr]; exact (pt j 1).isLt), hl, Value.outsAt0_sweep,
    Value.fold0_congr m c _ _ _ (by have := (pt j 1).isLt; omega) hr]

/-- The reference's result at an index. -/
theorem reference_at (x0 : Vec Ideal S4096x4096 .bf16) (x1 : Vec Ideal S4096x1024 .bf16) (j : Fin 4) (p q : Fin 1024) :
    (Cert.Reference4Ideal.Read.val_main_v6 (F := Ideal) x0 x1 : Vec Ideal S4x1024x1024 .f32) (ix3 j p q)
      = ∑ l : Fin 4096, x1 (ix2 l q) * x0 (ix2 l ⟨j.val * 1024 + p.val, by omega⟩) := by
  open Cert.Reference4Ideal.Read in
  pointwise [val_main_v6, val_main_v5, val_main_v4, val_main_v3, val_main_v1]

/-- The two results are one array. -/
theorem eq {c : Dev nD} {x0 : Vec Ideal S4096x4096 .bf16} {x1 : Vec Ideal S4096x1024 .bf16} (h : Args m c x0 x1) :
    Value.G2 m c = Cert.Reference4Ideal.Read.val_main_v6 (F := Ideal) x0 x1 := by
  funext i
  obtain ⟨j, p, q, rfl⟩ : ∃ (j : Fin 4) (p q : Fin 1024), i = ix3 j p q :=
    ⟨i 0, i 1, i 2, funext fun a => match a with | ⟨0, _⟩ => rfl | ⟨1, _⟩ => rfl | ⟨2, _⟩ => rfl⟩
  exact (kernel_at h j p q).trans ((Finset.sum_congr rfl fun l _ => mul_comm _ _).trans (reference_at x0 x1 j p q).symm)

/-- The kernel runs, leaves its arguments and every semaphore as they were. -/
theorem frame_kernel : Cert.quiescent_Kernel4 := fun m ρ _ => Cert.Kernel4.Gen.frame m ρ

/-- The same of the kernel read over the extended reals. -/
theorem frame_ideal : Cert.quiescent_Kernel4Ideal := fun m ρ _ => Cert.Kernel4Ideal.Gen.frame m ρ

/-- The reference runs and leaves its arguments as they were; it has no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Over the extended reals the kernel's result is the derivative. -/
theorem value : Cert.algebraic_Kernel4Ideal_Reference4Ideal := by
  intro m ρ m' ρ' _ hagree
  refine ⟨fun c => Value.G2 m c, Value.run (F := Ideal) m ρ, ?_⟩
  refine (θ_run Cert.Reference4Ideal.defs _ _).mono (fun _ h c => ?_) (Cert.Reference4Ideal.Value.run (F := Ideal) m' ρ')
  refine ⟨(h c).1.trans ((Cert.Reference4Ideal.Read.val_main_v6_eq _ _).trans (eq ⟨?_, ?_⟩).symm), (h c).2⟩
  · exact (hagree c).1.symm
  · exact (hagree c).2.symm

end Cert.Grad4

end
-- ==== Proof.GradBlock5.lean ====
/-
  The gradient of the output projection: what the kernel's body leaves at its two kinds of point.
-/
module

public import proofs.«01_k».proof.Proof.Gen.Kernel5Ideal.Value
public import Idealize.ShloMosaic.Lib.Pointwise

@[expose] public section

noncomputable section

namespace Cert.Grad5

open Cert.Kernel5Ideal Cert.Kernel5Ideal.Gen Idealize.ShloMosaic Idealize.ShloMosaic.TcCoe

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first half of the rows: the accumulator starts again at their product. -/
theorem first_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : cond0_0 i) (hc1 : ¬cond0_1 i)
    (x0 x1 : Vec Ideal S2048x1024 .bf16) (p : Fin 1024) (q : Fin 1024) :
    (sout0_A_0 c i a2 h2 a3 h3 a4 h4 a5 h5 hc0 hc1 x0 x1 : Vec Ideal S1024x1024 .f32) (ix2 p q)
      = ∑ r : Fin 2048, x0 (ix2 r p) * x1 (ix2 r q) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero zeros2]
  simp only [View.readAt_eq_ld, h2.read_unread, h3.read_unread, View.ld_unit_zero (S := S2048x1024) zeros2,
    View.ld_unit_zero (S := S1024x1024) zeros2, View.readCov_unit_zero (S := S1024x1024) _ zeros2]
  pointwise [k0_pay1, k0_pay2]

/-- The second half: its product is added, and the sum is the block written. -/
theorem second_half (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1024x1024 .f32) (h5 : a5.IsWhole) (hc0 : ¬cond0_0 i) (hc1 : cond0_1 i)
    (x0 x1 : Vec Ideal S2048x1024 .bf16) (acc : Vec Ideal S1024x1024 .f32) (p : Fin 1024) (q : Fin 1024) :
    (out0_B_2 c i a2 h2 a3 h3 a4 h4 a5 h5 hc0 hc1 x0 x1 acc : Vec Ideal S1x1024x1024 .f32) (ix3 0 p q)
      = acc (ix2 p q) + ∑ r : Fin 2048, x0 (ix2 r p) * x1 (ix2 r q) := by
  unfold out0_B_2
  rw [View.read_writes_eq_canon _ _ _ (cover0_B_2 c i a2 h2 a3 h3 a4 h4 a5 h5 hc0 hc1 x0 x1 acc)]
  unfold kernelRun0_B
  dsimp only
  sl_unfold_words
  rw [View.canon_cons_unit_zero zeros3]
  simp only [View.readAt_eq_ld, h2.read_unread, h3.read_unread, h5.read_unread, View.ld_unit_zero (S := S2048x1024) zeros2,
    View.ld_unit_zero (S := S1024x1024) zeros2, View.readCov_unit_zero (S := S1024x1024) _ zeros2]
  pointwise [k0_pay2, k0_pay3]

end Cert.Grad5

end
-- ==== Proof.GradValue5.lean ====
/-
  The gradient of the output projection, whole: the two halves of the rows together are the sum over
  all rows, which is what the derivative of the product by its matrix holds.
-/
module

public import proofs.«01_k».proof.Defs
public import proofs.«01_k».proof.Proof.GradBlock5
public import proofs.«01_k».proof.Proof.Gen.Kernel5.Frame
public import proofs.«01_k».proof.Proof.Gen.Reference5Ideal.Run
public import proofs.«01_k».proof.Proof.Gen.Reference5Ideal.Read
public import Idealize.ShloMosaic.Lib.Quiescent

@[expose] public section

noncomputable section

namespace Cert.Grad5

open Cert.Kernel5Ideal Cert.Kernel5Ideal.Gen Idealize.ShloMosaic Idealize.ShloMosaic.TcCoe Idealize.SL.Sem

/-- A sum over the 4096 rows, in two halves. -/
theorem sum_halves (f : Fin 4096 → EReal) :
    (∑ r : Fin 2048, f ⟨r.val, by omega⟩) + (∑ r : Fin 2048, f ⟨2048 + r.val, by omega⟩) = ∑ l : Fin 4096, f l :=
  (Fin.sum_univ_add (a := 2048) (b := 2048) f).symm

variable (m : (ℓ : Loc nD τ sig) → Buf (Elt Ideal) ℓ)

/-- The point of column block `j` and half `k` of the rows. -/
def pt (j : Fin 1) (k : Fin 2) : Fin cfg0.N := ⟨2 * j.val + k.val, lt_of_lt_of_eq (by omega) N_0.symm⟩

/-- The left operand's block at a point. -/
theorem left_at (c : Dev nD) (j : Fin 1) (k : Fin 2) (r : Fin 2048) (p : Fin 1024) (l : Fin 4096) (p' : Fin 1024)
    (hl : l.val = 2048 * k.val + r.val) (hp : p'.val = p.val) :
    (iblk m c 0 (pt j k) : Vec Ideal S2048x1024 .bf16) (ix2 r p) = (m ((c : Thread nD τ).loc main_arg0) : Vec Ideal S4096x1024 .bf16) (ix2 l p') := by
  refine Eq.trans ?_ (congrFun (V_main_arg0 m c) _)
  refine congrArg (V m c main_arg0) (funext fun a => Fin.ext ?_)
  have hi : ∀ (j : Fin 1) (k : Fin 2), win0_0.index (pt j k) 0 = k.val ∧ win0_0.index (pt j k) 1 = 0 := by decide +kernel
  obtain ⟨h0, h1⟩ := hi j k
  match a with
  | ⟨0, _⟩ => show win0_0.index (pt j k) 0 * 2048 + 1 * r.val = l.val; omega
  | ⟨1, _⟩ => show win0_0.index (pt j k) 1 * 1024 + 1 * p.val = p'.val; omega

/-- The right operand's block at a point. -/
theorem right_at (c : Dev nD) (j : Fin 1) (k : Fin 2) (r : Fin 2048) (q : Fin 1024) (l : Fin 4096) (q' : Fin 1024)
    (hl : l.val = 2048 * k.val + r.val) (hq : q'.val = q.val) :
    (iblk m c 1 (pt j k) : Vec Ideal S2048x1024 .bf16) (ix2 r q) = (m ((c : Thread nD τ).loc main_arg1) : Vec Ideal S4096x1024 .bf16) (ix2 l q') := by
  refine Eq.trans ?_ (congrFun (V_main_arg1 m c) _)
  refine congrArg (V m c main_arg1) (funext fun a => Fin.ext ?_)
  have hi : ∀ (j : Fin 1) (k : Fin 2), win0_1.index (pt j k) 0 = k.val ∧ win0_1.index (pt j k) 1 = 0 := by decide +kernel
  obtain ⟨h0, h1⟩ := hi j k
  match a with
  | ⟨0, _⟩ => show win0_1.index (pt j k) 0 * 2048 + 1 * r.val = l.val; omega
  | ⟨1, _⟩ => show win0_1.index (pt j k) 1 * 1024 + 1 * q.val = q'.val; omega

/-- The two arguments, named. -/
structure Args (c : Dev nD) (x0 : Vec Ideal S4096x1024 .bf16) (x1 : Vec Ideal S4096x1024 .bf16) : Prop where
  left : m ((c : Thread nD τ).loc main_arg0) = x0
  right : m ((c : Thread nD τ).loc main_arg1) = x1

variable {m}

/-- What the block of column block `j` holds once both its points have run. -/
theorem block_at {c : Dev nD} {x0 : Vec Ideal S4096x1024 .bf16} {x1 : Vec Ideal S4096x1024 .bf16} (h : Args m c x0 x1) (j : Fin 1) (p q : Fin 1024) :
    ((outsAt0 m c (pt j 1).val (pt j 1).isLt).1 : Vec Ideal S1x1024x1024 .f32) (ix3 0 p q)
      = ∑ l : Fin 4096, x0 (ix2 l p) * x1 (ix2 l q) := by
  obtain ⟨rfl, rfl⟩ := h
  have e0 : (pt j 0).val % 2 = 0 := by show (2 * j.val + 0) % 2 = 0; omega
  have e1 : (pt j 1).val % 2 = 1 := by show (2 * j.val + 1) % 2 = 1; omega
  rw [outsAt0_B m c (pt j 1) (by omega) e1]
  have hp : outsAt0 m c ((pt j 1).val - 1) (Nat.lt_of_le_of_lt (Nat.sub_le _ _) (pt j 1).isLt) = outsAt0 m c (pt j 0).val (pt j 0).isLt := rfl
  rw [hp, outsAt0_A m c (pt j 0) e0 (by omega)]
  dsimp only
  refine (second_half ..).trans ?_
  refine Eq.trans ?_ (sum_halves _)
  refine congrArg₂ (fun a b : EReal => a + b) ((first_half ..).trans ?_) ?_ <;>
    refine Finset.sum_congr rfl fun r _ => congrArg₂ (fun a b : EReal => a * b) ?_ ?_
  · exact left_at m c j 0 r p _ _ (by show r.val = 2048 * 0 + r.val; omega) rfl
  · exact right_at m c j 0 r q _ _ (by show r.val = 2048 * 0 + r.val; omega) rfl
  · exact left_at m c j 1 r p _ _ (by show 2048 + r.val = 2048 * 1 + r.val; omega) rfl
  · exact right_at m c j 1 r q _ _ (by show 2048 + r.val = 2048 * 1 + r.val; omega) rfl

/-- The kernel's result at an index. -/
theorem kernel_at {c : Dev nD} {x0 : Vec Ideal S4096x1024 .bf16} {x1 : Vec Ideal S4096x1024 .bf16} (h : Args m c x0 x1) (j : Fin 1) (p q : Fin 1024) :
    (Value.G2 m c : Vec Ideal S1x1024x1024 .f32) (ix3 j p q)
      = ∑ l : Fin 4096, x0 (ix2 l p) * x1 (ix2 l q) := by
  have hr : Value.pt2Of (ix3 j p q) = (pt j 1).val := by
    show 2 * (1 * (j.val / 1 - 0) + 1 * (p.val / 1024 - 0) + 1 * (q.val / 1024 - 0)) + 1 = 2 * j.val + 1
    omega
  have hl : Value.loc2Of (ix3 j p q) = ix3 0 p q := by
    funext a; apply Fin.ext
    match a with
    | ⟨0, _⟩ => show j.val % 1 = 0; omega
    | ⟨1, _⟩ => show p.val % 1024 = p.val; omega
    | ⟨2, _⟩ => show q.val % 1024 = q.val; omega
  refine Eq.trans ?_ (block_at h j p q)
  show Value.G2 m c (ix3 j p q) = _
  unfold Value.G2
  rw [dif_pos (by rw [hr]; exact (pt j 1).isLt), hl, Value.outsAt0_sweep,
    Value.fold0_congr m c _ _ _ (by have := (pt j 1).isLt; omega) hr]

/-- The reference's result at an index. -/
theorem reference_at (x0 : Vec Ideal S4096x1024 .bf16) (x1 : Vec Ideal S4096x1024 .bf16) (j : Fin 1) (p q : Fin 1024) :
    (Cert.Reference5Ideal.Read.val_main_v6 (F := Ideal) x0 x1 : Vec Ideal S1x1024x1024 .f32) (ix3 j p q)
      = ∑ l : Fin 4096, x1 (ix2 l q) * x0 (ix2 l p) := by
  open Cert.Reference5Ideal.Read in
  pointwise [val_main_v6, val_main_v5, val_main_v4, val_main_v3, val_main_v1]

/-- The two results are one array. -/
theorem eq {c : Dev nD} {x0 : Vec Ideal S4096x1024 .bf16} {x1 : Vec Ideal S4096x1024 .bf16} (h : Args m c x0 x1) :
    Value.G2 m c = Cert.Reference5Ideal.Read.val_main_v6 (F := Ideal) x0 x1 := by
  funext i
  obtain ⟨j, p, q, rfl⟩ : ∃ (j : Fin 1) (p q : Fin 1024), i = ix3 j p q :=
    ⟨i 0, i 1, i 2, funext fun a => match a with | ⟨0, _⟩ => rfl | ⟨1, _⟩ => rfl | ⟨2, _⟩ => rfl⟩
  exact (kernel_at h j p q).trans ((Finset.sum_congr rfl fun l _ => mul_comm _ _).trans (reference_at x0 x1 j p q).symm)

/-- The kernel runs, leaves its arguments and every semaphore as they were. -/
theorem frame_kernel : Cert.quiescent_Kernel5 := fun m ρ _ => Cert.Kernel5.Gen.frame m ρ

/-- The same of the kernel read over the extended reals. -/
theorem frame_ideal : Cert.quiescent_Kernel5Ideal := fun m ρ _ => Cert.Kernel5Ideal.Gen.frame m ρ

/-- The reference runs and leaves its arguments as they were; it has no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Over the extended reals the kernel's result is the derivative. -/
theorem value : Cert.algebraic_Kernel5Ideal_Reference5Ideal := by
  intro m ρ m' ρ' _ hagree
  refine ⟨fun c => Value.G2 m c, Value.run (F := Ideal) m ρ, ?_⟩
  refine (θ_run Cert.Reference5Ideal.defs _ _).mono (fun _ h c => ?_) (Cert.Reference5Ideal.Value.run (F := Ideal) m' ρ')
  refine ⟨(h c).1.trans ((Cert.Reference5Ideal.Read.val_main_v6_eq _ _).trans (eq ⟨?_, ?_⟩).symm), (h c).2⟩
  · exact (hagree c).1.symm
  · exact (hagree c).2.symm

end Cert.Grad5

end
-- ==== Proof.GradBlock6.lean ====
/-
  The gradient of the input projection: what the kernel's body leaves at its two kinds of point.
-/
module

public import proofs.«01_k».proof.Proof.Gen.Kernel6Ideal.Value
public import Idealize.ShloMosaic.Lib.Pointwise
public import Idealize.ShloMosaic.Lib.Pipeline.ValueKit.Acc

@[expose] public section

noncomputable section

namespace Cert.Grad6

open Cert.Kernel6Ideal Cert.Kernel6Ideal.Gen Idealize.ShloMosaic Idealize.ShloMosaic.TcCoe

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first half of the rows: the accumulator starts again at their product. -/
theorem first_half (c : Dev nD) (i : grid0.Coords) (a2 : Memref sig .tc .vmem S2048x1024 .bf16) (h2 : a2.IsWhole)
    (a3 : Memref sig .tc .vmem S2048x768 .bf16) (h3 : a3.IsWhole) (a4 : Memref sig .tc .vmem S256x1024 .bf16) (h4 : a4.IsWhole)
    (a5 : Memref sig .tc .vmem S256x768 .bf16) (h5 : a5.IsWhole) (a6 : Memref sig .tc .vmem S1x1024x768 .f32) (h6 : a6.IsWhole)
    (a7 : Memref sig .tc .vmem S1024x768 .f32) (h7 : a7.IsWhole) (hc0 : cond0_0 i) (hc1 : ¬cond0_1 i)
    (x0 : Vec Ideal S2048x1024 .bf16)
    (x1 : Vec Ideal S2048x768 .bf16) (x2 : Vec Ideal S256x1024 .bf16) (x3 : Vec Ideal S256x768 .bf16) (p : Fin 1024) (q : Fin 768) :
    (sout0_A_0 c i a2 h2 a3 h3 a4 h4 a5 h5 a6 h6 a7 h7 hc0 hc1 x0 x1 x2 x3 : Vec Ideal S1024x768 .f32) (ix2 p q)
      = ∑ r : Fin 2048, x0 (ix2 r p) * x1 (ix2 r q) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero zeros2]
  simp only [View.readAt_eq_ld, h2.read_unread, h3.read_unread, View.ld_unit_zero (S := S2048x1024) zeros2,
    View.ld_unit_zero (S := S2048x768) zeros2, View.ld_unit_zero (S := S256x1024) zeros2, View.ld_unit_zero (S := S256x768) zeros2,
    View.ld_unit_zero (S := S1024x768) zeros2, View.readCov_unit_zero (S := S1024x768) _ zeros2]
  pointwise [k0_pay1, k0_pay2]

/-- The second half: its product and the context's are added, and the sum is the block written. -/
theorem second_half (c : Dev nD) (i : grid0.Coords) (a2 : Memref sig .tc .vmem S2048x1024 .bf16) (h2 : a2.IsWhole)
    (a3 : Memref sig .tc .vmem S2048x768 .bf16) (h3 : a3.IsWhole) (a4 : Memref sig .tc .vmem S256x1024 .bf16) (h4 : a4.IsWhole)
    (a5 : Memref sig .tc .vmem S256x768 .bf16) (h5 : a5.IsWhole) (a6 : Memref sig .tc .vmem S1x1024x768 .f32) (h6 : a6.IsWhole)
    (a7 : Memref sig .tc .vmem S1024x768 .f32) (h7 : a7.IsWhole) (hc0 : ¬cond0_0 i) (hc1 : cond0_1 i)
    (x0 : Vec Ideal S2048x1024 .bf16)
    (x1 : Vec Ideal S2048x768 .bf16) (x2 : Vec Ideal S256x1024 .bf16) (x3 : Vec Ideal S256x768 .bf16) (acc : Vec Ideal S1024x768 .f32) (p : Fin 1024) (q : Fin 768) :
    (out0_B_4 c i a2 h2 a3 h3 a4 h4 a5 h5 a6 h6 a7 h7 hc0 hc1 x0 x1 x2 x3 acc : Vec Ideal S1x1024x768 .f32) (ix3 0 p q)
      = acc (ix2 p q) + (∑ r : Fin 2048, x0 (ix2 r p) * x1 (ix2 r q)) + ∑ r : Fin 256, x2 (ix2 r p) * x3 (ix2 r q) := by
  frame_out
  pointwise [k0_pay2, k0_pay3, k0_pay4]

end Cert.Grad6

end
-- ==== Proof.GradValue6.lean ====
/-
  The gradient of the input projection, whole: the two halves of the sequence's rows together are the
  sum over all of them, the context's rows come once more, and the two sums are the derivative of the two projections.
-/
module

public import proofs.«01_k».proof.Defs
public import proofs.«01_k».proof.Proof.GradBlock6
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

noncomputable section

namespace Cert.Grad6

open Cert.Kernel6Ideal Cert.Kernel6Ideal.Gen Idealize.ShloMosaic Idealize.ShloMosaic.TcCoe Idealize.SL.Sem

/-- A sum over the 4096 rows, in two halves. -/
theorem sum_halves (f : Fin 4096 → EReal) :
    (∑ r : Fin 2048, f ⟨r.val, by omega⟩) + (∑ r : Fin 2048, f ⟨2048 + r.val, by omega⟩) = ∑ l : Fin 4096, f l :=
  (Fin.sum_univ_add (a := 2048) (b := 2048) f).symm

variable (m : (ℓ : Loc nD τ sig) → Buf (Elt Ideal) ℓ)

/-- The point of column block `j` and half `k` of the rows. -/
def pt (j : Fin 4) (k : Fin 2) : Fin cfg0.N := ⟨2 * j.val + k.val, lt_of_lt_of_eq (by omega) N_0.symm⟩

/-- The left operand's block at a point. -/
theorem left_at (c : Dev nD) (j : Fin 4) (k : Fin 2) (r : Fin 2048) (p : Fin 1024) (l : Fin 4096) (p' : Fin 1024)
    (hl : l.val = 2048 * k.val + r.val) (hp : p'.val = p.val) :
    (iblk m c 0 (pt j k) : Vec Ideal S2048x1024 .bf16) (ix2 r p) = (m ((c : Thread nD τ).loc main_arg0) : Vec Ideal S4096x1024 .bf16) (ix2 l p') := by
  refine Eq.trans ?_ (congrFun (V_main_arg0 m c) _)
  refine congrArg (V m c main_arg0) (funext fun a => Fin.ext ?_)
  have hi : ∀ (j : Fin 4) (k : Fin 2), win0_0.index (pt j k) 0 = k.val ∧ win0_0.index (pt j k) 1 = 0 := by decide +kernel
  obtain ⟨h0, h1⟩ := hi j k
  match a with
  | ⟨0, _⟩ => show win0_0.index (pt j k) 0 * 2048 + 1 * r.val = l.val; omega
  | ⟨1, _⟩ => show win0_0.index (pt j k) 1 * 1024 + 1 * p.val = p'.val; omega

/-- The right operand's block at a point. -/
theorem right_at (c : Dev nD) (j : Fin 4) (k : Fin 2) (r : Fin 2048) (q : Fin 768) (l : Fin 4096) (q' : Fin 3072)
    (hl : l.val = 2048 * k.val + r.val) (hq : q'.val = 768 * j.val + q.val) :
    (iblk m c 1 (pt j k) : Vec Ideal S2048x768 .bf16) (ix2 r q) = (m ((c : Thread nD τ).loc main_arg1) : Vec Ideal S4096x3072 .bf16) (ix2 l q') := by
  refine Eq.trans ?_ (congrFun (V_main_arg1 m c) _)
  refine congrArg (V m c main_arg1) (funext fun a => Fin.ext ?_)
  have hi : ∀ (j : Fin 4) (k : Fin 2), win0_1.index (pt j k) 0 = k.val ∧ win0_1.index (pt j k) 1 = j.val := by decide +kernel
  obtain ⟨h0, h1⟩ := hi j k
  match a with
  | ⟨0, _⟩ => show win0_1.index (pt j k) 0 * 2048 + 1 * r.val = l.val; omega
  | ⟨1, _⟩ => show win0_1.index (pt j k) 1 * 768 + 1 * q.val = q'.val; omega

/-- The context's left operand is one block at every point. -/
theorem context_left_at (c : Dev nD) (t : Fin cfg0.N) (r : Fin 256) (p : Fin 1024) :
    (iblk m c 2 t : Vec Ideal S256x1024 .bf16) (ix2 r p) = (m ((c : Thread nD τ).loc main_arg2) : Vec Ideal S256x1024 .bf16) (ix2 r p) := by
  refine Eq.trans ?_ (congrFun (V_main_arg2 m c) _)
  refine congrArg (V m c main_arg2) (funext fun a => Fin.ext ?_)
  have hi : ∀ t : Fin cfg0.N, win0_2.index t 0 = 0 ∧ win0_2.index t 1 = 0 := by decide +kernel
  obtain ⟨h0, h1⟩ := hi t
  match a with
  | ⟨0, _⟩ => show win0_2.index t 0 * 256 + 1 * r.val = r.val; omega
  | ⟨1, _⟩ => show win0_2.index t 1 * 1024 + 1 * p.val = p.val; omega

/-- The context's right operand's block at a point. -/
theorem context_right_at (c : Dev nD) (j : Fin 4) (k : Fin 2) (r : Fin 256) (q : Fin 768) (q' : Fin 3072) (hq : q'.val = 768 * j.val + q.val) :
    (iblk m c 3 (pt j k) : Vec Ideal S256x768 .bf16) (ix2 r q) = (m ((c : Thread nD τ).loc main_arg3) : Vec Ideal S256x3072 .bf16) (ix2 r q') := by
  refine Eq.trans ?_ (congrFun (V_main_arg3 m c) _)
  refine congrArg (V m c main_arg3) (funext fun a => Fin.ext ?_)
  have hi : ∀ (j : Fin 4) (k : Fin 2), win0_3.index (pt j k) 0 = 0 ∧ win0_3.index (pt j k) 1 = j.val := by decide +kernel
  obtain ⟨h0, h1⟩ := hi j k
  match a with
  | ⟨0, _⟩ => show win0_3.index (pt j k) 0 * 256 + 1 * r.val = r.val; omega
  | ⟨1, _⟩ => show win0_3.index (pt j k) 1 * 768 + 1 * q.val = q'.val; omega

/-- The arguments, named. -/
structure Args (c : Dev nD) (x0 : Vec Ideal S4096x1024 .bf16) (x1 : Vec Ideal S4096x3072 .bf16) (x2 : Vec Ideal S256x1024 .bf16) (x3 : Vec Ideal S256x3072 .bf16) : Prop where
  left : m ((c : Thread nD τ).loc main_arg0) = x0
  right : m ((c : Thread nD τ).loc main_arg1) = x1
  context_left : m ((c : Thread nD τ).loc main_arg2) = x2
  context_right : m ((c : Thread nD τ).loc main_arg3) = x3

variable {m}

/-- What the block of column block `j` holds once both its points have run. -/
theorem block_at {c : Dev nD} {x0 : Vec Ideal S4096x1024 .bf16} {x1 : Vec Ideal S4096x3072 .bf16} {x2 : Vec Ideal S256x1024 .bf16} {x3 : Vec Ideal S256x3072 .bf16} (h : Args m c x0 x1 x2 x3) (j : Fin 4) (p : Fin 1024) (q : Fin 768) :
    ((outsAt0 m c (pt j 1).val (pt j 1).isLt).1 : Vec Ideal S1x1024x768 .f32) (ix3 0 p q)
      = (∑ l : Fin 4096, x0 (ix2 l p) * x1 (ix2 l ⟨j.val * 768 + q.val, by omega⟩))
        + ∑ l : Fin 256, x2 (ix2 l p) * x3 (ix2 l ⟨j.val * 768 + q.val, by omega⟩) := by
  obtain ⟨rfl, rfl, rfl, rfl⟩ := h
  have e0 : (pt j 0).val % 2 = 0 := by show (2 * j.val + 0) % 2 = 0; omega
  have e1 : (pt j 1).val % 2 = 1 := by show (2 * j.val + 1) % 2 = 1; omega
  rw [outsAt0_B m c (pt j 1) (by omega) e1]
  have hp : outsAt0 m c ((pt j 1).val - 1) (Nat.lt_of_le_of_lt (Nat.sub_le _ _) (pt j 1).isLt) = outsAt0 m c (pt j 0).val (pt j 0).isLt := rfl
  rw [hp, outsAt0_A m c (pt j 0) e0 (by omega)]
  dsimp only
  refine (second_half ..).trans ?_
  refine congrArg₂ (fun a b : EReal => a + b) (Eq.trans (congrArg₂ (fun a b : EReal => a + b) ((first_half ..).trans ?_) ?_) (sum_halves _)) ?_ <;>
    refine Finset.sum_congr rfl fun r _ => congrArg₂ (fun a b : EReal => a * b) ?_ ?_
  · exact left_at m c j 0 r p _ _ (by show r.val = 2048 * 0 + r.val; omega) rfl
  · exact right_at m c j 0 r q _ _ (by show r.val = 2048 * 0 + r.val; omega) (by show j.val * 768 + q.val = 768 * j.val + q.val; omega)
  · exact left_at m c j 1 r p _ _ (by show 2048 + r.val = 2048 * 1 + r.val; omega) rfl
  · exact right_at m c j 1 r q _ _ (by show 2048 + r.val = 2048 * 1 + r.val; omega) (by show j.val * 768 + q.val = 768 * j.val + q.val; omega)
  · exact context_left_at m c _ r p
  · exact context_right_at m c j 1 r q _ (by show j.val * 768 + q.val = 768 * j.val + q.val; omega)

/-- The kernel's result at an index. -/
theorem kernel_at {c : Dev nD} {x0 : Vec Ideal S4096x1024 .bf16} {x1 : Vec Ideal S4096x3072 .bf16} {x2 : Vec Ideal S256x1024 .bf16} {x3 : Vec Ideal S256x3072 .bf16} (h : Args m c x0 x1 x2 x3) (j : Fin 4) (p : Fin 1024) (q : Fin 768) :
    (Value.G4 m c : Vec Ideal S4x1024x768 .f32) (ix3 j p q)
      = (∑ l : Fin 4096, x0 (ix2 l p) * x1 (ix2 l ⟨j.val * 768 + q.val, by omega⟩))
        + ∑ l : Fin 256, x2 (ix2 l p) * x3 (ix2 l ⟨j.val * 768 + q.val, by omega⟩) := by
  have hr : Value.pt4Of (ix3 j p q) = (pt j 1).val := by
    show 2 * (1 * (j.val / 1 - 0) + 1 * (p.val / 1024 - 0) + 1 * (q.val / 768 - 0)) + 1 = 2 * j.val + 1
    omega
  have hl : Value.loc4Of (ix3 j p q) = ix3 0 p q := by
    funext a; apply Fin.ext
    match a with
    | ⟨0, _⟩ => show j.val % 1 = 0; omega
    | ⟨1, _⟩ => show p.val % 1024 = p.val; omega
    | ⟨2, _⟩ => show q.val % 768 = q.val; omega
  refine Eq.trans ?_ (block_at h j p q)
  show Value.G4 m c (ix3 j p q) = _
  unfold Value.G4
  rw [dif_pos (by rw [hr]; exact (pt j 1).isLt), hl, Value.outsAt0_sweep,
    Value.fold0_congr m c _ _ _ (by have := (pt j 1).isLt; omega) hr]

/-- The reference's result at an index. -/
theorem reference_at (x0 : Vec Ideal S4096x1024 .bf16) (x1 : Vec Ideal S4096x3072 .bf16) (x2 : Vec Ideal S256x1024 .bf16) (x3 : Vec Ideal S256x3072 .bf16) (j : Fin 4) (p : Fin 1024) (q : Fin 768) :
    (Cert.Reference6Ideal.Read.val_main_v13 (F := Ideal) x0 x1 x2 x3 : Vec Ideal S4x1024x768 .f32) (ix3 j p q)
      = (∑ l : Fin 256, x3 (ix2 l ⟨j.val * 768 + q.val, by omega⟩) * x2 (ix2 l p))
        + ∑ l : Fin 4096, x1 (ix2 l ⟨j.val * 768 + q.val, by omega⟩) * x0 (ix2 l p) := by
  open Cert.Reference6Ideal.Read in
  pointwise [val_main_v13, val_main_v12, val_main_v11, val_main_v10, val_main_v9, val_main_v8, val_main_v7, val_main_v6, val_main_v5, val_main_v3,
    val_main_v1]

/-- The two results are one array. -/
theorem eq {c : Dev nD} {x0 : Vec Ideal S4096x1024 .bf16} {x1 : Vec Ideal S4096x3072 .bf16} {x2 : Vec Ideal S256x1024 .bf16} {x3 : Vec Ideal S256x3072 .bf16} (h : Args m c x0 x1 x2 x3) :
    Value.G4 m c = Cert.Reference6Ideal.Read.val_main_v13 (F := Ideal) x0 x1 x2 x3 := by
  funext i
  obtain ⟨j, p, q, rfl⟩ : ∃ (j : Fin 4) (p : Fin 1024) (q : Fin 768), i = ix3 j p q :=
    ⟨i 0, i 1, i 2, funext fun a => match a with | ⟨0, _⟩ => rfl | ⟨1, _⟩ => rfl | ⟨2, _⟩ => rfl⟩
  exact (kernel_at h j p q).trans (((congrArg₂ (fun a b : EReal => a + b) (Finset.sum_congr rfl fun l _ => mul_comm _ _)
    (Finset.sum_congr rfl fun l _ => mul_comm _ _)).trans (add_comm _ _)).trans (reference_at x0 x1 x2 x3 j p q).symm)

/-- The kernel runs, leaves its arguments and every semaphore as they were. -/
theorem frame_kernel : Cert.quiescent_Kernel6 := fun m ρ _ => Cert.Kernel6.Gen.frame m ρ

/-- The same of the kernel read over the extended reals. -/
theorem frame_ideal : Cert.quiescent_Kernel6Ideal := fun m ρ _ => Cert.Kernel6Ideal.Gen.frame m ρ

/-- The reference runs and leaves its arguments as they were; it has no semaphore. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Over the extended reals the kernel's result is the derivative. -/
theorem value : Cert.algebraic_Kernel6Ideal_Reference6Ideal := by
  intro m ρ m' ρ' _ hagree
  refine ⟨fun c => Value.G4 m c, Value.run (F := Ideal) m ρ, ?_⟩
  refine (θ_run Cert.Reference6Ideal.defs _ _).mono (fun _ h c => ?_) (Cert.Reference6Ideal.Value.run (F := Ideal) m' ρ')
  refine ⟨(h c).1.trans ((Cert.Reference6Ideal.Read.val_main_v13_eq _ _ _ _).trans (eq ⟨?_, ?_, ?_, ?_⟩).symm), (h c).2⟩
  · exact (hagree c).1.symm
  · exact (hagree c).2.1.symm
  · exact (hagree c).2.2.1.symm
  · exact (hagree c).2.2.2.symm

end Cert.Grad6

end
-- ==== Proof.lean ====
/-
  The certificate: every claim of the statement, each from its own module.
-/
module

public import proofs.«01_k».proof.Proof.CtxClaims
public import proofs.«01_k».proof.Proof.MlpValue
public import proofs.«01_k».proof.Proof.GradValue3
public import proofs.«01_k».proof.Proof.GradValue4
public import proofs.«01_k».proof.Proof.GradValue5
public import proofs.«01_k».proof.Proof.GradValue6

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Ctx.frame_kernel, Cert.Ctx.frame_ideal, Cert.Ctx.frame_reference,
    Cert.Mlp.frame_kernel, Cert.Mlp.frame_ideal, Cert.Mlp.frame_reference,
    Cert.Grad3.frame_kernel, Cert.Grad3.frame_ideal, Cert.Grad3.frame_reference,
    Cert.Grad4.frame_kernel, Cert.Grad4.frame_ideal, Cert.Grad4.frame_reference,
    Cert.Grad5.frame_kernel, Cert.Grad5.frame_ideal, Cert.Grad5.frame_reference,
    Cert.Grad6.frame_kernel, Cert.Grad6.frame_ideal, Cert.Grad6.frame_reference,
    trivial, Cert.Ctx.value, trivial, Cert.Mlp.value, trivial, Cert.Grad3.value, trivial, Cert.Grad4.value, trivial, Cert.Grad5.value, trivial, Cert.Grad6.value⟩

end Cert.Proof

end
